-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_and_sorted [hPre_finite_and_sorted : Cert.Pre_finite_and_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_finite_and_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_and_sorted [hPre_finite_and_sorted : Cert.Pre_finite_and_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_and_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_finite_and_sorted [hKernelIdeal : Cert.KernelIdeal.Facts] [hPre_finite_and_sorted : Cert.Pre_finite_and_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_and_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_finite_and_sorted [hReferenceIdeal : Cert.ReferenceIdeal.Facts] [hPre_finite_and_sorted : Cert.Pre_finite_and_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_and_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_finite_and_sorted [hKernelIdeal : Cert.KernelIdeal.Facts] [hReferenceIdeal : Cert.ReferenceIdeal.Facts] [hPre_finite_and_sorted : Cert.Pre_finite_and_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_and_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_and_sorted : Cert.Pre_finite_and_sorted.Facts),
    quiescent_Kernel (hKernel := hKernel)
    ∧ quiescent_KernelIdeal (hKernelIdeal := hKernelIdeal)
    ∧ quiescent_KernelIdeal_pre_finite_and_sorted (hKernelIdeal := hKernelIdeal) (hPre_finite_and_sorted := hPre_finite_and_sorted)
    ∧ quiescent_ReferenceIdeal (hReferenceIdeal := hReferenceIdeal)
    ∧ quiescent_ReferenceIdeal_pre_finite_and_sorted (hReferenceIdeal := hReferenceIdeal) (hPre_finite_and_sorted := hPre_finite_and_sorted)
    ∧ preserves_Kernel_KernelIdeal
    ∧ algebraic_KernelIdeal_ReferenceIdeal_pre_finite_and_sorted (hKernelIdeal := hKernelIdeal) (hReferenceIdeal := hReferenceIdeal) (hPre_finite_and_sorted := hPre_finite_and_sorted)
-- ==== Pre_finite_and_sorted.lean ====
abbrev S4x512x20x160 : Shape := ⟨4, ![4, 512, 20, 160]⟩
abbrev S4x512x20 : Shape := ⟨3, ![4, 512, 20]⟩
abbrev S4x512x20x128 : Shape := ⟨4, ![4, 512, 20, 128]⟩
abbrev S4x20x128x160 : Shape := ⟨4, ![4, 20, 128, 160]⟩
abbrev S4x512 : Shape := ⟨2, ![4, 512]⟩
abbrev S_ : Shape := ⟨0, ![]⟩
abbrev S4x511 : Shape := ⟨2, ![4, 511]⟩

class Facts : Prop where
  bcast_S_S4x512x20x160 : S_.BroadcastsInDim S4x512x20x160 (![] : Fin 0 → Fin S4x512x20x160.rank)
  reducesTo_S4x512x20x160_S_d0_1_2_3 : S4x512x20x160.ReducesTo [0, 1, 2, 3] S_
  h_S_ : 0 < S_.numel
  bcast_S_S4x512x20 : S_.BroadcastsInDim S4x512x20 (![] : Fin 0 → Fin S4x512x20.rank)
  reducesTo_S4x512x20_S_d0_1_2 : S4x512x20.ReducesTo [0, 1, 2] S_
  bcast_S_S4x512x20x128 : S_.BroadcastsInDim S4x512x20x128 (![] : Fin 0 → Fin S4x512x20x128.rank)
  reducesTo_S4x512x20x128_S_d0_1_2_3 : S4x512x20x128.ReducesTo [0, 1, 2, 3] S_
  bcast_S_S4x20x128x160 : S_.BroadcastsInDim S4x20x128x160 (![] : Fin 0 → Fin S4x20x128x160.rank)
  reducesTo_S4x20x128x160_S_d0_1_2_3 : S4x20x128x160.ReducesTo [0, 1, 2, 3] S_
  slices_S4x512_S4x511_0_0 : S4x512.Slices ![0, 0] S4x511
  slices_S4x512_S4x511_0_1 : S4x512.Slices ![0, 1] S4x511
  reducesTo_S4x511_S_d0_1 : S4x511.ReducesTo [0, 1] S_

variable [Facts]

def fn_part3 {F : FTy → Type} [FloatOps F] (main_v48 : IVec S_ 1) (main_v51 : IVec S4x511 1) : IVec S_ 1 :=
  let main_c_18 : IVec S_ 1 := constantI S_ 1 1#1
  let main_v52 : IVec S_ 1 := (fun x v => Host.reduce IntOp.andi x v reducesTo_S4x511_S_d0_1 h_S_) main_v51 main_c_18
  let main_v53 : IVec S_ 1 := andi main_v48 main_v52
  main_v53

def fn_part2 {F : FTy → Type} [FloatOps F] (main_arg7 : FVec F S4x512x20x160 .bf16) (main_arg8 : FVec F S4x512x20x160 .f32) (main_arg9 : FVec F S4x20x128x160 .f32) (main_arg10 : IVec S4x512 32) (main_v33 : IVec S_ 1) : IVec S_ 1 :=
  let main_v34 : FVec F S4x512x20x160 .bf16 := Host.absf main_arg7
  let main_cst_12 : FVec F S_ .bf16 := constant S_ .bf16 0x7F80#16
  let main_v35 : FVec F S4x512x20x160 .bf16 := broadcastInDim S4x512x20x160 ![] bcast_S_S4x512x20x160 main_cst_12
  let main_v36 : IVec S4x512x20x160 1 := cmpf .olt main_v34 main_v35
  let main_c_13 : IVec S_ 1 := constantI S_ 1 1#1
  let main_v37 : IVec S_ 1 := (fun x v => Host.reduce IntOp.andi x v reducesTo_S4x512x20x160_S_d0_1_2_3 h_S_) main_v36 main_c_13
  let main_v38 : IVec S_ 1 := andi main_v33 main_v37
  let main_v39 : FVec F S4x512x20x160 .f32 := Host.absf main_arg8
  let main_cst_14 : FVec F S_ .f32 := constant S_ .f32 0x7F800000#32
  let main_v40 : FVec F S4x512x20x160 .f32 := broadcastInDim S4x512x20x160 ![] bcast_S_S4x512x20x160 main_cst_14
  let main_v41 : IVec S4x512x20x160 1 := cmpf .olt main_v39 main_v40
  let main_c_15 : IVec S_ 1 := constantI S_ 1 1#1
  let main_v42 : IVec S_ 1 := (fun x v => Host.reduce IntOp.andi x v reducesTo_S4x512x20x160_S_d0_1_2_3 h_S_) main_v41 main_c_15
  let main_v43 : IVec S_ 1 := andi main_v38 main_v42
  let main_v44 : FVec F S4x20x128x160 .f32 := Host.absf main_arg9
  let main_cst_16 : FVec F S_ .f32 := constant S_ .f32 0x7F800000#32
  let main_v45 : FVec F S4x20x128x160 .f32 := broadcastInDim S4x20x128x160 ![] bcast_S_S4x20x128x160 main_cst_16
  let main_v46 : IVec S4x20x128x160 1 := cmpf .olt main_v44 main_v45
  let main_c_17 : IVec S_ 1 := constantI S_ 1 1#1
  let main_v47 : IVec S_ 1 := (fun x v => Host.reduce IntOp.andi x v reducesTo_S4x20x128x160_S_d0_1_2_3 h_S_) main_v46 main_c_17
  let main_v48 : IVec S_ 1 := andi main_v43 main_v47
  let main_v49 : IVec S4x511 32 := (extractStridedSlice S4x511 ![0, 0] · slices_S4x512_S4x511_0_0) main_arg10
  let main_v50 : IVec S4x511 32 := (extractStridedSlice S4x511 ![0, 1] · slices_S4x512_S4x511_0_1) main_arg10
  let main_v51 : IVec S4x511 1 := cmpi .sle main_v49 main_v50
  fn_part3 (F := F) main_v48 main_v51

def fn_part1 {F : FTy → Type} [FloatOps F] (main_arg4 : FVec F S4x512x20x128 .f32) (main_arg5 : FVec F S4x512x20 .f32) (main_arg6 : FVec F S4x512x20x160 .bf16) (main_arg7 : FVec F S4x512x20x160 .bf16) (main_arg8 : FVec F S4x512x20x160 .f32) (main_arg9 : FVec F S4x20x128x160 .f32) (main_arg10 : IVec S4x512 32) (main_v13 : IVec S_ 1) (main_v16 : IVec S4x512x20 1) : IVec S_ 1 :=
  let main_c_5 : IVec S_ 1 := constantI S_ 1 1#1
  let main_v17 : IVec S_ 1 := (fun x v => Host.reduce IntOp.andi x v reducesTo_S4x512x20_S_d0_1_2 h_S_) main_v16 main_c_5
  let main_v18 : IVec S_ 1 := andi main_v13 main_v17
  let main_v19 : FVec F S4x512x20x128 .f32 := Host.absf main_arg4
  let main_cst_6 : FVec F S_ .f32 := constant S_ .f32 0x7F800000#32
  let main_v20 : FVec F S4x512x20x128 .f32 := broadcastInDim S4x512x20x128 ![] bcast_S_S4x512x20x128 main_cst_6
  let main_v21 : IVec S4x512x20x128 1 := cmpf .olt main_v19 main_v20
  let main_c_7 : IVec S_ 1 := constantI S_ 1 1#1
  let main_v22 : IVec S_ 1 := (fun x v => Host.reduce IntOp.andi x v reducesTo_S4x512x20x128_S_d0_1_2_3 h_S_) main_v21 main_c_7
  let main_v23 : IVec S_ 1 := andi main_v18 main_v22
  let main_v24 : FVec F S4x512x20 .f32 := Host.absf main_arg5
  let main_cst_8 : FVec F S_ .f32 := constant S_ .f32 0x7F800000#32
  let main_v25 : FVec F S4x512x20 .f32 := broadcastInDim S4x512x20 ![] bcast_S_S4x512x20 main_cst_8
  let main_v26 : IVec S4x512x20 1 := cmpf .olt main_v24 main_v25
  let main_c_9 : IVec S_ 1 := constantI S_ 1 1#1
  let main_v27 : IVec S_ 1 := (fun x v => Host.reduce IntOp.andi x v reducesTo_S4x512x20_S_d0_1_2 h_S_) main_v26 main_c_9
  let main_v28 : IVec S_ 1 := andi main_v23 main_v27
  let main_v29 : FVec F S4x512x20x160 .bf16 := Host.absf main_arg6
  let main_cst_10 : FVec F S_ .bf16 := constant S_ .bf16 0x7F80#16
  let main_v30 : FVec F S4x512x20x160 .bf16 := broadcastInDim S4x512x20x160 ![] bcast_S_S4x512x20x160 main_cst_10
  let main_v31 : IVec S4x512x20x160 1 := cmpf .olt main_v29 main_v30
  let main_c_11 : IVec S_ 1 := constantI S_ 1 1#1
  let main_v32 : IVec S_ 1 := (fun x v => Host.reduce IntOp.andi x v reducesTo_S4x512x20x160_S_d0_1_2_3 h_S_) main_v31 main_c_11
  let main_v33 : IVec S_ 1 := andi main_v28 main_v32
  fn_part2 (F := F) main_arg7 main_arg8 main_arg9 main_arg10 main_v33

def fn {F : FTy → Type} [FloatOps F] (main_arg0 : FVec F S4x512x20x160 .f32) (main_arg1 : FVec F S4x512x20 .f32) (main_arg2 : FVec F S4x512x20x160 .f32) (main_arg3 : FVec F S4x512x20 .f32) (main_arg4 : FVec F S4x512x20x128 .f32) (main_arg5 : FVec F S4x512x20 .f32) (main_arg6 : FVec F S4x512x20x160 .bf16) (main_arg7 : FVec F S4x512x20x160 .bf16) (main_arg8 : FVec F S4x512x20x160 .f32) (main_arg9 : FVec F S4x20x128x160 .f32) (main_arg10 : IVec S4x512 32) : IVec S_ 1 :=
  let main_v0 : FVec F S4x512x20x160 .f32 := Host.absf main_arg0
  let main_cst : FVec F S_ .f32 := constant S_ .f32 0x7F800000#32
  let main_v1 : FVec F S4x512x20x160 .f32 := broadcastInDim S4x512x20x160 ![] bcast_S_S4x512x20x160 main_cst
  let main_v2 : IVec S4x512x20x160 1 := cmpf .olt main_v0 main_v1
  let main_c : IVec S_ 1 := constantI S_ 1 1#1
  let main_v3 : IVec S_ 1 := (fun x v => Host.reduce IntOp.andi x v reducesTo_S4x512x20x160_S_d0_1_2_3 h_S_) main_v2 main_c
  let main_v4 : FVec F S4x512x20 .f32 := Host.absf main_arg1
  let main_cst_0 : FVec F S_ .f32 := constant S_ .f32 0x7F800000#32
  let main_v5 : FVec F S4x512x20 .f32 := broadcastInDim S4x512x20 ![] bcast_S_S4x512x20 main_cst_0
  let main_v6 : IVec S4x512x20 1 := cmpf .olt main_v4 main_v5
  let main_c_1 : IVec S_ 1 := constantI S_ 1 1#1
  let main_v7 : IVec S_ 1 := (fun x v => Host.reduce IntOp.andi x v reducesTo_S4x512x20_S_d0_1_2 h_S_) main_v6 main_c_1
  let main_v8 : IVec S_ 1 := andi main_v3 main_v7
  let main_v9 : FVec F S4x512x20x160 .f32 := Host.absf main_arg2
  let main_cst_2 : FVec F S_ .f32 := constant S_ .f32 0x7F800000#32
  let main_v10 : FVec F S4x512x20x160 .f32 := broadcastInDim S4x512x20x160 ![] bcast_S_S4x512x20x160 main_cst_2
  let main_v11 : IVec S4x512x20x160 1 := cmpf .olt main_v9 main_v10
  let main_c_3 : IVec S_ 1 := constantI S_ 1 1#1
  let main_v12 : IVec S_ 1 := (fun x v => Host.reduce IntOp.andi x v reducesTo_S4x512x20x160_S_d0_1_2_3 h_S_) main_v11 main_c_3
  let main_v13 : IVec S_ 1 := andi main_v8 main_v12
  let main_v14 : FVec F S4x512x20 .f32 := Host.absf main_arg3
  let main_cst_4 : FVec F S_ .f32 := constant S_ .f32 0x7F800000#32
  let main_v15 : FVec F S4x512x20 .f32 := broadcastInDim S4x512x20 ![] bcast_S_S4x512x20 main_cst_4
  let main_v16 : IVec S4x512x20 1 := cmpf .olt main_v14 main_v15
  fn_part1 (F := F) main_arg4 main_arg5 main_arg6 main_arg7 main_arg8 main_arg9 main_arg10 main_v13 main_v16
-- ==== Kernel.lean ====
abbrev S4x512x20x160 : Shape := ⟨4, ![4, 512, 20, 160]⟩
abbrev S4x512x20 : Shape := ⟨3, ![4, 512, 20]⟩
abbrev S4x512x20x128 : Shape := ⟨4, ![4, 512, 20, 128]⟩
abbrev S4x20x128x160 : Shape := ⟨4, ![4, 20, 128, 160]⟩
abbrev S4x512 : Shape := ⟨2, ![4, 512]⟩
abbrev S4x20x160x512 : Shape := ⟨4, ![4, 20, 160, 512]⟩
abbrev S20x4x512 : Shape := ⟨3, ![20, 4, 512]⟩
abbrev S4x20x512x128 : Shape := ⟨4, ![4, 20, 512, 128]⟩
abbrev S4x20x160x128 : Shape := ⟨4, ![4, 20, 160, 128]⟩
abbrev S4x512x2560 : Shape := ⟨3, ![4, 512, 2560]⟩
abbrev S1x4x160x512 : Shape := ⟨4, ![1, 4, 160, 512]⟩
abbrev S4x4x512 : Shape := ⟨3, ![4, 4, 512]⟩
abbrev S1x4x512x128 : Shape := ⟨4, ![1, 4, 512, 128]⟩
abbrev S1x4x160x128 : Shape := ⟨4, ![1, 4, 160, 128]⟩
abbrev S1x512x512 : Shape := ⟨3, ![1, 512, 512]⟩
abbrev S4x160x128 : Shape := ⟨3, ![4, 160, 128]⟩
abbrev S128x128 : Shape := ⟨2, ![128, 128]⟩
abbrev S4x128 : Shape := ⟨2, ![4, 128]⟩
abbrev S128 : Shape := ⟨1, ![128]⟩
abbrev S1x128 : Shape := ⟨2, ![1, 128]⟩
abbrev S1x1 : Shape := ⟨2, ![1, 1]⟩
abbrev S64x128 : Shape := ⟨2, ![64, 128]⟩
abbrev S1x1x160x128 : Shape := ⟨4, ![1, 1, 160, 128]⟩
abbrev S160x128 : Shape := ⟨2, ![160, 128]⟩
abbrev S480x128 : Shape := ⟨2, ![480, 128]⟩
abbrev S1x4x128 : Shape := ⟨3, ![1, 4, 128]⟩
abbrev S32x128 : Shape := ⟨2, ![32, 128]⟩
abbrev S128x512 : Shape := ⟨2, ![128, 512]⟩
abbrev S64x512 : Shape := ⟨2, ![64, 512]⟩
abbrev S512x128 : Shape := ⟨2, ![512, 128]⟩
abbrev S512x256 : Shape := ⟨2, ![512, 256]⟩
abbrev S128x256 : Shape := ⟨2, ![128, 256]⟩
abbrev S64x64 : Shape := ⟨2, ![64, 64]⟩
abbrev S64x256 : Shape := ⟨2, ![64, 256]⟩
abbrev S256x64 : Shape := ⟨2, ![256, 64]⟩
abbrev S256x128 : Shape := ⟨2, ![256, 128]⟩
abbrev S1x1x64x128 : Shape := ⟨4, ![1, 1, 64, 128]⟩
abbrev S128x64 : Shape := ⟨2, ![128, 64]⟩
abbrev S128x192 : Shape := ⟨2, ![128, 192]⟩
abbrev S192x128 : Shape := ⟨2, ![192, 128]⟩
abbrev S1x160x128 : Shape := ⟨3, ![1, 160, 128]⟩
abbrev S256x256 : Shape := ⟨2, ![256, 256]⟩
abbrev S1x64x128 : Shape := ⟨3, ![1, 64, 128]⟩
abbrev S160x256 : Shape := ⟨2, ![160, 256]⟩
abbrev S160x1 : Shape := ⟨2, ![160, 1]⟩

abbrev nBuf : Space → Nat
  | .hbm => 26
  | .vmem => 26
  | .smem => 1
  | _ => 0

abbrev bufTy : (tb : Table) → Fin (tcTables nBuf tb) → BufTy
  | .hbm, ⟨0, _⟩ => ⟨S4x512x20x160, .f32⟩
  | .hbm, ⟨1, _⟩ => ⟨S4x512x20, .f32⟩
  | .hbm, ⟨2, _⟩ => ⟨S4x512x20x160, .f32⟩
  | .hbm, ⟨3, _⟩ => ⟨S4x512x20, .f32⟩
  | .hbm, ⟨4, _⟩ => ⟨S4x512x20x128, .f32⟩
  | .hbm, ⟨5, _⟩ => ⟨S4x512x20, .f32⟩
  | .hbm, ⟨6, _⟩ => ⟨S4x512x20x160, .bf16⟩
  | .hbm, ⟨7, _⟩ => ⟨S4x512x20x160, .bf16⟩
  | .hbm, ⟨8, _⟩ => ⟨S4x512x20x160, .f32⟩
  | .hbm, ⟨9, _⟩ => ⟨S4x20x128x160, .f32⟩
  | .hbm, ⟨10, _⟩ => ⟨S4x512, .i32⟩
  | .hbm, ⟨11, _⟩ => ⟨S4x512x20x160, .fp8e4m3⟩
  | .hbm, ⟨12, _⟩ => ⟨S4x512x20x160, .fp8e4m3⟩
  | .hbm, ⟨13, _⟩ => ⟨S4x512x20x128, .fp8e4m3⟩
  | .hbm, ⟨14, _⟩ => ⟨S4x20x160x512, .fp8e4m3⟩
  | .hbm, ⟨15, _⟩ => ⟨S20x4x512, .f32⟩
  | .hbm, ⟨16, _⟩ => ⟨S4x20x160x512, .fp8e4m3⟩
  | .hbm, ⟨17, _⟩ => ⟨S20x4x512, .f32⟩
  | .hbm, ⟨18, _⟩ => ⟨S4x20x512x128, .fp8e4m3⟩
  | .hbm, ⟨19, _⟩ => ⟨S20x4x512, .f32⟩
  | .hbm, ⟨20, _⟩ => ⟨S4x20x160x512, .bf16⟩
  | .hbm, ⟨21, _⟩ => ⟨S4x20x160x512, .bf16⟩
  | .hbm, ⟨22, _⟩ => ⟨S4x20x160x512, .f32⟩
  | .hbm, ⟨23, _⟩ => ⟨S4x20x160x128, .f32⟩
  | .hbm, ⟨24, _⟩ => ⟨S4x512x2560, .bf16⟩
  | .hbm, ⟨25, _⟩ => ⟨S4x20x160x128, .f32⟩
  | .local _ .vmem, ⟨0, _⟩ => ⟨S1x4x160x512, .fp8e4m3⟩
  | .local _ .vmem, ⟨1, _⟩ => ⟨S1x4x160x512, .fp8e4m3⟩
  | .local _ .vmem, ⟨2, _⟩ => ⟨S4x4x512, .f32⟩
  | .local _ .vmem, ⟨3, _⟩ => ⟨S4x4x512, .f32⟩
  | .local _ .vmem, ⟨4, _⟩ => ⟨S1x4x160x512, .fp8e4m3⟩
  | .local _ .vmem, ⟨5, _⟩ => ⟨S1x4x160x512, .fp8e4m3⟩
  | .local _ .vmem, ⟨6, _⟩ => ⟨S4x4x512, .f32⟩
  | .local _ .vmem, ⟨7, _⟩ => ⟨S4x4x512, .f32⟩
  | .local _ .vmem, ⟨8, _⟩ => ⟨S1x4x512x128, .fp8e4m3⟩
  | .local _ .vmem, ⟨9, _⟩ => ⟨S1x4x512x128, .fp8e4m3⟩
  | .local _ .vmem, ⟨10, _⟩ => ⟨S4x4x512, .f32⟩
  | .local _ .vmem, ⟨11, _⟩ => ⟨S4x4x512, .f32⟩
  | .local _ .vmem, ⟨12, _⟩ => ⟨S1x4x160x512, .bf16⟩
  | .local _ .vmem, ⟨13, _⟩ => ⟨S1x4x160x512, .bf16⟩
  | .local _ .vmem, ⟨14, _⟩ => ⟨S1x4x160x512, .bf16⟩
  | .local _ .vmem, ⟨15, _⟩ => ⟨S1x4x160x512, .bf16⟩
  | .local _ .vmem, ⟨16, _⟩ => ⟨S1x4x160x512, .f32⟩
  | .local _ .vmem, ⟨17, _⟩ => ⟨S1x4x160x512, .f32⟩
  | .local _ .vmem, ⟨18, _⟩ => ⟨S1x4x160x128, .f32⟩
  | .local _ .vmem, ⟨19, _⟩ => ⟨S1x4x160x128, .f32⟩
  | .local _ .vmem, ⟨20, _⟩ => ⟨S4x512, .i32⟩
  | .local _ .vmem, ⟨21, _⟩ => ⟨S1x512x512, .bf16⟩
  | .local _ .vmem, ⟨22, _⟩ => ⟨S1x512x512, .bf16⟩
  | .local _ .vmem, ⟨23, _⟩ => ⟨S1x4x160x128, .f32⟩
  | .local _ .vmem, ⟨24, _⟩ => ⟨S1x4x160x128, .f32⟩
  | .local _ .vmem, ⟨25, _⟩ => ⟨S4x160x128, .f32⟩
  | .local _ .smem, ⟨0, _⟩ => ⟨S4x512, .i32⟩
  | _, _ => ⟨S4x512x20x160, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .smem, ⟨0, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13_0 : Ref sig .tc := ⟨.hbm, 24, rfl⟩
abbrev main_v13_1 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_scratch0 : Ref sig .tc := ⟨.vmem, 25, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![4, 5], ![false, false]⟩

@[reducible] def k0_t1_loop : Scf.Loop 32 :=
  let c0_i32_22 : BitVec 32 := 0#32
  let c4_i32 : BitVec 32 := 4#32
  let v77 : BitVec 32 := Scalar.addi c0_i32_22 c4_i32
  let c1_i32_23 : BitVec 32 := 1#32
  ⟨c0_i32_22, v77, c1_i32_23⟩
def k0_mult1 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  v84
def k0_off1 (k0_t1 : Fin k0_t1_loop.trips) : Fin 2 → Nat :=
  let c0_34 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v86 : Index := Scalar.indexCast v85
  ![0, v86.toNat]
def k0_off2 (i : grid0.Coords) (k0_t1 : Fin k0_t1_loop.trips) (c0_i32_38 : BitVec 32) : Fin 2 → Nat :=
  let arg0 : BitVec 32 := BitVec.ofNat 32 (i 0).val
  let v100 : Index := Scalar.indexCast arg0
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v97 : BitVec 32 := Scalar.addi v85 c0_i32_38
  let c1_i32_39 : BitVec 32 := 1#32
  let v98 : BitVec 32 := Scalar.subi v97 c1_i32_39
  let c0_i32_40 : BitVec 32 := 0#32
  let v99 : BitVec 32 := Scalar.maxsi v98 c0_i32_40
  let v101 : Index := Scalar.indexCast v99
  ![v100.toNat, v101.toNat]
def k0_off3 (i : grid0.Coords) (k0_t1 : Fin k0_t1_loop.trips) (c0_i32_38 : BitVec 32) : Fin 2 → Nat :=
  let arg0 : BitVec 32 := BitVec.ofNat 32 (i 0).val
  let v105 : Index := Scalar.indexCast arg0
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v97 : BitVec 32 := Scalar.addi v85 c0_i32_38
  let c64_i32_41 : BitVec 32 := 64#32
  let v103 : BitVec 32 := Scalar.addi v97 c64_i32_41
  let c1_i32_42 : BitVec 32 := 1#32
  let v104 : BitVec 32 := Scalar.subi v103 c1_i32_42
  let v106 : Index := Scalar.indexCast v104
  ![v105.toNat, v106.toNat]
def k0_off4 (k0_t1 : Fin k0_t1_loop.trips) : Fin 4 → Nat :=
  let c0_56 : Index := 0#32
  let c0_57 : Index := 0#32
  let c0_58 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v145 : Index := Scalar.indexCast v85
  ![0, 0, 0, v145.toNat]
def k0_off5 (k0_t1 : Fin k0_t1_loop.trips) : Fin 3 → Nat :=
  let c0_64 : Index := 0#32
  let c0_65 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v171 : Index := Scalar.indexCast v85
  ![0, 0, v171.toNat]
def k0_mult2 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_136 : BitVec 32 := 0#32
  let v600 : BitVec 32 := Scalar.addi v85 c0_i32_136
  v600
def k0_off6 (k0_t1 : Fin k0_t1_loop.trips) (c0_i32_136 : BitVec 32) : Fin 4 → Nat :=
  let c0_137 : Index := 0#32
  let c0_138 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v600 : BitVec 32 := Scalar.addi v85 c0_i32_136
  let v601 : BitVec 32 := v600
  let v602 : Index := Scalar.indexCast v601
  let c0_139 : Index := 0#32
  ![0, 0, v602.toNat, 0]
def k0_mult3 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_151 : BitVec 32 := 0#32
  let v696 : BitVec 32 := Scalar.addi v85 c0_i32_151
  v696
def k0_off7 (k0_t1 : Fin k0_t1_loop.trips) (c0_i32_151 : BitVec 32) : Fin 3 → Nat :=
  let c0_152 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v696 : BitVec 32 := Scalar.addi v85 c0_i32_151
  let v697 : BitVec 32 := v696
  let v698 : Index := Scalar.indexCast v697
  let c0_153 : Index := 0#32
  ![0, v698.toNat, 0]
def k0_mult4 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_214 : BitVec 32 := 64#32
  let v1077 : BitVec 32 := Scalar.addi v85 c64_i32_214
  v1077
def k0_mult5 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_229 : BitVec 32 := 64#32
  let v1173 : BitVec 32 := Scalar.addi v85 c64_i32_229
  v1173
def k0_off8 (k0_t1 : Fin k0_t1_loop.trips) : Fin 4 → Nat :=
  let c0_238 : Index := 0#32
  let c1 : Index := 1#32
  let c0_239 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v1209 : Index := Scalar.indexCast v85
  ![0, 1, 0, v1209.toNat]
def k0_off9 (k0_t1 : Fin k0_t1_loop.trips) : Fin 3 → Nat :=
  let c1_245 : Index := 1#32
  let c0_246 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v1235 : Index := Scalar.indexCast v85
  ![1, 0, v1235.toNat]
def k0_mult6 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_321 : BitVec 32 := 0#32
  let v1664 : BitVec 32 := Scalar.addi v85 c0_i32_321
  v1664
def k0_off10 (k0_t1 : Fin k0_t1_loop.trips) (c0_i32_321 : BitVec 32) : Fin 4 → Nat :=
  let c0_322 : Index := 0#32
  let c1_323 : Index := 1#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v1664 : BitVec 32 := Scalar.addi v85 c0_i32_321
  let v1665 : BitVec 32 := v1664
  let v1666 : Index := Scalar.indexCast v1665
  let c0_324 : Index := 0#32
  ![0, 1, v1666.toNat, 0]
def k0_mult7 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_336 : BitVec 32 := 0#32
  let v1760 : BitVec 32 := Scalar.addi v85 c0_i32_336
  v1760
def k0_off11 (k0_t1 : Fin k0_t1_loop.trips) (c0_i32_336 : BitVec 32) : Fin 3 → Nat :=
  let c0_337 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v1760 : BitVec 32 := Scalar.addi v85 c0_i32_336
  let v1761 : BitVec 32 := v1760
  let v1762 : Index := Scalar.indexCast v1761
  let c128 : Index := 128#32
  ![0, v1762.toNat, 128]
def k0_mult8 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_398 : BitVec 32 := 64#32
  let v2141 : BitVec 32 := Scalar.addi v85 c64_i32_398
  v2141
def k0_mult9 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_413 : BitVec 32 := 64#32
  let v2237 : BitVec 32 := Scalar.addi v85 c64_i32_413
  v2237
def k0_off12 (k0_t1 : Fin k0_t1_loop.trips) : Fin 4 → Nat :=
  let c0_422 : Index := 0#32
  let c2 : Index := 2#32
  let c0_423 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v2273 : Index := Scalar.indexCast v85
  ![0, 2, 0, v2273.toNat]
def k0_off13 (k0_t1 : Fin k0_t1_loop.trips) : Fin 3 → Nat :=
  let c2_429 : Index := 2#32
  let c0_430 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v2299 : Index := Scalar.indexCast v85
  ![2, 0, v2299.toNat]
def k0_mult10 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_505 : BitVec 32 := 0#32
  let v2728 : BitVec 32 := Scalar.addi v85 c0_i32_505
  v2728
def k0_off14 (k0_t1 : Fin k0_t1_loop.trips) (c0_i32_505 : BitVec 32) : Fin 4 → Nat :=
  let c0_506 : Index := 0#32
  let c2_507 : Index := 2#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v2728 : BitVec 32 := Scalar.addi v85 c0_i32_505
  let v2729 : BitVec 32 := v2728
  let v2730 : Index := Scalar.indexCast v2729
  let c0_508 : Index := 0#32
  ![0, 2, v2730.toNat, 0]
def k0_mult11 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_520 : BitVec 32 := 0#32
  let v2824 : BitVec 32 := Scalar.addi v85 c0_i32_520
  v2824
def k0_off15 (k0_t1 : Fin k0_t1_loop.trips) (c0_i32_520 : BitVec 32) : Fin 3 → Nat :=
  let c0_521 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v2824 : BitVec 32 := Scalar.addi v85 c0_i32_520
  let v2825 : BitVec 32 := v2824
  let v2826 : Index := Scalar.indexCast v2825
  let c256 : Index := 256#32
  ![0, v2826.toNat, 256]
def k0_mult12 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_582 : BitVec 32 := 64#32
  let v3205 : BitVec 32 := Scalar.addi v85 c64_i32_582
  v3205
def k0_mult13 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_597 : BitVec 32 := 64#32
  let v3301 : BitVec 32 := Scalar.addi v85 c64_i32_597
  v3301
def k0_off16 (k0_t1 : Fin k0_t1_loop.trips) : Fin 4 → Nat :=
  let c0_606 : Index := 0#32
  let c3 : Index := 3#32
  let c0_607 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v3337 : Index := Scalar.indexCast v85
  ![0, 3, 0, v3337.toNat]
def k0_off17 (k0_t1 : Fin k0_t1_loop.trips) : Fin 3 → Nat :=
  let c3_613 : Index := 3#32
  let c0_614 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v3363 : Index := Scalar.indexCast v85
  ![3, 0, v3363.toNat]
def k0_mult14 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_689 : BitVec 32 := 0#32
  let v3792 : BitVec 32 := Scalar.addi v85 c0_i32_689
  v3792
def k0_off18 (k0_t1 : Fin k0_t1_loop.trips) (c0_i32_689 : BitVec 32) : Fin 4 → Nat :=
  let c0_690 : Index := 0#32
  let c3_691 : Index := 3#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v3792 : BitVec 32 := Scalar.addi v85 c0_i32_689
  let v3793 : BitVec 32 := v3792
  let v3794 : Index := Scalar.indexCast v3793
  let c0_692 : Index := 0#32
  ![0, 3, v3794.toNat, 0]
def k0_mult15 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c0_i32_704 : BitVec 32 := 0#32
  let v3888 : BitVec 32 := Scalar.addi v85 c0_i32_704
  v3888
def k0_off19 (k0_t1 : Fin k0_t1_loop.trips) (c0_i32_704 : BitVec 32) : Fin 3 → Nat :=
  let c0_705 : Index := 0#32
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let v3888 : BitVec 32 := Scalar.addi v85 c0_i32_704
  let v3889 : BitVec 32 := v3888
  let v3890 : Index := Scalar.indexCast v3889
  let c384 : Index := 384#32
  ![0, v3890.toNat, 384]
def k0_mult16 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_766 : BitVec 32 := 64#32
  let v4269 : BitVec 32 := Scalar.addi v85 c64_i32_766
  v4269
def k0_mult17 (k0_t1 : Fin k0_t1_loop.trips) : BitVec 32 :=
  let c0_i32_33 : BitVec 32 := 0#32
  let c0_i32_22 : BitVec 32 := 0#32
  let c1_i32_23 : BitVec 32 := 1#32
  let arg17 : BitVec 32 := Scf.iv c0_i32_22 c1_i32_23 k0_t1
  let c1_i32_32 : BitVec 32 := 1#32
  let v82 : BitVec 32 := Scalar.muli arg17 c1_i32_32
  let v83 : BitVec 32 := Scalar.addi c0_i32_33 v82
  let c128_i32 : BitVec 32 := 128#32
  let v84 : BitVec 32 := Scalar.muli v83 c128_i32
  let v85 : BitVec 32 := v84
  let c64_i32_781 : BitVec 32 := 64#32
  let v4365 : BitVec 32 := Scalar.addi v85 c64_i32_781
  v4365
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_13 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 1 → Memref sig .tc .smem S4x512 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4x160x512 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x4x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x4x160x512 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S4x4x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S4x4x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x4x160x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x160x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x160x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x4x160x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 1 → Memref sig .tc .vmem S4x512 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x160x128 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== ReferenceIdeal.lean ====
abbrev S4x512x20x160 : Shape := ⟨4, ![4, 512, 20, 160]⟩
abbrev S4x512x20 : Shape := ⟨3, ![4, 512, 20]⟩
abbrev S4x512x20x128 : Shape := ⟨4, ![4, 512, 20, 128]⟩
abbrev S4x20x128x160 : Shape := ⟨4, ![4, 20, 128, 160]⟩
abbrev S4x512 : Shape := ⟨2, ![4, 512]⟩
abbrev S4x512x20x1 : Shape := ⟨4, ![4, 512, 20, 1]⟩
abbrev S4x1 : Shape := ⟨2, ![4, 1]⟩
abbrev S4x511 : Shape := ⟨2, ![4, 511]⟩
abbrev S512x4x20x160 : Shape := ⟨4, ![512, 4, 20, 160]⟩
abbrev S512x4x20x128 : Shape := ⟨4, ![512, 4, 20, 128]⟩
abbrev S512x4 : Shape := ⟨2, ![512, 4]⟩
abbrev S_ : Shape := ⟨0, ![]⟩
abbrev S1x4x20x160 : Shape := ⟨4, ![1, 4, 20, 160]⟩
abbrev S4x20x160 : Shape := ⟨3, ![4, 20, 160]⟩
abbrev S1x4x20x128 : Shape := ⟨4, ![1, 4, 20, 128]⟩
abbrev S4x20x128 : Shape := ⟨3, ![4, 20, 128]⟩
abbrev S1x4 : Shape := ⟨2, ![1, 4]⟩
abbrev S4 : Shape := ⟨1, ![4]⟩
abbrev S4x1x1x1 : Shape := ⟨4, ![4, 1, 1, 1]⟩
abbrev S4x20x1x160 : Shape := ⟨4, ![4, 20, 1, 160]⟩
abbrev S4x20x128x1 : Shape := ⟨4, ![4, 20, 128, 1]⟩
abbrev S4x512x2560 : Shape := ⟨3, ![4, 512, 2560]⟩
abbrev S4x20x160x128 : Shape := ⟨4, ![4, 20, 160, 128]⟩

abbrev nBuf : Space → Nat
  | .hbm => 124
  | .vmem => 0
  | .smem => 0
  | _ => 0

abbrev bufTy : (tb : Table) → Fin (tcTables nBuf tb) → BufTy
  | .hbm, ⟨0, _⟩ => ⟨S4x512x20x160, .f32⟩
  | .hbm, ⟨1, _⟩ => ⟨S4x512x20, .f32⟩
  | .hbm, ⟨2, _⟩ => ⟨S4x512x20x160, .f32⟩
  | .hbm, ⟨3, _⟩ => ⟨S4x512x20, .f32⟩
  | .hbm, ⟨4, _⟩ => ⟨S4x512x20x128, .f32⟩
  | .hbm, ⟨5, _⟩ => ⟨S4x512x20, .f32⟩
  | .hbm, ⟨6, _⟩ => ⟨S4x512x20x160, .bf16⟩
  | .hbm, ⟨7, _⟩ => ⟨S4x512x20x160, .bf16⟩
  | .hbm, ⟨8, _⟩ => ⟨S4x512x20x160, .f32⟩
  | .hbm, ⟨9, _⟩ => ⟨S4x20x128x160, .f32⟩
  | .hbm, ⟨10, _⟩ => ⟨S4x512, .i32⟩
  | .hbm, ⟨11, _⟩ => ⟨S4x512x20x1, .f32⟩
  | .hbm, ⟨12, _⟩ => ⟨S4x512x20x160, .f32⟩
  | .hbm, ⟨13, _⟩ => ⟨S4x512x20x160, .f32⟩
  | .hbm, ⟨14, _⟩ => ⟨S4x512x20x1, .f32⟩
  | .hbm, ⟨15, _⟩ => ⟨S4x512x20x160, .f32⟩
  | .hbm, ⟨16, _⟩ => ⟨S4x512x20x160, .f32⟩
  | .hbm, ⟨17, _⟩ => ⟨S4x512x20x1, .f32⟩
  | .hbm, ⟨18, _⟩ => ⟨S4x512x20x128, .f32⟩
  | .hbm, ⟨19, _⟩ => ⟨S4x512x20x128, .f32⟩
  | .hbm, ⟨20, _⟩ => ⟨S4x512x20x160, .f32⟩
  | .hbm, ⟨21, _⟩ => ⟨S4x1, .i32⟩
  | .hbm, ⟨22, _⟩ => ⟨S4x511, .i32⟩
  | .hbm, ⟨23, _⟩ => ⟨S4x512, .i32⟩
  | .hbm, ⟨24, _⟩ => ⟨S4x512x20x160, .f32⟩
  | .hbm, ⟨25, _⟩ => ⟨S4x512x20x160, .f32⟩
  | .hbm, ⟨26, _⟩ => ⟨S4x512, .i1⟩
  | .hbm, ⟨27, _⟩ => ⟨S512x4x20x160, .f32⟩
  | .hbm, ⟨28, _⟩ => ⟨S512x4x20x160, .f32⟩
  | .hbm, ⟨29, _⟩ => ⟨S512x4x20x128, .f32⟩
  | .hbm, ⟨30, _⟩ => ⟨S512x4x20x160, .f32⟩
  | .hbm, ⟨31, _⟩ => ⟨S512x4x20x160, .f32⟩
  | .hbm, ⟨32, _⟩ => ⟨S512x4x20x160, .f32⟩
  | .hbm, ⟨33, _⟩ => ⟨S512x4, .i1⟩
  | .hbm, ⟨34, _⟩ => ⟨S_, .f32⟩
  | .hbm, ⟨35, _⟩ => ⟨S512x4x20x128, .f32⟩
  | .hbm, ⟨36, _⟩ => ⟨S_, .i32⟩
  | .hbm, ⟨37, _⟩ => ⟨S512x4x20x160, .f32⟩
  | .hbm, ⟨38, _⟩ => ⟨S512x4x20x160, .f32⟩
  | .hbm, ⟨39, _⟩ => ⟨S512x4x20x128, .f32⟩
  | .hbm, ⟨40, _⟩ => ⟨S512x4x20x160, .f32⟩
  | .hbm, ⟨41, _⟩ => ⟨S512x4x20x160, .f32⟩
  | .hbm, ⟨42, _⟩ => ⟨S512x4x20x160, .f32⟩
  | .hbm, ⟨43, _⟩ => ⟨S512x4, .i1⟩
  | .hbm, ⟨44, _⟩ => ⟨S_, .i32⟩
  | .hbm, ⟨45, _⟩ => ⟨S4x20x128x160, .f32⟩
  | .hbm, ⟨46, _⟩ => ⟨S512x4x20x128, .f32⟩
  | .hbm, ⟨47, _⟩ => ⟨S_, .i32⟩
  | .hbm, ⟨48, _⟩ => ⟨S_, .i1⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S1x4x20x160, .f32⟩
  | .hbm, ⟨53, _⟩ => ⟨S4x20x160, .f32⟩
  | .hbm, ⟨54, _⟩ => ⟨S_, .i32⟩
  | .hbm, ⟨55, _⟩ => ⟨S_, .i32⟩
  | .hbm, ⟨56, _⟩ => ⟨S_, .i32⟩
  | .hbm, ⟨57, _⟩ => ⟨S1x4x20x160, .f32⟩
  | .hbm, ⟨58, _⟩ => ⟨S4x20x160, .f32⟩
  | .hbm, ⟨59, _⟩ => ⟨S_, .i32⟩
  | .hbm, ⟨60, _⟩ => ⟨S_, .i32⟩
  | .hbm, ⟨61, _⟩ => ⟨S_, .i32⟩
  | .hbm, ⟨62, _⟩ => ⟨S1x4x20x128, .f32⟩
  | .hbm, ⟨63, _⟩ => ⟨S4x20x128, .f32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1x4x20x160, .f32⟩
  | .hbm, ⟨68, _⟩ => ⟨S4x20x160, .f32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S1x4x20x160, .f32⟩
  | .hbm, ⟨73, _⟩ => ⟨S4x20x160, .f32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S1x4x20x160, .f32⟩
  | .hbm, ⟨78, _⟩ => ⟨S4x20x160, .f32⟩
  | .hbm, ⟨79, _⟩ => ⟨S_, .i32⟩
  | .hbm, ⟨80, _⟩ => ⟨S1x4, .i1⟩
  | .hbm, ⟨81, _⟩ => ⟨S4, .i1⟩
  | .hbm, ⟨82, _⟩ => ⟨S4x1x1x1, .i1⟩
  | .hbm, ⟨83, _⟩ => ⟨S_, .f32⟩
  | .hbm, ⟨84, _⟩ => ⟨S_, .f32⟩
  | .hbm, ⟨85, _⟩ => ⟨S4x20x128x160, .i1⟩
  | .hbm, ⟨86, _⟩ => ⟨S4x20x128x160, .f32⟩
  | .hbm, ⟨87, _⟩ => ⟨S4x20x128x160, .f32⟩
  | .hbm, ⟨88, _⟩ => ⟨S4x20x1x160, .f32⟩
  | .hbm, ⟨89, _⟩ => ⟨S4x20x128x160, .f32⟩
  | .hbm, ⟨90, _⟩ => ⟨S4x20x128x160, .f32⟩
  | .hbm, ⟨91, _⟩ => ⟨S_, .f32⟩
  | .hbm, ⟨92, _⟩ => ⟨S4x20x128, .f32⟩
  | .hbm, ⟨93, _⟩ => ⟨S4x20x1x160, .f32⟩
  | .hbm, ⟨94, _⟩ => ⟨S4x20x128x160, .f32⟩
  | .hbm, ⟨95, _⟩ => ⟨S4x20x128x160, .f32⟩
  | .hbm, ⟨96, _⟩ => ⟨S4x20x128x1, .f32⟩
  | .hbm, ⟨97, _⟩ => ⟨S4x20x1x160, .f32⟩
  | .hbm, ⟨98, _⟩ => ⟨S4x20x128x160, .f32⟩
  | .hbm, ⟨99, _⟩ => ⟨S4x20x128x160, .f32⟩
  | .hbm, ⟨100, _⟩ => ⟨S4x20x128x160, .f32⟩
  | .hbm, ⟨101, _⟩ => ⟨S4x20x128x160, .f32⟩
  | .hbm, ⟨102, _⟩ => ⟨S4x20x128x1, .f32⟩
  | .hbm, ⟨103, _⟩ => ⟨S4x20x1x160, .f32⟩
  | .hbm, ⟨104, _⟩ => ⟨S4x20x128x160, .f32⟩
  | .hbm, ⟨105, _⟩ => ⟨S4x20x128x160, .f32⟩
  | .hbm, ⟨106, _⟩ => ⟨S4x20x128x160, .f32⟩
  | .hbm, ⟨107, _⟩ => ⟨S4x20x128x160, .f32⟩
  | .hbm, ⟨108, _⟩ => ⟨S4x20x1x160, .f32⟩
  | .hbm, ⟨109, _⟩ => ⟨S4x20x128x160, .f32⟩
  | .hbm, ⟨110, _⟩ => ⟨S4x20x128x160, .f32⟩
  | .hbm, ⟨111, _⟩ => ⟨S_, .f32⟩
  | .hbm, ⟨112, _⟩ => ⟨S4x20x128, .f32⟩
  | .hbm, ⟨113, _⟩ => ⟨S1x4x20x128, .f32⟩
  | .hbm, ⟨114, _⟩ => ⟨S_, .i32⟩
  | .hbm, ⟨115, _⟩ => ⟨S_, .i32⟩
  | .hbm, ⟨116, _⟩ => ⟨S_, .i32⟩
  | .hbm, ⟨117, _⟩ => ⟨S512x4x20x128, .f32⟩
  | .hbm, ⟨118, _⟩ => ⟨S_, .i32⟩
  | .hbm, ⟨119, _⟩ => ⟨S_, .i32⟩
  | .hbm, ⟨120, _⟩ => ⟨S4x512x20x128, .f32⟩
  | .hbm, ⟨121, _⟩ => ⟨S4x512x2560, .f32⟩
  | .hbm, ⟨122, _⟩ => ⟨S4x512x2560, .bf16⟩
  | .hbm, ⟨123, _⟩ => ⟨S4x20x160x128, .f32⟩
  | _, _ => ⟨S4x512x20x160, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst : Ref sig .tc := ⟨.hbm, 34, rfl⟩
abbrev main_v23 : Ref sig .tc := ⟨.hbm, 35, rfl⟩
abbrev main_c : Ref sig .tc := ⟨.hbm, 36, rfl⟩
abbrev main_v24_0 : Ref sig .tc := ⟨.hbm, 37, rfl⟩
abbrev main_v24_1 : Ref sig .tc := ⟨.hbm, 38, rfl⟩
abbrev main_v24_2 : Ref sig .tc := ⟨.hbm, 39, rfl⟩
abbrev main_v24_3 : Ref sig .tc := ⟨.hbm, 40, rfl⟩
abbrev main_v24_4 : Ref sig .tc := ⟨.hbm, 41, rfl⟩
abbrev main_v24_5 : Ref sig .tc := ⟨.hbm, 42, rfl⟩
abbrev main_v24_6 : Ref sig .tc := ⟨.hbm, 43, rfl⟩
abbrev main_v24_7 : Ref sig .tc := ⟨.hbm, 44, rfl⟩
abbrev main_v24_8 : Ref sig .tc := ⟨.hbm, 45, rfl⟩
abbrev main_v24_9 : Ref sig .tc := ⟨.hbm, 46, rfl⟩
abbrev main_while0c_c_9 : Ref sig .tc := ⟨.hbm, 47, rfl⟩
abbrev main_while0c_v29 : Ref sig .tc := ⟨.hbm, 48, rfl⟩
abbrev main_while0b_call0_c : Ref sig .tc := ⟨.hbm, 49, rfl⟩
abbrev main_while0b_call0_c_0 : Ref sig .tc := ⟨.hbm, 50, rfl⟩
abbrev main_while0b_call0_c_1 : Ref sig .tc := ⟨.hbm, 51, rfl⟩
abbrev main_while0b_call0_v0 : Ref sig .tc := ⟨.hbm, 52, rfl⟩
abbrev main_while0b_v29 : Ref sig .tc := ⟨.hbm, 53, rfl⟩
abbrev main_while0b_call1_c : Ref sig .tc := ⟨.hbm, 54, rfl⟩
abbrev main_while0b_call1_c_0 : Ref sig .tc := ⟨.hbm, 55, rfl⟩
abbrev main_while0b_call1_c_1 : Ref sig .tc := ⟨.hbm, 56, rfl⟩
abbrev main_while0b_call1_v0 : Ref sig .tc := ⟨.hbm, 57, rfl⟩
abbrev main_while0b_v30 : Ref sig .tc := ⟨.hbm, 58, rfl⟩
abbrev main_while0b_call2_c : Ref sig .tc := ⟨.hbm, 59, rfl⟩
abbrev main_while0b_call2_c_0 : Ref sig .tc := ⟨.hbm, 60, rfl⟩
abbrev main_while0b_call2_c_1 : Ref sig .tc := ⟨.hbm, 61, rfl⟩
abbrev main_while0b_call2_v0 : Ref sig .tc := ⟨.hbm, 62, rfl⟩
abbrev main_while0b_v31 : Ref sig .tc := ⟨.hbm, 63, rfl⟩
abbrev main_while0b_call3_c : Ref sig .tc := ⟨.hbm, 64, rfl⟩
abbrev main_while0b_call3_c_0 : Ref sig .tc := ⟨.hbm, 65, rfl⟩
abbrev main_while0b_call3_c_1 : Ref sig .tc := ⟨.hbm, 66, rfl⟩
abbrev main_while0b_call3_v0 : Ref sig .tc := ⟨.hbm, 67, rfl⟩
abbrev main_while0b_v32 : Ref sig .tc := ⟨.hbm, 68, rfl⟩
abbrev main_while0b_call4_c : Ref sig .tc := ⟨.hbm, 69, rfl⟩
abbrev main_while0b_call4_c_0 : Ref sig .tc := ⟨.hbm, 70, rfl⟩
abbrev main_while0b_call4_c_1 : Ref sig .tc := ⟨.hbm, 71, rfl⟩
abbrev main_while0b_call4_v0 : Ref sig .tc := ⟨.hbm, 72, rfl⟩
abbrev main_while0b_v33 : Ref sig .tc := ⟨.hbm, 73, rfl⟩
abbrev main_while0b_call5_c : Ref sig .tc := ⟨.hbm, 74, rfl⟩
abbrev main_while0b_call5_c_0 : Ref sig .tc := ⟨.hbm, 75, rfl⟩
abbrev main_while0b_call5_c_1 : Ref sig .tc := ⟨.hbm, 76, rfl⟩
abbrev main_while0b_call5_v0 : Ref sig .tc := ⟨.hbm, 77, rfl⟩
abbrev main_while0b_v34 : Ref sig .tc := ⟨.hbm, 78, rfl⟩
abbrev main_while0b_call6_c : Ref sig .tc := ⟨.hbm, 79, rfl⟩
abbrev main_while0b_call6_v0 : Ref sig .tc := ⟨.hbm, 80, rfl⟩
abbrev main_while0b_v35 : Ref sig .tc := ⟨.hbm, 81, rfl⟩
abbrev main_while0b_v36 : Ref sig .tc := ⟨.hbm, 82, rfl⟩
abbrev main_while0b_cst_9 : Ref sig .tc := ⟨.hbm, 83, rfl⟩
abbrev main_while0b_call7_v0 : Ref sig .tc := ⟨.hbm, 84, rfl⟩
abbrev main_while0b_call7_v1 : Ref sig .tc := ⟨.hbm, 85, rfl⟩
abbrev main_while0b_call7_v2 : Ref sig .tc := ⟨.hbm, 86, rfl⟩
abbrev main_while0b_v37 : Ref sig .tc := ⟨.hbm, 87, rfl⟩
abbrev main_while0b_v38 : Ref sig .tc := ⟨.hbm, 88, rfl⟩
abbrev main_while0b_v39 : Ref sig .tc := ⟨.hbm, 89, rfl⟩
abbrev main_while0b_v40 : Ref sig .tc := ⟨.hbm, 90, rfl⟩
abbrev main_while0b_cst_10 : Ref sig .tc := ⟨.hbm, 91, rfl⟩
abbrev main_while0b_v41 : Ref sig .tc := ⟨.hbm, 92, rfl⟩
abbrev main_while0b_v42 : Ref sig .tc := ⟨.hbm, 93, rfl⟩
abbrev main_while0b_v43 : Ref sig .tc := ⟨.hbm, 94, rfl⟩
abbrev main_while0b_v44 : Ref sig .tc := ⟨.hbm, 95, rfl⟩
abbrev main_while0b_v45 : Ref sig .tc := ⟨.hbm, 96, rfl⟩
abbrev main_while0b_v46 : Ref sig .tc := ⟨.hbm, 97, rfl⟩
abbrev main_while0b_v47 : Ref sig .tc := ⟨.hbm, 98, rfl⟩
abbrev main_while0b_v48 : Ref sig .tc := ⟨.hbm, 99, rfl⟩
abbrev main_while0b_v49 : Ref sig .tc := ⟨.hbm, 100, rfl⟩
abbrev main_while0b_v50 : Ref sig .tc := ⟨.hbm, 101, rfl⟩
abbrev main_while0b_v51 : Ref sig .tc := ⟨.hbm, 102, rfl⟩
abbrev main_while0b_v52 : Ref sig .tc := ⟨.hbm, 103, rfl⟩
abbrev main_while0b_v53 : Ref sig .tc := ⟨.hbm, 104, rfl⟩
abbrev main_while0b_v54 : Ref sig .tc := ⟨.hbm, 105, rfl⟩
abbrev main_while0b_v55 : Ref sig .tc := ⟨.hbm, 106, rfl⟩
abbrev main_while0b_v56 : Ref sig .tc := ⟨.hbm, 107, rfl⟩
abbrev main_while0b_v57 : Ref sig .tc := ⟨.hbm, 108, rfl⟩
abbrev main_while0b_v58 : Ref sig .tc := ⟨.hbm, 109, rfl⟩
abbrev main_while0b_v59 : Ref sig .tc := ⟨.hbm, 110, rfl⟩
abbrev main_while0b_cst_11 : Ref sig .tc := ⟨.hbm, 111, rfl⟩
abbrev main_while0b_v60 : Ref sig .tc := ⟨.hbm, 112, rfl⟩
abbrev main_while0b_call8_v0 : Ref sig .tc := ⟨.hbm, 113, rfl⟩
abbrev main_while0b_call8_c : Ref sig .tc := ⟨.hbm, 114, rfl⟩
abbrev main_while0b_call8_c_0 : Ref sig .tc := ⟨.hbm, 115, rfl⟩
abbrev main_while0b_call8_c_1 : Ref sig .tc := ⟨.hbm, 116, rfl⟩
abbrev main_while0b_v61 : Ref sig .tc := ⟨.hbm, 117, rfl⟩
abbrev main_while0b_c_12 : Ref sig .tc := ⟨.hbm, 118, rfl⟩
abbrev main_while0b_v62 : Ref sig .tc := ⟨.hbm, 119, rfl⟩
abbrev main_v25 : Ref sig .tc := ⟨.hbm, 120, rfl⟩
abbrev main_v26 : Ref sig .tc := ⟨.hbm, 121, rfl⟩
abbrev main_v27 : Ref sig .tc := ⟨.hbm, 122, rfl⟩
abbrev main_v28 : Ref sig .tc := ⟨.hbm, 123, rfl⟩

abbrev nD : Nat := 1
abbrev τ : Topo := Topo.v7x

variable {F : FTy → Type} [FloatOps F]

abbrev main_while0_count : Scf.Loop 32 := ⟨0#32, 512#32, 1#32⟩
-- ==== Proof.Model.lean ====
/- What one chunk of 64 tokens of one head computes, written once for all heads and chunks: the same
   operations as the kernel's body, in the same order, as functions of the words they start from. -/
module

public import proofs.«01_k».proof.Proof.Gen.KernelIdeal.Skeleton

@[expose] public section

noncomputable section

namespace Cert.Model

open Idealize.ShloMosaic Idealize.SL.Sem Cert.KernelIdeal Cert.KernelIdeal.Gen

variable {F : FTy → Type} [FloatOps F]

/-- The first of the three bfloat16 words a float32 word is split into. -/
def hi {s : Shape} (x : FVec F s .f32) : FVec F s .bf16 := truncf .bf16 x bitsLt_bf16_f32
/-- What the first word leaves. -/
def rest {s : Shape} (x : FVec F s .f32) : FVec F s .f32 := subf x (extf .f32 (hi x) bitsLt_bf16_f32)
/-- The second word. -/
def mi {s : Shape} (x : FVec F s .f32) : FVec F s .bf16 := hi (rest x)
/-- The third word. -/
def lo {s : Shape} (x : FVec F s .f32) : FVec F s .bf16 := hi (rest (rest x))

/-- The left factor of the product over the 160 keys, transposed and split. -/
def lhsK (x : FVec F S160x128 .f32) : FVec F S128x512 .bf16 :=
  concatenate S128x512 1
    [⟨S128x128, transpose S128x128 [1, 0] (extractStridedSlice S128x128 ![0, 0] (hi x) slices_S160x128_o0_0_S128x128) transposes_S128x128_p1_0_S128x128⟩,
     ⟨S128x128, transpose S128x128 [1, 0] (extractStridedSlice S128x128 ![0, 0] (mi x) slices_S160x128_o0_0_S128x128) transposes_S128x128_p1_0_S128x128⟩,
     ⟨S128x128, transpose S128x128 [1, 0] (extractStridedSlice S128x128 ![0, 0] (lo x) slices_S160x128_o0_0_S128x128) transposes_S128x128_p1_0_S128x128⟩,
     ⟨S128x128, transpose S128x128 [1, 0]
        (concatenate S128x128 0
          [⟨S32x128, extractStridedSlice S32x128 ![128, 0] (hi x) slices_S160x128_o128_0_S32x128⟩,
           ⟨S32x128, extractStridedSlice S32x128 ![128, 0] (mi x) slices_S160x128_o128_0_S32x128⟩,
           ⟨S32x128, extractStridedSlice S32x128 ![128, 0] (lo x) slices_S160x128_o128_0_S32x128⟩,
           ⟨S32x128, extractStridedSlice S32x128 ![128, 0] (hi x) slices_S160x128_o128_0_S32x128⟩]
          concatenates_S32x128_S32x128_S32x128_S32x128_S128x128_d0) transposes_S128x128_p1_0_S128x128⟩]
    concatenates_S128x128_S128x128_S128x128_S128x128_S128x512_d1

/-- The product over the 160 keys of a split left factor with the word split into `h`, `m`, `l`. -/
def dotK (lhs : FVec F S128x512 .bf16) (h m l : FVec F S160x128 .bf16) : FVec F S128x128 .f32 :=
  let hm := extractStridedSlice S128x128 ![0, 0] h slices_S160x128_o0_0_S128x128
  let ht := extractStridedSlice S32x128 ![128, 0] h slices_S160x128_o128_0_S32x128
  let mm := extractStridedSlice S128x128 ![0, 0] m slices_S160x128_o0_0_S128x128
  let mt := extractStridedSlice S32x128 ![128, 0] m slices_S160x128_o128_0_S32x128
  let lm := extractStridedSlice S128x128 ![0, 0] l slices_S160x128_o0_0_S128x128
  let lt := extractStridedSlice S32x128 ![128, 0] l slices_S160x128_o128_0_S32x128
  let n1 := concatenate S512x128 0 [⟨S128x128, hm⟩, ⟨S128x128, hm⟩, ⟨S128x128, hm⟩, ⟨S32x128, ht⟩, ⟨S32x128, ht⟩, ⟨S32x128, ht⟩, ⟨S32x128, lt⟩]
    concatenates_S128x128_S128x128_S128x128_S32x128_S32x128_S32x128_S32x128_S512x128_d0
  let n2 := concatenate S512x128 0 [⟨S128x128, mm⟩, ⟨S128x128, mm⟩, ⟨S128x128, mm⟩, ⟨S32x128, mt⟩, ⟨S32x128, mt⟩, ⟨S32x128, mt⟩, ⟨S32x128, broadcast S32x128 (Scalar.ofBits .bf16 0x0000#16 : F .bf16)⟩]
    concatenates_S128x128_S128x128_S128x128_S32x128_S32x128_S32x128_S32x128_S512x128_d0
  let d := matmul dot_S128x512_S512x256_S128x256_1_0_0_1_n_n none lhs
    (concatenate S512x256 1 [⟨S512x128, n1⟩, ⟨S512x128, n2⟩] concatenates_S512x128_S512x128_S512x256_d1)
    (constant S128x256 .f32 0x00000000#32)
  addf (addf (extractStridedSlice S128x128 ![0, 0] d slices_S128x256_o0_0_S128x128)
      (extractStridedSlice S128x128 ![0, 128] d slices_S128x256_o0_128_S128x128))
    (matmul dot_S128x128_S128x128_S128x128_1_0_0_1_n_n none
      (extractStridedSlice S128x128 ![0, 0] lhs slices_S128x512_o0_0_S128x128) lm (constant S128x128 .f32 0x00000000#32))

/-- The split left factor of a product over the 64 tokens of a chunk. -/
def lhsC (x : FVec F S64x64 .f32) : FVec F S64x256 .bf16 :=
  concatenate S64x256 1 [⟨S64x64, hi x⟩, ⟨S64x64, mi x⟩, ⟨S64x64, lo x⟩, ⟨S64x64, hi x⟩]
    concatenates_S64x64_S64x64_S64x64_S64x64_S64x256_d1

/-- The product of two 64 by 64 matrices, both split. -/
def dotS (x y : FVec F S64x64 .f32) : FVec F S64x64 .f32 :=
  let n1 := concatenate S256x64 0 [⟨S64x64, hi y⟩, ⟨S64x64, hi y⟩, ⟨S64x64, hi y⟩, ⟨S64x64, lo y⟩]
    concatenates_S64x64_S64x64_S64x64_S64x64_S256x64_d0
  let n2 := concatenate S256x64 0 [⟨S64x64, mi y⟩, ⟨S64x64, mi y⟩, ⟨S64x64, mi y⟩, ⟨S64x64, broadcast S64x64 (Scalar.ofBits .bf16 0x0000#16 : F .bf16)⟩]
    concatenates_S64x64_S64x64_S64x64_S64x64_S256x64_d0
  let d := matmul dot_S64x256_S256x128_S64x128_1_0_0_1_n_n none (lhsC x)
    (concatenate S256x128 1 [⟨S256x64, n1⟩, ⟨S256x64, n2⟩] concatenates_S256x64_S256x64_S256x128_d1)
    (constant S64x128 .f32 0x00000000#32)
  addf (extractStridedSlice S64x64 ![0, 0] d slices_S64x128_o0_0_S64x64)
    (extractStridedSlice S64x64 ![0, 64] d slices_S64x128_o0_64_S64x64)

/-- The product of a 64 by 64 matrix with a 64 by 128 one, both split. -/
def dotC (x : FVec F S64x64 .f32) (y : FVec F S64x128 .f32) : FVec F S64x128 .f32 :=
  let n1 := concatenate S256x128 0 [⟨S64x128, hi y⟩, ⟨S64x128, hi y⟩, ⟨S64x128, hi y⟩, ⟨S64x128, lo y⟩]
    concatenates_S64x128_S64x128_S64x128_S64x128_S256x128_d0
  let n2 := concatenate S256x128 0 [⟨S64x128, mi y⟩, ⟨S64x128, mi y⟩, ⟨S64x128, mi y⟩, ⟨S64x128, broadcast S64x128 (Scalar.ofBits .bf16 0x0000#16 : F .bf16)⟩]
    concatenates_S64x128_S64x128_S64x128_S64x128_S256x128_d0
  let d := matmul dot_S64x256_S256x256_S64x256_1_0_0_1_n_n none (lhsC x)
    (concatenate S256x256 1 [⟨S256x128, n1⟩, ⟨S256x128, n2⟩] concatenates_S256x128_S256x128_S256x256_d1)
    (constant S64x256 .f32 0x00000000#32)
  addf (extractStridedSlice S64x128 ![0, 0] d slices_S64x256_o0_0_S64x128)
    (extractStridedSlice S64x128 ![0, 128] d slices_S64x256_o0_128_S64x128)

/-- Zero, as a word over a shape. -/
def zero (s : Shape) : FVec F s .f32 := broadcast s (Scalar.ofBits .f32 0x00000000#32 : F .f32)

/-- The row numbers of a 64 by 64 matrix. -/
def rows64 : IVec S64x64 32 := iota .tc S64x64 32 [0] iota_S64x64_d0_w32
/-- The column numbers. -/
def cols64 : IVec S64x64 32 := iota .tc S64x64 32 [1] iota_S64x64_d1_w32

/-- Rows and columns in one block of `2 ^ p`. -/
def sameBlock (p : BitVec 32) : IVec S64x64 1 :=
  cmpi .eq (shrsi rows64 (broadcast S64x64 p)) (shrsi cols64 (broadcast S64x64 p))
/-- Rows and columns in different blocks of `2 ^ p`. -/
def otherBlock (p : BitVec 32) : IVec S64x64 1 :=
  cmpi .ne (shrsi rows64 (broadcast S64x64 p)) (shrsi cols64 (broadcast S64x64 p))

/-- The inverse of `1 - a` within blocks of two. -/
def inv0 (a : FVec F S64x64 .f32) : FVec F S64x64 .f32 :=
  addf (select (cmpi .eq rows64 cols64) (broadcast S64x64 (Scalar.ofBits .f32 0x3F800000#32 : F .f32)) (zero S64x64))
    (select (sameBlock 1#32) a (zero S64x64))

/-- From the inverse within blocks of `2 ^ p` to the one within blocks of `2 ^ q`, `q` the next. -/
def invStep (a t : FVec F S64x64 .f32) (p q : BitVec 32) : FVec F S64x64 .f32 :=
  addf t (dotS t (dotS (select (andi (otherBlock p) (sameBlock q)) a (zero S64x64)) t))

/-- The inverse of `1 - a`, by doubling. -/
def inverse (a : FVec F S64x64 .f32) : FVec F S64x64 .f32 :=
  invStep a (invStep a (invStep a (invStep a (invStep a (inv0 a) 1#32 2#32) 2#32 3#32) 3#32 4#32) 4#32 5#32) 5#32 6#32

/-- The masked products of a chunk: rows below 64 from the removal vectors, the others from the readout. -/
def scores (pair : IVec S128x128 1) (lhs : FVec F S128x512 .bf16) (z : FVec F S160x128 .f32) : FVec F S128x128 .f32 :=
  select pair (dotK lhs (hi z) (mi z) (lo z)) (zero S128x128)

/-- The values' part. -/
def fromValues (p : FVec F S128x128 .f32) (v : FVec F S64x128 .bf16) : FVec F S128x128 .f32 :=
  let ps := extractStridedSlice S128x64 ![0, 64] p slices_S128x128_o0_64_S128x64
  matmul dot_S128x192_S192x128_S128x128_1_0_0_1_n_n none
    (concatenate S128x192 1 [⟨S128x64, hi ps⟩, ⟨S128x64, mi ps⟩, ⟨S128x64, lo ps⟩] concatenates_S128x64_S128x64_S128x64_S128x192_d1)
    (concatenate S192x128 0 [⟨S64x128, v⟩, ⟨S64x128, v⟩, ⟨S64x128, v⟩] concatenates_S64x128_S64x128_S64x128_S192x128_d0)
    (constant S128x128 .f32 0x00000000#32)

/-- What the state before the chunk and its values give. -/
def known (inPrev : FVec F S128x128 .f32) (lhs : FVec F S128x512 .bf16) (p : FVec F S128x128 .f32)
    (v : FVec F S64x128 .bf16) (s : FVec F S160x128 .f32) : FVec F S128x128 .f32 :=
  addf (mulf (dotK lhs (hi s) (mi s) (lo s)) inPrev) (fromValues p v)

/-- The removed values of the chunk's tokens. -/
def removed (p x : FVec F S128x128 .f32) : FVec F S64x128 .f32 :=
  dotC (inverse (extractStridedSlice S64x64 ![0, 0] p slices_S128x128_o0_0_S64x64))
    (extractStridedSlice S64x128 ![0, 0] x slices_S128x128_o0_0_S64x128)

/-- The chunk's 64 rows of the output, before they are stored. -/
def outRows (p x : FVec F S128x128 .f32) (u : FVec F S64x128 .f32) : FVec F S64x128 .f32 :=
  addf (extractStridedSlice S64x128 ![64, 0] x slices_S128x128_o64_0_S64x128)
    (dotC (extractStridedSlice S64x64 ![64, 0] p slices_S128x128_o64_0_S64x64) u)

/-- The chunk's block of the output. -/
def outBlock (p x : FVec F S128x128 .f32) (u : FVec F S64x128 .f32) : FVec F S1x64x128 .bf16 :=
  shapeCast S1x64x128 (truncf .bf16 (outRows p x u) bitsLt_bf16_f32) shapeCasts_S64x128_S1x64x128

/-- What the chunk's tokens add to the state, before the decay. -/
def added (inLast : IVec S64x128 1) (z : FVec F S160x128 .f32) (v : FVec F S64x128 .bf16) (u : FVec F S64x128 .f32) :
    FVec F S160x128 .f32 :=
  let o : FVec F S64x128 .bf16 := broadcast S64x128 (Scalar.ofBits .bf16 0x0000#16 : F .bf16)
  let uh := select inLast (hi u) o
  let um := select inLast (mi u) o
  let ul := select inLast (lo u) o
  let vv := select inLast v o
  let r1 := concatenate S256x256 1
    [⟨S256x128, concatenate S256x128 0 [⟨S64x128, uh⟩, ⟨S64x128, vv⟩, ⟨S64x128, uh⟩, ⟨S64x128, vv⟩] concatenates_S64x128_S64x128_S64x128_S64x128_S256x128_d0⟩,
     ⟨S256x128, concatenate S256x128 0 [⟨S64x128, um⟩, ⟨S64x128, o⟩, ⟨S64x128, um⟩, ⟨S64x128, o⟩] concatenates_S64x128_S64x128_S64x128_S64x128_S256x128_d0⟩]
    concatenates_S256x128_S256x128_S256x256_d1
  let r2 := concatenate S256x256 1
    [⟨S256x128, concatenate S256x128 0 [⟨S64x128, uh⟩, ⟨S64x128, vv⟩, ⟨S64x128, ul⟩, ⟨S64x128, o⟩] concatenates_S64x128_S64x128_S64x128_S64x128_S256x128_d0⟩,
     ⟨S256x128, concatenate S256x128 0 [⟨S64x128, um⟩, ⟨S64x128, o⟩, ⟨S64x128, o⟩, ⟨S64x128, o⟩] concatenates_S64x128_S64x128_S64x128_S64x128_S256x128_d0⟩]
    concatenates_S256x128_S256x128_S256x256_d1
  let d := addf
    (matmul dot_S160x256_S256x256_S160x256_1_0_0_1_n_n none
      (concatenate S160x256 1 [⟨S160x128, hi z⟩, ⟨S160x128, mi z⟩] concatenates_S160x128_S160x128_S160x256_d1) r1
      (constant S160x256 .f32 0x00000000#32))
    (matmul dot_S160x256_S256x256_S160x256_1_0_0_1_n_n none
      (concatenate S160x256 1 [⟨S160x128, lo z⟩, ⟨S160x128, hi z⟩] concatenates_S160x128_S160x128_S160x256_d1) r2
      (constant S160x256 .f32 0x00000000#32))
  addf (extractStridedSlice S160x128 ![0, 0] d slices_S160x256_o0_0_S160x128)
    (extractStridedSlice S160x128 ![0, 128] d slices_S160x256_o0_128_S160x128)

/-- The decay over a whole chunk, from the running sum at its last token. -/
def decay (e : FVec F S160x1 .f32) : FVec F S160x128 .f32 :=
  exp (broadcastTo S160x128 (shapeCast S160x1 e shapeCasts_S160x1_S160x1) broadcasts_S160x1_S160x128)

/-- The state after the chunk. -/
def newState (inLast : IVec S64x128 1) (keep : F .f32) (e : FVec F S160x1 .f32) (z : FVec F S160x128 .f32)
    (v : FVec F S64x128 .bf16) (s : FVec F S160x128 .f32) (u : FVec F S64x128 .f32) : FVec F S160x128 .f32 :=
  mulf (addf (mulf s (broadcast S160x128 keep)) (added inLast z v u)) (decay e)

/-- The running sums of the logarithmic decay within the two chunks of a tile. -/
def gsum (tri : FVec F S128x128 .bf16) (w : Vec F S1x1x160x128 .f32) : FVec F S160x128 .f32 :=
  let w' : FVec F S160x128 .f32 := shapeCast S160x128 w shapeCasts_S1x1x160x128_S160x128
  let d := matmul dot_S480x128_S128x128_S480x128_1_0_0_1_n_n none
    (concatenate S480x128 0 [⟨S160x128, hi w'⟩, ⟨S160x128, mi w'⟩, ⟨S160x128, lo w'⟩] concatenates_S160x128_S160x128_S160x128_S480x128_d0)
    tri (constant S480x128 .f32 0x00000000#32)
  addf (addf (extractStridedSlice S160x128 ![0, 0] d slices_S480x128_o0_0_S160x128)
      (extractStridedSlice S160x128 ![160, 0] d slices_S480x128_o160_0_S160x128))
    (extractStridedSlice S160x128 ![320, 0] d slices_S480x128_o320_0_S160x128)

/-- The row of a scale array belonging to the sequence. -/
def batchRow (this : IVec S4x128 1) (x : FVec F S4x128 .f32) : FVec F S1x128 .f32 :=
  shapeCast S1x128 (multiReduction .add [0] S128 (select this x (zero S4x128)) 0x00000000#32 reduces_S4x128_S128 (.inl rfl) rfl)
    shapeCasts_S128_S1x128

/-- The readout vectors, decayed from the chunk's beginning. -/
def rVec (this : IVec S4x128 1) (g : FVec F S160x128 .f32) (r : Vec F S1x1x160x128 .fp8e4m3) (rs : Vec F S1x4x128 .f32) :
    FVec F S160x128 .f32 :=
  mulf (extf .f32 (shapeCast S160x128 r shapeCasts_S1x1x160x128_S160x128 : FVec F S160x128 .fp8e4m3) bitsLt_fp8e4m3_f32)
    (mulf (exp g) (broadcastTo S160x128 (batchRow this (shapeCast S4x128 rs shapeCasts_S1x4x128_S4x128)) broadcasts_S1x128_S160x128))

/-- The removal vectors, decayed up to the token before. -/
def aVec (g : FVec F S160x128 .f32) (w : Vec F S1x1x160x128 .f32) (a : Vec F S1x1x160x128 .bf16) : FVec F S160x128 .f32 :=
  mulf (extf .f32 (shapeCast S160x128 a shapeCasts_S1x1x160x128_S160x128 : FVec F S160x128 .bf16) bitsLt_bf16_f32)
    (exp (subf g (shapeCast S160x128 w shapeCasts_S1x1x160x128_S160x128)))

/-- The inverse decay. -/
def undo (g : FVec F S160x128 .f32) : FVec F S160x128 .f32 := exp (subf (zero S160x128) g)

/-- The key vectors, with the scales of keys and values and with the decay undone. -/
def kVec (this : IVec S4x128 1) (g : FVec F S160x128 .f32) (ks vs : Vec F S1x4x128 .f32) (k : Vec F S1x1x160x128 .fp8e4m3) :
    FVec F S160x128 .f32 :=
  mulf (extf .f32 (shapeCast S160x128 k shapeCasts_S1x1x160x128_S160x128 : FVec F S160x128 .fp8e4m3) bitsLt_fp8e4m3_f32)
    (mulf (undo g) (broadcastTo S160x128
      (batchRow this (mulf (shapeCast S4x128 ks shapeCasts_S1x4x128_S4x128) (shapeCast S4x128 vs shapeCasts_S1x4x128_S4x128)))
      broadcasts_S1x128_S160x128))

/-- The replacement vectors, with the decay undone. -/
def bVec (g : FVec F S160x128 .f32) (b : Vec F S1x1x160x128 .bf16) : FVec F S160x128 .f32 :=
  mulf (extf .f32 (shapeCast S160x128 b shapeCasts_S1x1x160x128_S160x128 : FVec F S160x128 .bf16) bitsLt_bf16_f32) (undo g)

/-- The lanes of the first chunk. -/
def lowLanes : IVec S160x128 1 :=
  cmpi .slt (iota .tc S160x128 32 [1] iota_S160x128_d1_w32) (broadcast S160x128 64#32)

/-- A tile turned by one chunk. -/
def turned (x : FVec F S160x128 .f32) : FVec F S160x128 .f32 := dynamicRotate 1 64#32 none x rotates_S160x128_d1

/-- Replacement and key vectors of the first chunk side by side. -/
def zVec0 (b k : FVec F S160x128 .f32) : FVec F S160x128 .f32 := select lowLanes b (turned k)
/-- Replacement and key vectors of the second chunk side by side. -/
def zVec1 (b k : FVec F S160x128 .f32) : FVec F S160x128 .f32 := select lowLanes (turned b) k

/-- The left factors of the first chunk, one above the other. -/
def lhs0 (a r : FVec F S160x128 .f32) : FVec F S128x512 .bf16 :=
  concatenate S128x512 0
    [⟨S64x512, extractStridedSlice S64x512 ![0, 0] (lhsK a) slices_S128x512_o0_0_S64x512⟩,
     ⟨S64x512, extractStridedSlice S64x512 ![0, 0] (lhsK r) slices_S128x512_o0_0_S64x512⟩]
    concatenates_S64x512_S64x512_S128x512_d0
/-- The left factors of the second chunk, one above the other. -/
def lhs1 (a r : FVec F S160x128 .f32) : FVec F S128x512 .bf16 :=
  concatenate S128x512 0
    [⟨S64x512, extractStridedSlice S64x512 ![64, 0] (lhsK a) slices_S128x512_o64_0_S64x512⟩,
     ⟨S64x512, extractStridedSlice S64x512 ![64, 0] (lhsK r) slices_S128x512_o64_0_S64x512⟩]
    concatenates_S64x512_S64x512_S128x512_d0

/-- The values of the chunk's tokens. -/
def vVec (v : Vec F S1x1x64x128 .fp8e4m3) : FVec F S64x128 .bf16 :=
  extf .bf16 (shapeCast S64x128 v shapeCasts_S1x1x64x128_S64x128 : FVec F S64x128 .fp8e4m3) bitsLt_fp8e4m3_bf16

/-- The state of a head, from the words that hold it. -/
def stateOf (s : Vec F S1x160x128 .f32) : FVec F S160x128 .f32 := shapeCast S160x128 s shapeCasts_S1x160x128_S160x128
/-- The words that hold the state of a head. -/
def stateWord (s : FVec F S160x128 .f32) : FVec F S1x160x128 .f32 := shapeCast S1x160x128 s shapeCasts_S160x128_S1x160x128

/-- One chunk: its output rows, from the masks, the vectors and the state before. -/
def chunkOut (pair : IVec S128x128 1) (inPrev : FVec F S128x128 .f32) (lhs : FVec F S128x512 .bf16)
    (z : FVec F S160x128 .f32) (v : FVec F S64x128 .bf16) (s : FVec F S160x128 .f32) : FVec F S1x64x128 .bf16 :=
  outBlock (scores pair lhs z) (known inPrev lhs (scores pair lhs z) v s)
    (removed (scores pair lhs z) (known inPrev lhs (scores pair lhs z) v s))

/-- One chunk: the state after it. -/
def chunkState (pair : IVec S128x128 1) (inPrev : FVec F S128x128 .f32) (inLast : IVec S64x128 1) (keep : F .f32)
    (lhs : FVec F S128x512 .bf16) (e : FVec F S160x1 .f32) (z : FVec F S160x128 .f32) (v : FVec F S64x128 .bf16)
    (s : FVec F S160x128 .f32) : FVec F S160x128 .f32 :=
  newState inLast keep e z v s (removed (scores pair lhs z) (known inPrev lhs (scores pair lhs z) v s))

end Cert.Model

end
-- ==== Proof.Trip.lean ====
/- One trip of the kernel's loop: the words it writes are those of the model (`Model.lean`), head by head
   and chunk by chunk. -/
module

public import proofs.«01_k».proof.Proof.Gen.KernelIdeal.Loops
public import proofs.«01_k».proof.Proof.Model
public import Idealize.ShloMosaic.Lib.Pipeline.FrameBody

@[expose] public section

set_option maxRecDepth 16384

noncomputable section

namespace Cert.Model

open Idealize.ShloMosaic Idealize.ShloMosaic.TcCoe Idealize.ShloMosaic.Tactic Idealize.SL.Sem Cert.KernelIdeal Cert.KernelIdeal.Gen

variable {F : FTy → Type} [FloatOps F]

/-- The masks of a tile of 128 tokens, shared by the heads, and the two constant masks. -/
structure Masks (F : FTy → Type) where
  pair0 : IVec S128x128 1
  inPrev0 : FVec F S128x128 .f32
  inLast0 : IVec S64x128 1
  keep0 : F .f32
  pair1 : IVec S128x128 1
  inPrev1 : FVec F S128x128 .f32
  inLast1 : IVec S64x128 1
  keep1 : F .f32
  tri : FVec F S128x128 .bf16
  this : IVec S4x128 1

/-- What a head reads for a tile of 128 tokens. -/
structure Tile (F : FTy → Type) where
  w : Vec F S1x1x160x128 .f32
  r : Vec F S1x1x160x128 .fp8e4m3
  rs : Vec F S1x4x128 .f32
  a : Vec F S1x1x160x128 .bf16
  ks : Vec F S1x4x128 .f32
  vs : Vec F S1x4x128 .f32
  k : Vec F S1x1x160x128 .fp8e4m3
  b : Vec F S1x1x160x128 .bf16
  v0 : Vec F S1x1x64x128 .fp8e4m3
  v1 : Vec F S1x1x64x128 .fp8e4m3

variable (M : Masks F) (T : Tile F)

/-- The running sums of the tile. -/
def Tile.g : FVec F S160x128 .f32 := gsum M.tri T.w
/-- The removal vectors of the tile. -/
def Tile.av : FVec F S160x128 .f32 := aVec (T.g M) T.w T.a
/-- The readout vectors of the tile. -/
def Tile.rv : FVec F S160x128 .f32 := rVec M.this (T.g M) T.r T.rs
/-- The key vectors of the tile. -/
def Tile.kv : FVec F S160x128 .f32 := kVec M.this (T.g M) T.ks T.vs T.k
/-- The replacement vectors of the tile. -/
def Tile.bv : FVec F S160x128 .f32 := bVec (T.g M) T.b

/-- The output block of the tile's first chunk. -/
def tileOut0 (s : FVec F S160x128 .f32) : FVec F S1x64x128 .bf16 :=
  chunkOut M.pair0 M.inPrev0 (lhs0 (T.av M) (T.rv M)) (zVec0 (T.bv M) (T.kv M)) (vVec T.v0) s
/-- The state after the tile's first chunk. -/
def tileMid (s : FVec F S160x128 .f32) : FVec F S160x128 .f32 :=
  chunkState M.pair0 M.inPrev0 M.inLast0 M.keep0 (lhs0 (T.av M) (T.rv M))
    (extractStridedSlice S160x1 ![0, 63] (T.g M) slices_S160x128_o0_63_S160x1) (zVec0 (T.bv M) (T.kv M)) (vVec T.v0) s
/-- The output block of the tile's second chunk, from the state after the first. -/
def tileOut1 (s : FVec F S160x128 .f32) : FVec F S1x64x128 .bf16 :=
  chunkOut M.pair1 M.inPrev1 (lhs1 (T.av M) (T.rv M)) (zVec1 (T.bv M) (T.kv M)) (vVec T.v1) s
/-- The state after the tile's second chunk, from the one after the first. -/
def tileEnd (s : FVec F S160x128 .f32) : FVec F S160x128 .f32 :=
  chunkState M.pair1 M.inPrev1 M.inLast1 M.keep1 (lhs1 (T.av M) (T.rv M))
    (extractStridedSlice S160x1 ![0, 127] (T.g M) slices_S160x128_o0_127_S160x1) (zVec1 (T.bv M) (T.kv M)) (vVec T.v1) s

/-- The masks, from the segment numbers of the tile and the four the scalar memory gives. -/
def masksOf (arg0 : BitVec 32) (v0 v1 : IVec S128x128 32) (v3 v4 : IVec S128x128 1) (v28 : IVec S128x128 32)
    (c64_i32_5 : BitVec 32) (v30 : IVec S128x128 32) (v44 : IVec S128x128 1) (seg : Vec F S4x128 .i32)
    (p0 l0 p1 l1 : BitVec 32) : Masks F where
  pair0 := k0_pay6 v3 (k0_pay532 v0 v1) (k0_pay533 arg0) seg
  inPrev0 := k0_pay7 v3 (k0_pay533 arg0) seg p0
  inLast0 := k0_pay8 (F := F) v3 (k0_pay533 arg0) seg l0
  keep0 := k0_pay9 p0 l0
  pair1 := k0_pay12 (k0_pay532 v0 v1) (k0_pay10 v3 (k0_pay533 arg0) seg) (k0_pay11 v3 (k0_pay533 arg0) seg)
  inPrev1 := k0_pay13 (k0_pay11 v3 (k0_pay533 arg0) seg) p1
  inLast1 := k0_pay14 (F := F) (k0_pay11 v3 (k0_pay533 arg0) seg) l1
  keep1 := k0_pay15 p1 l1
  tri := k0_pay531 v0 v4 v28 c64_i32_5 v30 v44
  this := k0_pay533 arg0

variable (𝒱 : Variants) (c : Dev nD) (bd : Option 𝒱.V) (i : grid0.Coords) (arg2 : Memref sig .tc .smem S4x512 .i32)
    (harg2 : arg2.IsWhole) (arg3 : Memref sig .tc .vmem S1x4x160x512 .fp8e4m3) (harg3 : arg3.IsWhole) (arg4 : Memref sig .tc .vmem S4x4x512 .f32) (harg4 : arg4.IsWhole)
    (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3)
    (harg7 : arg7.IsWhole) (arg8 : Memref sig .tc .vmem S4x4x512 .f32) (harg8 : arg8.IsWhole) (arg9 : Memref sig .tc .vmem S1x4x160x512 .bf16) (harg9 : arg9.IsWhole)
    (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32)
    (harg12 : arg12.IsWhole) (arg13 : Memref sig .tc .vmem S4x512 .i32) (harg13 : arg13.IsWhole) (arg14 : Memref sig .tc .vmem S1x512x512 .bf16) (harg14 : arg14.IsWhole)
    (arg15 : Memref sig .tc .vmem S1x4x160x128 .f32) (harg15 : arg15.IsWhole) (arg16 : Memref sig .tc .vmem S4x160x128 .f32) (harg16 : arg16.IsWhole) (arg0 : BitVec 32)
    (v0 : IVec S128x128 32) (v1 : IVec S128x128 32) (v3 : IVec S128x128 1) (v4 : IVec S128x128 1) (v28 : IVec S128x128 32)
    (c64_i32_5 : BitVec 32) (v30 : IVec S128x128 32) (v44 : IVec S128x128 1) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (X_arg9 : BufTy.Contents (Elt F) arg9.view.ty) (X_arg10 : BufTy.Contents (Elt F) arg10.view.ty) (X_arg11 : BufTy.Contents (Elt F) arg11.view.ty) (X_arg13 : BufTy.Contents (Elt F) arg13.view.ty) (k : Fin k0_t1_loop.trips)

/-- The masks of trip `k`. -/
def tripMasks : Masks F :=
  masksOf arg0 v0 v1 v3 v4 v28 c64_i32_5 v30 v44
    (View.readAt (Elt F) arg13.view (Rect.unit (s := S4x512) (k0_off1 k) S4x128.size (k0_off1_inb k)).toLoadRect X_arg13)
    (View.readAt (Elt F) arg2.view (Rect.unit (s := S4x512) (k0_off2 i k 0#32) S1x1.size (k0_off2_inb i k 0)).toLoadRect X_arg2 (Shape.Idx.first (by show 0 < S1x1.numel; decide)))
    (View.readAt (Elt F) arg2.view (Rect.unit (s := S4x512) (k0_off3 i k 0#32) S1x1.size (k0_off3_inb i k 0)).toLoadRect X_arg2 (Shape.Idx.first (by show 0 < S1x1.numel; decide)))
    (View.readAt (Elt F) arg2.view (Rect.unit (s := S4x512) (k0_off2 i k 64#32) S1x1.size (k0_off2_inb i k 1)).toLoadRect X_arg2 (Shape.Idx.first (by show 0 < S1x1.numel; decide)))
    (View.readAt (Elt F) arg2.view (Rect.unit (s := S4x512) (k0_off3 i k 64#32) S1x1.size (k0_off3_inb i k 1)).toLoadRect X_arg2 (Shape.Idx.first (by show 0 < S1x1.numel; decide)))

/-- What a head reads in a trip: its blocks at the offsets `o4` (features), `o5` (scales), `o60`, `o61` (values). -/
def tileAt (o4 : Fin 4 → ℕ) (h4 : ∀ a, o4 a + S1x1x160x128.size a ≤ S1x4x160x512.size a)
    (o5 : Fin 3 → ℕ) (h5 : ∀ a, o5 a + S1x4x128.size a ≤ S4x4x512.size a)
    (o60 : Fin 4 → ℕ) (h60 : ∀ a, o60 a + S1x1x64x128.size a ≤ S1x4x512x128.size a)
    (o61 : Fin 4 → ℕ) (h61 : ∀ a, o61 a + S1x1x64x128.size a ≤ S1x4x512x128.size a) : Tile F where
  w := View.readAt (Elt F) arg11.view (Rect.unit (s := S1x4x160x512) o4 S1x1x160x128.size h4).toLoadRect X_arg11
  r := View.readAt (Elt F) arg3.view (Rect.unit (s := S1x4x160x512) o4 S1x1x160x128.size h4).toLoadRect X_arg3
  rs := View.readAt (Elt F) arg4.view (Rect.unit (s := S4x4x512) o5 S1x4x128.size h5).toLoadRect X_arg4
  a := View.readAt (Elt F) arg9.view (Rect.unit (s := S1x4x160x512) o4 S1x1x160x128.size h4).toLoadRect X_arg9
  ks := View.readAt (Elt F) arg6.view (Rect.unit (s := S4x4x512) o5 S1x4x128.size h5).toLoadRect X_arg6
  vs := View.readAt (Elt F) arg8.view (Rect.unit (s := S4x4x512) o5 S1x4x128.size h5).toLoadRect X_arg8
  k := View.readAt (Elt F) arg5.view (Rect.unit (s := S1x4x160x512) o4 S1x1x160x128.size h4).toLoadRect X_arg5
  b := View.readAt (Elt F) arg10.view (Rect.unit (s := S1x4x160x512) o4 S1x1x160x128.size h4).toLoadRect X_arg10
  v0 := View.readAt (Elt F) arg7.view (Rect.unit (s := S1x4x512x128) o60 S1x1x64x128.size h60).toLoadRect X_arg7
  v1 := View.readAt (Elt F) arg7.view (Rect.unit (s := S1x4x512x128) o61 S1x1x64x128.size h61).toLoadRect X_arg7

/-- What the first head of a trip reads. -/
def tripTile0 : Tile F :=
  tileAt arg3 arg4 arg5 arg6 arg7 arg8 arg9 arg10 arg11 X_arg3 X_arg4 X_arg5 X_arg6 X_arg7 X_arg8 X_arg9 X_arg10 X_arg11 (k0_off4 k) (k0_off4_inb k) (k0_off5 k) (k0_off5_inb k) (k0_off6 k 0#32) (k0_off6_inb k 0) (k0_off6 k 64#32) (k0_off6_inb k 1)
/-- What head 1 of a trip reads. -/
def tripTile1 : Tile F :=
  tileAt arg3 arg4 arg5 arg6 arg7 arg8 arg9 arg10 arg11 X_arg3 X_arg4 X_arg5 X_arg6 X_arg7 X_arg8 X_arg9 X_arg10 X_arg11 (k0_off8 k) (k0_off8_inb k) (k0_off9 k) (k0_off9_inb k) (k0_off10 k 0#32) (k0_off10_inb k 0) (k0_off10 k 64#32) (k0_off10_inb k 1)
/-- What head 2 of a trip reads. -/
def tripTile2 : Tile F :=
  tileAt arg3 arg4 arg5 arg6 arg7 arg8 arg9 arg10 arg11 X_arg3 X_arg4 X_arg5 X_arg6 X_arg7 X_arg8 X_arg9 X_arg10 X_arg11 (k0_off12 k) (k0_off12_inb k) (k0_off13 k) (k0_off13_inb k) (k0_off14 k 0#32) (k0_off14_inb k 0) (k0_off14 k 64#32) (k0_off14_inb k 1)
/-- What head 3 of a trip reads. -/
def tripTile3 : Tile F :=
  tileAt arg3 arg4 arg5 arg6 arg7 arg8 arg9 arg10 arg11 X_arg3 X_arg4 X_arg5 X_arg6 X_arg7 X_arg8 X_arg9 X_arg10 X_arg11 (k0_off16 k) (k0_off16_inb k) (k0_off17 k) (k0_off17_inb k) (k0_off18 k 0#32) (k0_off18_inb k 0) (k0_off18 k 64#32) (k0_off18_inb k 1)

/-- The pieces of the output a trip writes (last first), from the contents of the scratch. -/
def outPieces (f_arg16 : BufTy.Contents (Elt F) arg16.view.ty) : List (View.Piece (Elt F) S1x512x512 .bf16) :=
  [⟨Rect.unit (k0_off19 k 64#32) S1x64x128.size (k0_off19_inb k 1),
    tileOut1 (tripMasks i arg2 arg13 arg0 v0 v1 v3 v4 v28 c64_i32_5 v30 v44 X_arg2 X_arg13 k)
      (tripTile3 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile3 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![3, 0, 0] S1x160x128.size inb_S4x160x128_S1x160x128_3_0_0).toLoadRect f_arg16)))⟩,
   ⟨Rect.unit (k0_off19 k 0#32) S1x64x128.size (k0_off19_inb k 0),
    tileOut0 (tripMasks i arg2 arg13 arg0 v0 v1 v3 v4 v28 c64_i32_5 v30 v44 X_arg2 X_arg13 k)
      (tripTile3 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![3, 0, 0] S1x160x128.size inb_S4x160x128_S1x160x128_3_0_0).toLoadRect f_arg16))⟩,
   ⟨Rect.unit (k0_off15 k 64#32) S1x64x128.size (k0_off15_inb k 1),
    tileOut1 (tripMasks i arg2 arg13 arg0 v0 v1 v3 v4 v28 c64_i32_5 v30 v44 X_arg2 X_arg13 k)
      (tripTile2 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile2 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![2, 0, 0] S1x160x128.size inb_S4x160x128_S1x160x128_2_0_0).toLoadRect f_arg16)))⟩,
   ⟨Rect.unit (k0_off15 k 0#32) S1x64x128.size (k0_off15_inb k 0),
    tileOut0 (tripMasks i arg2 arg13 arg0 v0 v1 v3 v4 v28 c64_i32_5 v30 v44 X_arg2 X_arg13 k)
      (tripTile2 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![2, 0, 0] S1x160x128.size inb_S4x160x128_S1x160x128_2_0_0).toLoadRect f_arg16))⟩,
   ⟨Rect.unit (k0_off11 k 64#32) S1x64x128.size (k0_off11_inb k 1),
    tileOut1 (tripMasks i arg2 arg13 arg0 v0 v1 v3 v4 v28 c64_i32_5 v30 v44 X_arg2 X_arg13 k)
      (tripTile1 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile1 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![1, 0, 0] S1x160x128.size inb_S4x160x128_S1x160x128_1_0_0).toLoadRect f_arg16)))⟩,
   ⟨Rect.unit (k0_off11 k 0#32) S1x64x128.size (k0_off11_inb k 0),
    tileOut0 (tripMasks i arg2 arg13 arg0 v0 v1 v3 v4 v28 c64_i32_5 v30 v44 X_arg2 X_arg13 k)
      (tripTile1 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![1, 0, 0] S1x160x128.size inb_S4x160x128_S1x160x128_1_0_0).toLoadRect f_arg16))⟩,
   ⟨Rect.unit (k0_off7 k 64#32) S1x64x128.size (k0_off7_inb k 1),
    tileOut1 (tripMasks i arg2 arg13 arg0 v0 v1 v3 v4 v28 c64_i32_5 v30 v44 X_arg2 X_arg13 k)
      (tripTile0 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile0 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![0, 0, 0] S1x160x128.size inb_S4x160x128_S1x160x128_0_0_0).toLoadRect f_arg16)))⟩,
   ⟨Rect.unit (k0_off7 k 0#32) S1x64x128.size (k0_off7_inb k 0),
    tileOut0 (tripMasks i arg2 arg13 arg0 v0 v1 v3 v4 v28 c64_i32_5 v30 v44 X_arg2 X_arg13 k)
      (tripTile0 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![0, 0, 0] S1x160x128.size inb_S4x160x128_S1x160x128_0_0_0).toLoadRect f_arg16))⟩]

/-- The pieces of the state a trip writes (last first), from the contents of the scratch. -/
def statePieces (f_arg16 : BufTy.Contents (Elt F) arg16.view.ty) : List (View.Piece (Elt F) S4x160x128 .f32) :=
  [⟨(Rect.unit (s := S4x160x128) ![3, 0, 0] S1x160x128.size inb_S4x160x128_S1x160x128_3_0_0),
    stateWord (tileEnd (tripMasks i arg2 arg13 arg0 v0 v1 v3 v4 v28 c64_i32_5 v30 v44 X_arg2 X_arg13 k)
      (tripTile3 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile3 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![3, 0, 0] S1x160x128.size inb_S4x160x128_S1x160x128_3_0_0).toLoadRect f_arg16))))⟩,
   ⟨(Rect.unit (s := S4x160x128) ![3, 0, 0] S1x160x128.size inb_S4x160x128_S1x160x128_3_0_0),
    stateWord (tileMid (tripMasks i arg2 arg13 arg0 v0 v1 v3 v4 v28 c64_i32_5 v30 v44 X_arg2 X_arg13 k)
        (tripTile3 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![3, 0, 0] S1x160x128.size inb_S4x160x128_S1x160x128_3_0_0).toLoadRect f_arg16)))⟩,
   ⟨(Rect.unit (s := S4x160x128) ![2, 0, 0] S1x160x128.size inb_S4x160x128_S1x160x128_2_0_0),
    stateWord (tileEnd (tripMasks i arg2 arg13 arg0 v0 v1 v3 v4 v28 c64_i32_5 v30 v44 X_arg2 X_arg13 k)
      (tripTile2 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile2 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![2, 0, 0] S1x160x128.size inb_S4x160x128_S1x160x128_2_0_0).toLoadRect f_arg16))))⟩,
   ⟨(Rect.unit (s := S4x160x128) ![2, 0, 0] S1x160x128.size inb_S4x160x128_S1x160x128_2_0_0),
    stateWord (tileMid (tripMasks i arg2 arg13 arg0 v0 v1 v3 v4 v28 c64_i32_5 v30 v44 X_arg2 X_arg13 k)
        (tripTile2 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![2, 0, 0] S1x160x128.size inb_S4x160x128_S1x160x128_2_0_0).toLoadRect f_arg16)))⟩,
   ⟨(Rect.unit (s := S4x160x128) ![1, 0, 0] S1x160x128.size inb_S4x160x128_S1x160x128_1_0_0),
    stateWord (tileEnd (tripMasks i arg2 arg13 arg0 v0 v1 v3 v4 v28 c64_i32_5 v30 v44 X_arg2 X_arg13 k)
      (tripTile1 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile1 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![1, 0, 0] S1x160x128.size inb_S4x160x128_S1x160x128_1_0_0).toLoadRect f_arg16))))⟩,
   ⟨(Rect.unit (s := S4x160x128) ![1, 0, 0] S1x160x128.size inb_S4x160x128_S1x160x128_1_0_0),
    stateWord (tileMid (tripMasks i arg2 arg13 arg0 v0 v1 v3 v4 v28 c64_i32_5 v30 v44 X_arg2 X_arg13 k)
        (tripTile1 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![1, 0, 0] S1x160x128.size inb_S4x160x128_S1x160x128_1_0_0).toLoadRect f_arg16)))⟩,
   ⟨(Rect.unit (s := S4x160x128) ![0, 0, 0] S1x160x128.size inb_S4x160x128_S1x160x128_0_0_0),
    stateWord (tileEnd (tripMasks i arg2 arg13 arg0 v0 v1 v3 v4 v28 c64_i32_5 v30 v44 X_arg2 X_arg13 k)
      (tripTile0 arg3 arg4 arg5 arg6 arg7 arg8 arg9 arg10 arg11 X_arg3 X_arg4 X_arg5 X_arg6 X_arg7 X_arg8 X_arg9 X_arg10 X_arg11 k)
      (tileMid (tripMasks i arg2 arg13 arg0 v0 v1 v3 v4 v28 c64_i32_5 v30 v44 X_arg2 X_arg13 k)
        (tripTile0 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![0, 0, 0] S1x160x128.size inb_S4x160x128_S1x160x128_0_0_0).toLoadRect f_arg16))))⟩,
   ⟨(Rect.unit (s := S4x160x128) ![0, 0, 0] S1x160x128.size inb_S4x160x128_S1x160x128_0_0_0),
    stateWord (tileMid (tripMasks i arg2 arg13 arg0 v0 v1 v3 v4 v28 c64_i32_5 v30 v44 X_arg2 X_arg13 k)
        (tripTile0 arg3 arg4 arg5 arg6 arg7 arg8 arg9 arg10 arg11 X_arg3 X_arg4 X_arg5 X_arg6 X_arg7 X_arg8 X_arg9 X_arg10 X_arg11 k)
        (stateOf (View.readAt (Elt F) arg16.view (Rect.unit (s := S4x160x128) ![0, 0, 0] S1x160x128.size inb_S4x160x128_S1x160x128_0_0_0).toLoadRect f_arg16)))⟩]

/-- A head's state, stored and read back. -/
theorem stateOf_stateWord (s : FVec F S160x128 .f32) : stateOf (stateWord s) = s := by
  funext i
  simp only [stateOf, stateWord, shapeCast]
  congr 1
  first | exact Equiv.symm_apply_apply _ _ | exact Equiv.apply_symm_apply _ _ | (simp [Shape.reshapeEquiv])

/-- The state pieces up to head 0, first chunk, as the trip reads them back. -/
def raw1 (f_arg16 : BufTy.Contents (Elt F) arg16.view.ty) : List (View.Piece (Elt F) S4x160x128 .f32) :=
  List.cons ⟨(Rect.unit (s := S4x160x128) ![0, 0, 0] S1x160x128.size inb_S4x160x128_S1x160x128_0_0_0), stateWord (tileMid (tripMasks i arg2 arg13 arg0 v0 v1 v3 v4 v28 c64_i32_5 v30 v44 X_arg2 X_arg13 k)
    (tripTile0 arg3 arg4 arg5 arg6 arg7 arg8 arg9 arg10 arg11 X_arg3 X_arg4 X_arg5 X_arg6 X_arg7 X_arg8 X_arg9 X_arg10 X_arg11 k)
    (stateOf (View.readAt (Elt F) arg16.view (Rect.unit (s := S4x160x128) ![0, 0, 0] S1x160x128.size inb_S4x160x128_S1x160x128_0_0_0).toLoadRect f_arg16)))⟩ []
/-- The state pieces up to head 0, second chunk, as the trip reads them back. -/
def raw2 (f_arg16 : BufTy.Contents (Elt F) arg16.view.ty) : List (View.Piece (Elt F) S4x160x128 .f32) :=
  List.cons ⟨(Rect.unit (s := S4x160x128) ![0, 0, 0] S1x160x128.size inb_S4x160x128_S1x160x128_0_0_0), stateWord (tileEnd (tripMasks i arg2 arg13 arg0 v0 v1 v3 v4 v28 c64_i32_5 v30 v44 X_arg2 X_arg13 k)
    (tripTile0 arg3 arg4 arg5 arg6 arg7 arg8 arg9 arg10 arg11 X_arg3 X_arg4 X_arg5 X_arg6 X_arg7 X_arg8 X_arg9 X_arg10 X_arg11 k)
    (stateOf (arg16.view.readCov (raw1 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![0, 0, 0] S1x160x128.size inb_S4x160x128_S1x160x128_0_0_0).toLoadRect)))⟩ (raw1 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16)
/-- The state pieces up to head 1, first chunk, as the trip reads them back. -/
def raw3 (f_arg16 : BufTy.Contents (Elt F) arg16.view.ty) : List (View.Piece (Elt F) S4x160x128 .f32) :=
  List.cons ⟨(Rect.unit (s := S4x160x128) ![1, 0, 0] S1x160x128.size inb_S4x160x128_S1x160x128_1_0_0), stateWord (tileMid (tripMasks i arg2 arg13 arg0 v0 v1 v3 v4 v28 c64_i32_5 v30 v44 X_arg2 X_arg13 k)
    (tripTile1 arg3 arg4 arg5 arg6 arg7 arg8 arg9 arg10 arg11 X_arg3 X_arg4 X_arg5 X_arg6 X_arg7 X_arg8 X_arg9 X_arg10 X_arg11 k)
    (stateOf (View.readAt (Elt F) arg16.view (Rect.unit (s := S4x160x128) ![1, 0, 0] S1x160x128.size inb_S4x160x128_S1x160x128_1_0_0).toLoadRect f_arg16)))⟩ (raw2 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16)
/-- The state pieces up to head 1, second chunk, as the trip reads them back. -/
def raw4 (f_arg16 : BufTy.Contents (Elt F) arg16.view.ty) : List (View.Piece (Elt F) S4x160x128 .f32) :=
  List.cons ⟨(Rect.unit (s := S4x160x128) ![1, 0, 0] S1x160x128.size inb_S4x160x128_S1x160x128_1_0_0), stateWord (tileEnd (tripMasks i arg2 arg13 arg0 v0 v1 v3 v4 v28 c64_i32_5 v30 v44 X_arg2 X_arg13 k)
    (tripTile1 arg3 arg4 arg5 arg6 arg7 arg8 arg9 arg10 arg11 X_arg3 X_arg4 X_arg5 X_arg6 X_arg7 X_arg8 X_arg9 X_arg10 X_arg11 k)
    (stateOf (arg16.view.readCov (raw3 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![1, 0, 0] S1x160x128.size inb_S4x160x128_S1x160x128_1_0_0).toLoadRect)))⟩ (raw3 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16)
/-- The state pieces up to head 2, first chunk, as the trip reads them back. -/
def raw5 (f_arg16 : BufTy.Contents (Elt F) arg16.view.ty) : List (View.Piece (Elt F) S4x160x128 .f32) :=
  List.cons ⟨(Rect.unit (s := S4x160x128) ![2, 0, 0] S1x160x128.size inb_S4x160x128_S1x160x128_2_0_0), stateWord (tileMid (tripMasks i arg2 arg13 arg0 v0 v1 v3 v4 v28 c64_i32_5 v30 v44 X_arg2 X_arg13 k)
    (tripTile2 arg3 arg4 arg5 arg6 arg7 arg8 arg9 arg10 arg11 X_arg3 X_arg4 X_arg5 X_arg6 X_arg7 X_arg8 X_arg9 X_arg10 X_arg11 k)
    (stateOf (View.readAt (Elt F) arg16.view (Rect.unit (s := S4x160x128) ![2, 0, 0] S1x160x128.size inb_S4x160x128_S1x160x128_2_0_0).toLoadRect f_arg16)))⟩ (raw4 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16)
/-- The state pieces up to head 2, second chunk, as the trip reads them back. -/
def raw6 (f_arg16 : BufTy.Contents (Elt F) arg16.view.ty) : List (View.Piece (Elt F) S4x160x128 .f32) :=
  List.cons ⟨(Rect.unit (s := S4x160x128) ![2, 0, 0] S1x160x128.size inb_S4x160x128_S1x160x128_2_0_0), stateWord (tileEnd (tripMasks i arg2 arg13 arg0 v0 v1 v3 v4 v28 c64_i32_5 v30 v44 X_arg2 X_arg13 k)
    (tripTile2 arg3 arg4 arg5 arg6 arg7 arg8 arg9 arg10 arg11 X_arg3 X_arg4 X_arg5 X_arg6 X_arg7 X_arg8 X_arg9 X_arg10 X_arg11 k)
    (stateOf (arg16.view.readCov (raw5 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![2, 0, 0] S1x160x128.size inb_S4x160x128_S1x160x128_2_0_0).toLoadRect)))⟩ (raw5 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16)
/-- The state pieces up to head 3, first chunk, as the trip reads them back. -/
def raw7 (f_arg16 : BufTy.Contents (Elt F) arg16.view.ty) : List (View.Piece (Elt F) S4x160x128 .f32) :=
  List.cons ⟨(Rect.unit (s := S4x160x128) ![3, 0, 0] S1x160x128.size inb_S4x160x128_S1x160x128_3_0_0), stateWord (tileMid (tripMasks i arg2 arg13 arg0 v0 v1 v3 v4 v28 c64_i32_5 v30 v44 X_arg2 X_arg13 k)
    (tripTile3 arg3 arg4 arg5 arg6 arg7 arg8 arg9 arg10 arg11 X_arg3 X_arg4 X_arg5 X_arg6 X_arg7 X_arg8 X_arg9 X_arg10 X_arg11 k)
    (stateOf (View.readAt (Elt F) arg16.view (Rect.unit (s := S4x160x128) ![3, 0, 0] S1x160x128.size inb_S4x160x128_S1x160x128_3_0_0).toLoadRect f_arg16)))⟩ (raw6 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16)
/-- The state pieces up to head 3, second chunk, as the trip reads them back. -/
def raw8 (f_arg16 : BufTy.Contents (Elt F) arg16.view.ty) : List (View.Piece (Elt F) S4x160x128 .f32) :=
  List.cons ⟨(Rect.unit (s := S4x160x128) ![3, 0, 0] S1x160x128.size inb_S4x160x128_S1x160x128_3_0_0), stateWord (tileEnd (tripMasks i arg2 arg13 arg0 v0 v1 v3 v4 v28 c64_i32_5 v30 v44 X_arg2 X_arg13 k)
    (tripTile3 arg3 arg4 arg5 arg6 arg7 arg8 arg9 arg10 arg11 X_arg3 X_arg4 X_arg5 X_arg6 X_arg7 X_arg8 X_arg9 X_arg10 X_arg11 k)
    (stateOf (arg16.view.readCov (raw7 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![3, 0, 0] S1x160x128.size inb_S4x160x128_S1x160x128_3_0_0).toLoadRect)))⟩ (raw7 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16)
/-- The output pieces, from the state pieces as the trip reads them back. -/
def rawOut (f_arg16 : BufTy.Contents (Elt F) arg16.view.ty) : List (View.Piece (Elt F) S1x512x512 .bf16) :=
  [⟨Rect.unit (k0_off19 k 64#32) S1x64x128.size (k0_off19_inb k 1),
    tileOut1 (tripMasks i arg2 arg13 arg0 v0 v1 v3 v4 v28 c64_i32_5 v30 v44 X_arg2 X_arg13 k)
      (tripTile3 arg3 arg4 arg5 arg6 arg7 arg8 arg9 arg10 arg11 X_arg3 X_arg4 X_arg5 X_arg6 X_arg7 X_arg8 X_arg9 X_arg10 X_arg11 k)
      (stateOf (arg16.view.readCov (raw7 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![3, 0, 0] S1x160x128.size inb_S4x160x128_S1x160x128_3_0_0).toLoadRect))⟩,
   ⟨Rect.unit (k0_off19 k 0#32) S1x64x128.size (k0_off19_inb k 0),
    tileOut0 (tripMasks i arg2 arg13 arg0 v0 v1 v3 v4 v28 c64_i32_5 v30 v44 X_arg2 X_arg13 k)
      (tripTile3 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![3, 0, 0] S1x160x128.size inb_S4x160x128_S1x160x128_3_0_0).toLoadRect f_arg16))⟩,
   ⟨Rect.unit (k0_off15 k 64#32) S1x64x128.size (k0_off15_inb k 1),
    tileOut1 (tripMasks i arg2 arg13 arg0 v0 v1 v3 v4 v28 c64_i32_5 v30 v44 X_arg2 X_arg13 k)
      (tripTile2 arg3 arg4 arg5 arg6 arg7 arg8 arg9 arg10 arg11 X_arg3 X_arg4 X_arg5 X_arg6 X_arg7 X_arg8 X_arg9 X_arg10 X_arg11 k)
      (stateOf (arg16.view.readCov (raw5 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![2, 0, 0] S1x160x128.size inb_S4x160x128_S1x160x128_2_0_0).toLoadRect))⟩,
   ⟨Rect.unit (k0_off15 k 0#32) S1x64x128.size (k0_off15_inb k 0),
    tileOut0 (tripMasks i arg2 arg13 arg0 v0 v1 v3 v4 v28 c64_i32_5 v30 v44 X_arg2 X_arg13 k)
      (tripTile2 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![2, 0, 0] S1x160x128.size inb_S4x160x128_S1x160x128_2_0_0).toLoadRect f_arg16))⟩,
   ⟨Rect.unit (k0_off11 k 64#32) S1x64x128.size (k0_off11_inb k 1),
    tileOut1 (tripMasks i arg2 arg13 arg0 v0 v1 v3 v4 v28 c64_i32_5 v30 v44 X_arg2 X_arg13 k)
      (tripTile1 arg3 arg4 arg5 arg6 arg7 arg8 arg9 arg10 arg11 X_arg3 X_arg4 X_arg5 X_arg6 X_arg7 X_arg8 X_arg9 X_arg10 X_arg11 k)
      (stateOf (arg16.view.readCov (raw3 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![1, 0, 0] S1x160x128.size inb_S4x160x128_S1x160x128_1_0_0).toLoadRect))⟩,
   ⟨Rect.unit (k0_off11 k 0#32) S1x64x128.size (k0_off11_inb k 0),
    tileOut0 (tripMasks i arg2 arg13 arg0 v0 v1 v3 v4 v28 c64_i32_5 v30 v44 X_arg2 X_arg13 k)
      (tripTile1 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![1, 0, 0] S1x160x128.size inb_S4x160x128_S1x160x128_1_0_0).toLoadRect f_arg16))⟩,
   ⟨Rect.unit (k0_off7 k 64#32) S1x64x128.size (k0_off7_inb k 1),
    tileOut1 (tripMasks i arg2 arg13 arg0 v0 v1 v3 v4 v28 c64_i32_5 v30 v44 X_arg2 X_arg13 k)
      (tripTile0 arg3 arg4 arg5 arg6 arg7 arg8 arg9 arg10 arg11 X_arg3 X_arg4 X_arg5 X_arg6 X_arg7 X_arg8 X_arg9 X_arg10 X_arg11 k)
      (stateOf (arg16.view.readCov (raw1 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16) (Rect.unit (s := S4x160x128) ![0, 0, 0] S1x160x128.size inb_S4x160x128_S1x160x128_0_0_0).toLoadRect))⟩,
   ⟨Rect.unit (k0_off7 k 0#32) S1x64x128.size (k0_off7_inb k 0),
    tileOut0 (tripMasks i arg2 arg13 arg0 v0 v1 v3 v4 v28 c64_i32_5 v30 v44 X_arg2 X_arg13 k)
      (tripTile0 arg3 arg4 arg5 arg6 arg7 arg8 arg9 arg10 arg11 X_arg3 X_arg4 X_arg5 X_arg6 X_arg7 X_arg8 X_arg9 X_arg10 X_arg11 k)
      (stateOf (View.readAt (Elt F) arg16.view (Rect.unit (s := S4x160x128) ![0, 0, 0] S1x160x128.size inb_S4x160x128_S1x160x128_0_0_0).toLoadRect f_arg16))⟩]

/-- The trip's output pieces are the model's, whatever the output's buffer held. -/
theorem trip_out (f_arg14 : BufTy.Contents (Elt F) arg14.view.ty) (f_arg16 : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v1 v3 v4 v28 c64_i32_5 v30 v44 X_arg2 X_arg3 X_arg4 X_arg5 X_arg6 X_arg7 X_arg8 X_arg9 X_arg10 X_arg11 X_arg13 k).1 f_arg14 f_arg16 = outPieces i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16 := by
  have h : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v1 v3 v4 v28 c64_i32_5 v30 v44 X_arg2 X_arg3 X_arg4 X_arg5 X_arg6 X_arg7 X_arg8 X_arg9 X_arg10 X_arg11 X_arg13 k).1 f_arg14 f_arg16 = rawOut i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16 := by sl_kernel_rfl
  rw [h]
  simp only [rawOut, outPieces, raw8, raw7, raw6, raw5, raw4, raw3, raw2, raw1, View.readCov_cons_toLoadRect, stateOf_stateWord]

/-- The trip's state pieces are the model's, whatever the output's buffer held. -/
theorem trip_state (f_arg14 : BufTy.Contents (Elt F) arg14.view.ty) (f_arg16 : BufTy.Contents (Elt F) arg16.view.ty) :
    (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v1 v3 v4 v28 c64_i32_5 v30 v44 X_arg2 X_arg3 X_arg4 X_arg5 X_arg6 X_arg7 X_arg8 X_arg9 X_arg10 X_arg11 X_arg13 k).2.1 f_arg14 f_arg16 = statePieces i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16 := by
  have h : (trip_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v1 v3 v4 v28 c64_i32_5 v30 v44 X_arg2 X_arg3 X_arg4 X_arg5 X_arg6 X_arg7 X_arg8 X_arg9 X_arg10 X_arg11 X_arg13 k).2.1 f_arg14 f_arg16 = raw8 i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 k f_arg16 := by sl_kernel_rfl
  rw [h]
  simp only [statePieces, raw8, raw7, raw6, raw5, raw4, raw3, raw2, raw1, View.readCov_cons_toLoadRect, stateOf_stateWord]

end Cert.Model

end
-- ==== Proof.Loop.lean ====
/- The pieces the trips of the kernel's loop leave, one trip after another. -/
module

public import proofs.«01_k».proof.Proof.Trip

@[expose] public section

set_option maxRecDepth 16384

noncomputable section

namespace Cert.Model

open Idealize.ShloMosaic Idealize.ShloMosaic.TcCoe Idealize.SL.Sem Cert.KernelIdeal Cert.KernelIdeal.Gen

variable {F : FTy → Type} [FloatOps F]

variable (𝒱 : Variants) (c : Dev nD) (bd : Option 𝒱.V) (i : grid0.Coords) (arg2 : Memref sig .tc .smem S4x512 .i32)
    (harg2 : arg2.IsWhole) (arg3 : Memref sig .tc .vmem S1x4x160x512 .fp8e4m3) (harg3 : arg3.IsWhole) (arg4 : Memref sig .tc .vmem S4x4x512 .f32) (harg4 : arg4.IsWhole)
    (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3)
    (harg7 : arg7.IsWhole) (arg8 : Memref sig .tc .vmem S4x4x512 .f32) (harg8 : arg8.IsWhole) (arg9 : Memref sig .tc .vmem S1x4x160x512 .bf16) (harg9 : arg9.IsWhole)
    (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32)
    (harg12 : arg12.IsWhole) (arg13 : Memref sig .tc .vmem S4x512 .i32) (harg13 : arg13.IsWhole) (arg14 : Memref sig .tc .vmem S1x512x512 .bf16) (harg14 : arg14.IsWhole)
    (arg15 : Memref sig .tc .vmem S1x4x160x128 .f32) (harg15 : arg15.IsWhole) (arg16 : Memref sig .tc .vmem S4x160x128 .f32) (harg16 : arg16.IsWhole) (arg0 : BitVec 32)
    (v0 : IVec S128x128 32) (v1 : IVec S128x128 32) (v3 : IVec S128x128 1) (v4 : IVec S128x128 1) (v28 : IVec S128x128 32)
    (c64_i32_5 : BitVec 32) (v30 : IVec S128x128 32) (v44 : IVec S128x128 1) (X_arg2 : BufTy.Contents (Elt F) arg2.view.ty) (X_arg3 : BufTy.Contents (Elt F) arg3.view.ty)
    (X_arg4 : BufTy.Contents (Elt F) arg4.view.ty) (X_arg5 : BufTy.Contents (Elt F) arg5.view.ty) (X_arg6 : BufTy.Contents (Elt F) arg6.view.ty) (X_arg7 : BufTy.Contents (Elt F) arg7.view.ty) (X_arg8 : BufTy.Contents (Elt F) arg8.view.ty)
    (X_arg9 : BufTy.Contents (Elt F) arg9.view.ty) (X_arg10 : BufTy.Contents (Elt F) arg10.view.ty) (X_arg11 : BufTy.Contents (Elt F) arg11.view.ty) (X_arg13 : BufTy.Contents (Elt F) arg13.view.ty)
  (G_arg14 : BufTy.Contents (Elt F) arg14.view.ty) (G_arg16 : BufTy.Contents (Elt F) arg16.view.ty)

/-- The pieces of the trips before `n` (last first): of the output, and of the state. -/
def pieces : ℕ → List (View.Piece (Elt F) S1x512x512 .bf16) × List (View.Piece (Elt F) S4x160x128 .f32)
  | 0 => ([], [])
  | n + 1 =>
    if h : n < k0_t1_loop.trips then
      (outPieces i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 ⟨n, h⟩ (arg16.view.writes (Elt F) G_arg16 (pieces n).2) ++ (pieces n).1,
       statePieces i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 ⟨n, h⟩ (arg16.view.writes (Elt F) G_arg16 (pieces n).2) ++ (pieces n).2)
    else pieces n

/-- The loop's pieces are these, whatever the output's buffer held before the loop. -/
theorem pb_eq (n : ℕ) :
    pb_k0_t1 (F := F) 𝒱 c bd i arg2 harg2 arg3 harg3 arg4 harg4 arg5 harg5 arg6 harg6 arg7 harg7 arg8 harg8 arg9 harg9 arg10 harg10 arg11 harg11 arg12 harg12 arg13 harg13 arg14 harg14 arg15 harg15 arg16 harg16 arg0 v0 v1 v3 v4 v28 c64_i32_5 v30 v44 X_arg2 X_arg3 X_arg4 X_arg5 X_arg6 X_arg7 X_arg8 X_arg9 X_arg10 X_arg11 X_arg13 G_arg14 G_arg16 n
      = pieces i arg2 arg3 arg4 arg5 arg6 arg7 arg8 arg9 arg10 arg11 arg13 arg16 arg0 v0 v1 v3 v4 v28 c64_i32_5 v30 v44 X_arg2 X_arg3 X_arg4 X_arg5 X_arg6 X_arg7 X_arg8 X_arg9 X_arg10 X_arg11 X_arg13 G_arg16 n := by
  induction n with
  | zero => rfl
  | succ n ih =>
    rw [pb_k0_t1.eq_2, ih]
    unfold pb_k0_t1Step
    rw [pieces]
    by_cases h : n < k0_t1_loop.trips
    · rw [dif_pos h, dif_pos h]; dsimp only [tripL_k0_t1]; rw [trip_out, trip_state]
    · rw [dif_neg h, dif_neg h]

end Cert.Model

end
-- ==== Proof.Run.lean ====
module

public import proofs.«01_k».proof.Proof.Gen.KernelIdeal.Frame.Runs
public import proofs.«01_k».proof.Proof.Loop

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen Cert.Model
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the scratch holds before the loop: the state the sequence starts from. -/
def entryPieces (c : Dev nD) (arg12 : Memref sig .tc .vmem S1x4x160x128 .f32) (harg12 : arg12.IsWhole) (x10 : Vec F S1x4x160x128 .f32) :
    List (View.Piece (Elt F) S4x160x128 .f32) :=
  [⟨Rect.unit (s := S4x160x128) ![0, 0, 0] S4x160x128.size inb_S4x160x128_S4x160x128_0_0_0,
    k0_pay534 (View.readAt (Elt F) arg12.view (Rect.unit (s := S1x4x160x128) ![0, 0, 0, 0] S1x4x160x128.size inb_S1x4x160x128_S1x4x160x128_0_0_0_0).toLoadRect (harg12.unread x10))⟩]

/-- The pieces of the body's loop after `n` trips. -/
def bodyPieces (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32)
    (n : ℕ) :=
  pieces i arg2 arg3 arg4 arg5 arg6 arg7 arg8 arg9 arg10 arg11 arg13 arg16 (BitVec.ofNat 32 (i 0).val)
    (iota .tc S128x128 32 [1] iota_S128x128_d1_w32) (iota .tc S128x128 32 [0] iota_S128x128_d0_w32) k0_pay526 k0_pay527 k0_pay528 64#32 k0_pay529 k0_pay530
    (harg2.unread x0) (harg3.unread x1) (harg4.unread x2) (harg5.unread x3) (harg6.unread x4) (harg7.unread x5) (harg8.unread x6) (harg9.unread x7) (harg10.unread x8) (harg11.unread x9) (harg13.unread x11)
    (arg16.view.writes (Elt F) arg16.view.junk (entryPieces c arg12 harg12 x10)) n

/-- The pieces of the output the body leaves. -/
def outs (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) :
    List (View.Piece (Elt F) S1x512x512 .bf16) :=
  (bodyPieces c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 (Scf.trips k0_t1_loop.lb k0_t1_loop.ub k0_t1_loop.st)).1

/-- What the body reads of the scratch after its loop. -/
def lastState (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) : Vec F S4x160x128 .f32 :=
  arg16.view.readCov ((bodyPieces c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 (Scf.trips k0_t1_loop.lb k0_t1_loop.ub k0_t1_loop.st)).2 ++ entryPieces c arg12 harg12 x10)
    (Rect.unit (s := S4x160x128) ![0, 0, 0] S4x160x128.size inb_S4x160x128_S4x160x128_0_0_0).toLoadRect

/-- The pieces of the state the body leaves. -/
def states (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) :
    List (View.Piece (Elt F) S1x4x160x128 .f32) :=
  [⟨Rect.unit (s := S1x4x160x128) ![0, 0, 0, 0] S1x4x160x128.size inb_S1x4x160x128_S1x4x160x128_0_0_0_0,
    k0_pay1 (lastState c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11)⟩]

-- (the run's proof term is large: the definition's epilogue — `abstractNestedProofs` — walks it past the default budget)
set_option maxHeartbeats 4000000 in
/-- What the body's stores leave in each output's staging memref, as pieces (last first), WITH the
    proof that on whole staging memrefs — the inputs' at their contents, the other outputs' at
    anything, the scratch buffers at anything, the body runs to the continuation holding the inputs' as they were,
    the scratch at some contents, each output's buffer with its pieces written: the printed functions are their skeletons
    (`Gen.*_eq_skeleton`), which `sl_exec` runs (Lib/Exec.lean); the pieces are
    the witness that run finds (assigned when `iexact` hands the buffer to the continuation). -/
noncomputable def kernelRun (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) :
    Σ' (L12 : List (View.Piece (Elt F) S1x512x512 .bf16)), { L13 : List (View.Piece (Elt F) S1x4x160x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ d, owns (c : Thread nD τ) arg14 fullShare d) ∗ (∃ d, owns (c : Thread nD τ) arg15 fullShare d) ∗ (∃ d, owns (c : Thread nD τ) arg16 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ (∃ f, arg14.view.loc (c : Thread nD τ) ↦[arg14.view.set]{fullShare} arg14.view.writes (Elt F) f L12) ∗ (∃ f, arg15.view.loc (c : Thread nD τ) ↦[arg15.view.set]{fullShare} arg15.view.writes (Elt F) f L13) ∗ (∃ d, owns (c : Thread nD τ) arg16 fullShare d)) -∗ K ⟨⟩))
          ⊢ wp frame (wpE (defs₀ (F := F)) Variants.none c none) E (cc0_rwkv7 i arg2 harg2 arg3 harg3 arg4 harg4 arg5 harg5 arg6 harg6 arg7 harg7 arg8 harg8 arg9 harg9 arg10 harg10 arg11 harg11 arg12 harg12 arg13 harg13 arg14 harg14 arg15 harg15 arg16 harg16) K } := by
  refine ⟨outs c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11, states c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11, fun E K => ?run⟩
  case run =>
    simp only [cc0_rwkv7_eq_skeleton]; unfold cc0_rwkv7_skel
    simp only [k0_part87_eq_skeleton, k0_part88_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    unfold kernelRun.sl.v78
    simp only [pb_eq]
    unfold outs states lastState bodyPieces
    isplitl [H12]; · iexists f12; iexact H12
    isplitl [H13]; · iexists f13; iexact H13
    iexists _, _; isplitr; swap; · iexact HS0
    ipureintro; rfl

end Cert.KernelIdeal.Run

end
-- ==== Proof.Frame.lean ====
/- The kernel at any number system: its body's run, point by point, and the run of the whole program. -/
module

public import proofs.«01_k».proof.Proof.Run
public import Idealize.ShloMosaic.Lib.Claim

@[expose] public section

-- membership in a rectangle of production extents (`View.cover_of_tiled`): the elaborator's structural look
-- recurses once per coordinate of the long axes
set_option maxRecDepth 16384

noncomputable section

namespace Cert.KernelIdeal.Run

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 12 tile its block (32 stores of `S1x64x128`, checked by the kernel's evaluation: Lib/Ring.lean `Piece.tiledL`, linear in the pieces, through a loop's `@[irreducible]` trip theorem too), so they cover it. -/
theorem cover0_A_12 (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) (y : S1x512x512.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1 S1x64x128.size (by sl_kernel_rfl) y

/-- What the run leaves in output 12's staging buffer: its pieces read back over junk. -/
def out0_A_12 (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) : Vec F S1x512x512 .bf16 :=
  VO0_12.read (Elt F) (VO0_12.writes (Elt F) VO0_12.junk (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).1)

/-- The run's pieces for output 13 tile its block (1 store of `S1x4x160x128`, checked by the kernel's evaluation: Lib/Ring.lean `Piece.tiledL`, linear in the pieces, through a loop's `@[irreducible]` trip theorem too), so they cover it. -/
theorem cover0_A_13 (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) (y : S1x4x160x128.Idx) :
    ∃ pc ∈ (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.1, y ∈ pc.1.set :=
  View.cover_of_tiledL (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.1 S1x4x160x128.size (by sl_kernel_rfl) y

/-- What the run leaves in output 13's staging buffer: its pieces read back over junk. -/
def out0_A_13 (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)
    (x0 : Vec F S4x512 .i32) (x1 : Vec F S1x4x160x512 .fp8e4m3) (x2 : Vec F S4x4x512 .f32) (x3 : Vec F S1x4x160x512 .fp8e4m3) (x4 : Vec F S4x4x512 .f32) (x5 : Vec F S1x4x512x128 .fp8e4m3) (x6 : Vec F S4x4x512 .f32) (x7 : Vec F S1x4x160x512 .bf16) (x8 : Vec F S1x4x160x512 .bf16) (x9 : Vec F S1x4x160x512 .f32) (x10 : Vec F S1x4x160x128 .f32) (x11 : Vec F S4x512 .i32) : Vec F S1x4x160x128 .f32 :=
  VO0_13.read (Elt F) (VO0_13.writes (Elt F) VO0_13.junk (kernelRun c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11).2.1)

/-! ## What the outputs hold after each point -/

/-- What the outputs' staging buffers hold after the body at point `t` (as a tuple, in window order): the run's contents at
    the point's memrefs and input blocks. -/
def outsAt0 (c : Dev nD) (t : Fin cfg0.N) : Vec F S1x512x512 .bf16 × Vec F S1x4x160x128 .f32 :=
  (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t), out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t))

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => (outsAt0 m c t).1
    | ⟨13, _⟩ => (outsAt0 m c t).2
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = (outsAt0 m c t).1 := by dsimp only [dats]
theorem after0_13 (c : Dev nD) (t : Fin cfg0.N) : (dats m 0 c).after 13 t = (outsAt0 m c t).2 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t))

set_option maxHeartbeats 1200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  rw [show (dats m 0 c).Φ t.castSucc = Pipeline.ΦA spec0 c from rfl, PhiA0_eq]
  unfold outsAt0
  unfold out0_A_12 out0_A_13; (try dsimp only)
  iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply ((kernelRun c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)).2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [HS0]; · iexact HS0
  iintro ⟨H0, H1, H2, H3, H4, H5, H6, H7, H8, H9, H10, H11, ⟨%e12, H12⟩, ⟨%e13, H13⟩, HS0⟩
  isplitl [HS0 Hg]
  · isplitl [HS0]
    · iexact HS0
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]
  · unfold owns; iexists _; isplitr
    swap; · iexact H12
    ipureintro; exact View.read_writes_of_cover _ _ _ _ _ (cover0_A_12 c _ _ _ _ _ _ _ _ _ _ _ _ _ _ _ _ _ _ _ _ _ _ _ _ _ _ _ _ _ _ _ _ _ _ _ _ _ _ _ _ _ _ _)
  unfold owns; iexists _; isplitr
  swap; · iexact H13
  ipureintro; exact View.read_writes_of_cover _ _ _ _ _ (cover0_A_13 c _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

/-- The frame at any `F`: the program terminates, leaves its arguments as they were, and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  θ_run_and (unchanged m ρ) ((θ_run defs _ _).mono (fun _ h => h.2) (run_main_quiescent m ρ))

end Cert.KernelIdeal.Run

end
-- ==== Proof.KernelFrame.lean ====
/- The kernel and its ideal are printed alike: no operation was rewritten, so the two programs are the same term.
   The frame of the ideal, which holds at every interpretation of the floats, is therefore the frame of the kernel. -/
module

public import proofs.«01_k».proof.Defs
public import proofs.«01_k».proof.Proof.Gen.Kernel
public import proofs.«01_k».proof.Proof.Gen.KernelIdeal
public import proofs.«01_k».proof.Proof.Frame

@[expose] public section

set_option maxRecDepth 100000
set_option maxHeartbeats 2000000

noncomputable section

namespace Cert.Proof

open Idealize.ShloMosaic Idealize.SL.Sem

/-- The two kernel bodies are the same. -/
theorem body_eq : @Cert.Kernel.cc0_rwkv7 Bits _ Cert.Kernel.Gen.facts = @Cert.KernelIdeal.cc0_rwkv7 Bits _ Cert.KernelIdeal.Gen.facts := (rfl)

/-- The two host programs are the same. -/
theorem main_eq : @Cert.Kernel.main Bits _ Cert.Kernel.Gen.facts = @Cert.KernelIdeal.main Bits _ Cert.KernelIdeal.Gen.facts := (rfl)

/-- The tables that give the bodies of the launches are the same: each has one launch. -/
theorem defs₀_eq : @Cert.Kernel.defs₀ Bits _ Cert.Kernel.Gen.facts = @Cert.KernelIdeal.defs₀ Bits _ Cert.KernelIdeal.Gen.facts := by
  unfold Cert.Kernel.defs₀ Cert.KernelIdeal.defs₀
  refine congrArg Defs.onTc (funext fun l => funext fun a => ?_)
  obtain ⟨l, hl⟩ := l
  cases l with
  | zero =>
    obtain ⟨t, s⟩ := a
    dsimp only
    rw [body_eq]
    rfl
  | succ n => exact absurd hl (by omega)

/-- The tables with the pipeline's own procedures are the same. -/
theorem defs_eq : @Cert.Kernel.defs Bits _ Cert.Kernel.Gen.facts = @Cert.KernelIdeal.defs Bits _ Cert.KernelIdeal.Gen.facts :=
  congrArg (Pipeline.defs _) defs₀_eq

/-- The kernel terminates, leaves its arguments as they were, and leaves every semaphore at zero. -/
theorem frame_kernel : Cert.quiescent_Kernel (hKernel := Cert.Kernel.Gen.facts) := by
  intro m ρ _
  have h := Cert.KernelIdeal.Run.frame (F := Bits) m ρ
  rw [← main_eq, ← defs_eq] at h
  exact h

end Cert.Proof

end
-- ==== Proof.Mat.lean ====
/- Matrices of finite numbers, at the ideal number system: what the kernel's operations make of them. -/
module

public import proofs.«01_k».proof.Proof.Model
public import Idealize.ShloMosaic.Lib.MatmulPlain
public import Idealize.ShloMosaic.Lib.IdealHost
public import Idealize.ShloMosaic.Lib.Pointwise
public import Mathlib.Algebra.BigOperators.Fin
public import Mathlib.Algebra.BigOperators.Intervals

@[expose] public section

noncomputable section

namespace Cert.Model

open Idealize.ShloMosaic Idealize.ShloMosaic.ValueIdx Finset Cert.KernelIdeal

/-- The matrix `x` holds the real numbers `f`. -/
def Mat {m n : ℕ} {φ : FTy} (x : FVec Ideal ⟨2, ![m, n]⟩ φ) (f : ℕ → ℕ → ℝ) : Prop :=
  ∀ i : (⟨2, ![m, n]⟩ : Shape).Idx, x i = ((f (i 0).val (i 1).val : ℝ) : EReal)

/-- The matrix `x` of truth values is true where `p` is. -/
def Msk {m n : ℕ} (x : IVec ⟨2, ![m, n]⟩ 1) (p : ℕ → ℕ → Prop) : Prop :=
  ∀ i : (⟨2, ![m, n]⟩ : Shape).Idx, x i = 1 ↔ p (i 0).val (i 1).val

/-- The matrix `x` of words holds the words `f`. -/
def IMat {m n : ℕ} (x : IVec ⟨2, ![m, n]⟩ 32) (f : ℕ → ℕ → BitVec 32) : Prop :=
  ∀ i : (⟨2, ![m, n]⟩ : Shape).Idx, x i = f (i 0).val (i 1).val

variable {m n k : ℕ} {φ ψ : FTy}

theorem Mat.congr {x : FVec Ideal ⟨2, ![m, n]⟩ φ} {f g : ℕ → ℕ → ℝ} (h : Mat x f)
    (e : ∀ i < m, ∀ j < n, f i j = g i j) : Mat x g := fun i => by
  rw [h i, e _ (i 0).isLt _ (i 1).isLt]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## Entry by entry -/

section pointwise
variable {x y : FVec Ideal ⟨2, ![m, n]⟩ φ} {f g : ℕ → ℕ → ℝ}

theorem Mat.add (hx : Mat x f) (hy : Mat y g) : Mat (addf x y) (fun i j => f i j + g i j) := fun i => by
  show x i + y i = _
  rw [hx i, hy i, ← EReal.coe_add]
theorem Mat.sub (hx : Mat x f) (hy : Mat y g) : Mat (subf x y) (fun i j => f i j - g i j) := fun i => by
  show x i - y i = _
  rw [hx i, hy i, ← EReal.coe_sub]
theorem Mat.mul (hx : Mat x f) (hy : Mat y g) : Mat (mulf x y) (fun i j => f i j * g i j) := fun i => by
  show x i * y i = _
  rw [hx i, hy i, ← EReal.coe_mul]
theorem Mat.exp (hx : Mat x f) : Mat (Idealize.ShloMosaic.exp x) (fun i j => Real.exp (f i j)) := fun i => by
  show Ideal.exp (x i) = _
  rw [hx i]; rfl
theorem Mat.truncf {h} (hx : Mat x f) : Mat (Idealize.ShloMosaic.truncf ψ x h) f := hx
theorem Mat.extf {h} (hx : Mat x f) : Mat (Idealize.ShloMosaic.extf ψ x h) f := hx
theorem Mat.select {c : IVec ⟨2, ![m, n]⟩ 1} {p : ℕ → ℕ → Prop} [∀ i j, Decidable (p i j)] (hc : Msk c p)
    (hx : Mat x f) (hy : Mat y g) :
    Mat (Idealize.ShloMosaic.select c x y : FVec Ideal ⟨2, ![m, n]⟩ φ) (fun i j => if p i j then f i j else g i j) := fun i => by
  show (if c i = 1 then x i else y i) = _
  beta_reduce
  by_cases h : p (i 0).val (i 1).val
  · rw [if_pos ((hc i).2 h), if_pos h, hx i]
  · rw [if_neg fun hh => h ((hc i).1 hh), if_neg h, hy i]
theorem Mat.bcast {a : EReal} {r : ℝ} (h : a = (r : EReal)) : Mat (φ := φ) (broadcast ⟨2, ![m, n]⟩ a) (fun _ _ => r) := fun i => h
end pointwise

section f32
variable {x y : FVec Ideal ⟨2, ![m, n]⟩ .f32} {f g : ℕ → ℕ → ℝ}

theorem Mat.hi (hx : Mat x f) : Mat (Model.hi x) f := hx
theorem Mat.rest (hx : Mat x f) : Mat (Model.rest x) (fun _ _ => 0) := fun i => by
  show x i - x i = _
  rw [hx i, ← EReal.coe_sub, sub_self]
theorem Mat.mi (hx : Mat x f) : Mat (Model.mi x) (fun _ _ => 0) := hx.rest
theorem Mat.lo (hx : Mat x f) : Mat (Model.lo x) (fun _ _ => 0) := hx.rest.rest
theorem Mat.zero : Mat (Model.zero (F := Ideal) ⟨2, ![m, n]⟩) (fun _ _ => 0) := fun i => by
  show Ideal.ofBits .f32 0x00000000#32 = _
  rw [Ideal.ofBits_zero_f32]; rfl
theorem Mat.one : Mat (φ := .f32) (broadcast ⟨2, ![m, n]⟩ (Scalar.ofBits .f32 0x3F800000#32 : Ideal .f32)) (fun _ _ => 1) := fun i => by
  show Ideal.ofBits .f32 0x3F800000#32 = _
  rw [Ideal.ofBits_one_f32]; rfl
theorem Mat.zero' : Mat (φ := .f32) (broadcast ⟨2, ![m, n]⟩ (Scalar.ofBits .f32 0x00000000#32 : Ideal .f32)) (fun _ _ => 0) := Mat.zero
theorem Mat.bzero : Mat (φ := .bf16) (broadcast ⟨2, ![m, n]⟩ (Scalar.ofBits .bf16 0x0000#16 : Ideal .bf16)) (fun _ _ => 0) := fun i => by
  show Ideal.ofBits .bf16 0x0000#16 = _
  rw [Ideal.ofBits_zero_bf16]; rfl
end f32

/-! ## Parts and arrangements -/

theorem Mat.slice {x : FVec Ideal ⟨2, ![m, n]⟩ φ} {f : ℕ → ℕ → ℝ} {p q a b : ℕ}
    {h : (⟨2, ![m, n]⟩ : Shape).Slices ![a, b] ⟨2, ![p, q]⟩} (hx : Mat x f) :
    Mat (φ := φ) (extractStridedSlice ⟨2, ![p, q]⟩ ![a, b] x h) (fun i j => f (a + i) (b + j)) := fun i => hx _

theorem Mat.transpose {x : FVec Ideal ⟨2, ![m, n]⟩ φ} {f : ℕ → ℕ → ℝ}
    {h : (⟨2, ![m, n]⟩ : Shape).Transposes [1, 0] ⟨2, ![n, m]⟩} (hx : Mat x f) :
    Mat (φ := φ) (Idealize.ShloMosaic.transpose ⟨2, ![n, m]⟩ [1, 0] x h) (fun i j => f j i) := fun i => hx _

theorem IMat.transpose {x : IVec ⟨2, ![m, n]⟩ 32} {f : ℕ → ℕ → BitVec 32}
    {h : (⟨2, ![m, n]⟩ : Shape).Transposes [1, 0] ⟨2, ![n, m]⟩} (hx : IMat x f) :
    IMat (Idealize.ShloMosaic.transpose ⟨2, ![n, m]⟩ [1, 0] x h) (fun i j => f j i) := fun i => hx _

theorem IMat.slice {x : IVec ⟨2, ![m, n]⟩ 32} {f : ℕ → ℕ → BitVec 32} {p q a b : ℕ}
    {h : (⟨2, ![m, n]⟩ : Shape).Slices ![a, b] ⟨2, ![p, q]⟩} (hx : IMat x f) :
    IMat (extractStridedSlice ⟨2, ![p, q]⟩ ![a, b] x h) (fun i j => f (a + i) (b + j)) := fun i => hx _

theorem IMat.select {c : IVec ⟨2, ![m, n]⟩ 1} {p : ℕ → ℕ → Prop} [∀ i j, Decidable (p i j)] {x y : IVec ⟨2, ![m, n]⟩ 32}
    {f g : ℕ → ℕ → BitVec 32} (hc : Msk c p) (hx : IMat x f) (hy : IMat y g) :
    IMat (Idealize.ShloMosaic.select c x y) (fun i j => if p i j then f i j else g i j) := fun i => by
  show (if c i = 1 then x i else y i) = _
  beta_reduce
  by_cases h : p (i 0).val (i 1).val
  · rw [if_pos ((hc i).2 h), if_pos h, hx i]
  · rw [if_neg fun hh => h ((hc i).1 hh), if_neg h, hy i]

theorem bit_eq {w : ℕ} (a b : BitVec w) : BitVec.ofBool (a == b) = 1 ↔ a = b := by
  by_cases h : a = b
  · simp [h]
  · simp only [h, iff_false]
    rw [beq_false_of_ne h]
    decide

theorem IMat.eq {x y : IVec ⟨2, ![m, n]⟩ 32} {f g : ℕ → ℕ → BitVec 32} (hx : IMat x f) (hy : IMat y g) :
    Msk (cmpi .eq x y) (fun i j => f i j = g i j) := fun i => by
  show BitVec.ofBool (x i == y i) = 1 ↔ _
  rw [hx i, hy i]
  exact bit_eq _ _

theorem IMat.bcast (w : BitVec 32) : IMat (broadcast ⟨2, ![m, n]⟩ w) (fun _ _ => w) := fun i => rfl

theorem Msk.and {x y : IVec ⟨2, ![m, n]⟩ 1} {p q : ℕ → ℕ → Prop} (hx : Msk x p) (hy : Msk y q) :
    Msk (andi x y) (fun i j => p i j ∧ q i j) := fun i => by
  show x i &&& y i = 1 ↔ _ ∧ _
  rw [← hx i, ← hy i]
  generalize x i = a; generalize y i = b
  revert a b; decide

theorem IMat.turn {x : IVec ⟨2, ![m, 128]⟩ 32} {f : ℕ → ℕ → BitVec 32} {h} (hx : IMat x f) :
    IMat (dynamicRotate 1 64#32 none x h) (fun i j => f i ((j + 64) % 128)) := fun i => hx _

theorem Mat.turn {x : FVec Ideal ⟨2, ![m, 128]⟩ φ} {f : ℕ → ℕ → ℝ} {h} (hx : Mat x f) :
    Mat (φ := φ) (dynamicRotate 1 64#32 none x h) (fun i j => f i ((j + 64) % 128)) := fun i => hx _

/-- Matrices laid one below the other. -/
def catRows : List (ℕ × (ℕ → ℕ → ℝ)) → ℕ → ℕ → ℝ
  | [] => fun _ _ => 0
  | p :: l => fun i j => if i < p.1 then p.2 i j else catRows l (i - p.1) j

/-- Matrices laid side by side. -/
def catCols : List (ℕ × (ℕ → ℕ → ℝ)) → ℕ → ℕ → ℝ
  | [] => fun _ _ => 0
  | p :: l => fun i j => if j < p.1 then p.2 i j else catCols l i (j - p.1)

/-- A list of matrices of `n` columns. -/
inductive RowPieces (n : ℕ) (φ : FTy) : List ((s : Shape) × (s.Idx → EReal)) → List (ℕ × (ℕ → ℕ → ℝ)) → Prop
  | nil : RowPieces n φ [] []
  | cons {m : ℕ} {x : FVec Ideal ⟨2, ![m, n]⟩ φ} {f : ℕ → ℕ → ℝ} {xs l} : Mat x f → RowPieces n φ xs l →
      RowPieces n φ (⟨⟨2, ![m, n]⟩, x⟩ :: xs) ((m, f) :: l)

/-- A list of matrices of `m` rows. -/
inductive ColPieces (m : ℕ) (φ : FTy) : List ((s : Shape) × (s.Idx → EReal)) → List (ℕ × (ℕ → ℕ → ℝ)) → Prop
  | nil : ColPieces m φ [] []
  | cons {n : ℕ} {x : FVec Ideal ⟨2, ![m, n]⟩ φ} {f : ℕ → ℕ → ℝ} {xs l} : Mat x f → ColPieces m φ xs l →
      ColPieces m φ (⟨⟨2, ![m, n]⟩, x⟩ :: xs) ((n, f) :: l)

theorem RowPieces.at {xs l} (h : RowPieces n φ xs l) (j : (⟨2, ![m, n]⟩ : Shape).Idx) :
    ∀ hs c hc, concatenateAt (⟨2, ![m, n]⟩ : Shape) 0 j xs hs c hc = ((catRows l c (j 1).val : ℝ) : EReal) := by
  induction h with
  | nil => exact fun hs c hc => absurd hc (Nat.not_lt_zero _)
  | @cons m' x f xs l hx hl ih =>
    intro hs c hc
    cases hl with
    | nil =>
      rw [concatenateAt_singleton, hx]
      have : c < m' := by
        have := hc
        simp [axisSizes] at this
        exact this
      simp only [catRows, if_pos this]
      rfl
    | @cons m2 x2 f2 xs l hx2 hl2 =>
      rw [concatenateAt_cons]
      show _ = ((if c < m' then f c (j 1).val else _ : ℝ) : EReal)
      by_cases hlt : c < m'
      · rw [if_pos hlt]
        rw [dif_pos (by exact hlt), hx]
        rfl
      · rw [if_neg hlt, dif_neg (by exact hlt)]
        exact ih _ _ _

theorem ColPieces.at {xs l} (h : ColPieces m φ xs l) (j : (⟨2, ![m, n]⟩ : Shape).Idx) :
    ∀ hs c hc, concatenateAt (⟨2, ![m, n]⟩ : Shape) 1 j xs hs c hc = ((catCols l (j 0).val c : ℝ) : EReal) := by
  induction h with
  | nil => exact fun hs c hc => absurd hc (Nat.not_lt_zero _)
  | @cons m' x f xs l hx hl ih =>
    intro hs c hc
    cases hl with
    | nil =>
      rw [concatenateAt_singleton, hx]
      have : c < m' := by
        have := hc
        simp [axisSizes] at this
        exact this
      simp only [catCols, if_pos this]
      rfl
    | @cons m2 x2 f2 xs l hx2 hl2 =>
      rw [concatenateAt_cons]
      show _ = ((if c < m' then f (j 0).val c else _ : ℝ) : EReal)
      by_cases hlt : c < m'
      · rw [if_pos hlt]
        rw [dif_pos (by exact hlt), hx]
        rfl
      · rw [if_neg hlt, dif_neg (by exact hlt)]
        exact ih _ _ _

theorem Mat.rows {xs l} (hp : RowPieces n φ xs l) (h : Shape.Concatenates (xs.map (·.1)) (⟨2, ![m, n]⟩ : Shape) 0) :
    Mat (φ := φ) (concatenate (⟨2, ![m, n]⟩ : Shape) 0 xs h) (catRows l) := fun j => by
  rw [concatenate_apply]; exact hp.at j _ _ _
theorem Mat.cols {xs l} (hp : ColPieces m φ xs l) (h : Shape.Concatenates (xs.map (·.1)) (⟨2, ![m, n]⟩ : Shape) 1) :
    Mat (φ := φ) (concatenate (⟨2, ![m, n]⟩ : Shape) 1 xs h) (catCols l) := fun j => by
  rw [concatenate_apply]; exact hp.at j _ _ _

/-! ## Products -/

theorem Mat.dot {x : FVec Ideal ⟨2, ![m, k]⟩ φ} {y : FVec Ideal ⟨2, ![k, n]⟩ ψ} {f g : ℕ → ℕ → ℝ} (hx : Mat x f) (hy : Mat y g) :
    Mat (matmul (DotDims.plain m k n) none x y (constant ⟨2, ![m, n]⟩ .f32 0x00000000#32))
      (fun i j => ∑ c ∈ range k, f i c * g c j) := by
  have key : ∀ (r : Fin m) (c : Fin n), FloatOps.matmul (F := Ideal) (DotDims.plain m k n) none x y (constant ⟨2, ![m, n]⟩ .f32 0x00000000#32) (ValueIdx.ix2 r c)
      = ((∑ q ∈ range k, f r.val q * g q c.val : ℝ) : EReal) := by
    intro r c
    have z : (constant (F := Ideal) ⟨2, ![m, n]⟩ .f32 0x00000000#32) (ValueIdx.ix2 r c) = 0 := Ideal.ofBits_zero_f32
    rw [Ideal.matmul_plain_apply, z, zero_add, coe_sum, ← Fin.sum_univ_eq_sum_range (fun q => ((f r.val q * g q c.val : ℝ) : EReal))]
    refine Finset.sum_congr rfl fun q _ => ?_
    rw [hx, hy, EReal.coe_mul]
    rfl
  intro i
  have e : i = ValueIdx.ix2 (n0 := m) (n1 := n) (i 0) (i 1) := by funext a; match a with | ⟨0, _⟩ => rfl | ⟨1, _⟩ => rfl
  have := key (i 0) (i 1)
  rw [← e] at this
  exact this

/-- A sum over two stretches. -/
theorem sum_split (a b : ℕ) (f : ℕ → ℝ) : ∑ c ∈ range (a + b), f c = ∑ c ∈ range a, f c + ∑ c ∈ range b, f (a + c) :=
  Finset.sum_range_add f a b

end Cert.Model

end
-- ==== Proof.Inverse.lean ====
/- The inverse of a unit lower triangular matrix, found by doubling: blocks of two, four, and so on, and the
   triangular system it solves. Real numbers only. -/
module

public import Mathlib.LinearAlgebra.Matrix.NonsingularInverse
public import Mathlib.Data.Real.Basic
public import Mathlib.Algebra.BigOperators.Fin
public import Mathlib.Tactic.Ring
public import Mathlib.Tactic.Abel
public import Mathlib.Tactic.Linarith

@[expose] public section

noncomputable section

namespace Cert.Alg

open Finset

/-- The inverse within blocks of two, of `1 - A`. -/
def inv0 (A : ℕ → ℕ → ℝ) (i j : ℕ) : ℝ := (if i = j then 1 else 0) + (if i / 2 = j / 2 then A i j else 0)

/-- The part of `A` between two blocks of `m` in one block of `2 * m`. -/
def between (A : ℕ → ℕ → ℝ) (m i j : ℕ) : ℝ := if i / m ≠ j / m ∧ i / (2 * m) = j / (2 * m) then A i j else 0

/-- From the inverse within blocks of `m` to the one within blocks of `2 * m`. -/
def invStep (A T : ℕ → ℕ → ℝ) (m i j : ℕ) : ℝ :=
  T i j + ∑ k ∈ range 64, T i k * ∑ l ∈ range 64, between A m k l * T l j

/-- The inverse of `1 - A`. -/
def inverse (A : ℕ → ℕ → ℝ) : ℕ → ℕ → ℝ :=
  invStep A (invStep A (invStep A (invStep A (invStep A (inv0 A) 2) 4) 8) 16) 32

/-- `A` is strictly lower triangular. -/
def Strict (A : ℕ → ℕ → ℝ) : Prop := ∀ i j, i ≤ j → A i j = 0

/-- `T` is block diagonal in blocks of `m` and inverts `1 - A` there. -/
structure Inverts (A T : ℕ → ℕ → ℝ) (m : ℕ) : Prop where
  block : ∀ i j, i / m ≠ j / m → T i j = 0
  solves : ∀ i j, i < 64 → j < 64 →
    T i j = (if i = j then 1 else 0) + ∑ k ∈ range 64, (if i / m = k / m then A i k else 0) * T k j

theorem inverts_inv0 {A : ℕ → ℕ → ℝ} (hA : Strict A) : Inverts A (inv0 A) 2 where
  block i j h := by
    have : i ≠ j := fun e => h (by rw [e])
    simp [inv0, this, h]
  solves i j hi hj := by
    unfold inv0
    congr 1
    rw [Finset.sum_eq_single j]
    · have : A j j = 0 := hA j j le_rfl
      simp [this]
    · intro k hk hkj
      by_cases h1 : i / 2 = k / 2
      · by_cases h2 : k / 2 = j / 2
        · -- three different members of a block of two, or `k ≤ j`, or `i ≤ k`
          by_cases h3 : k ≤ j
          · simp [hkj, hA k j h3]
          · have : A i k = 0 := hA i k (by omega)
            simp [this]
        · simp [hkj, h2]
      · simp [h1]
    · intro h; exact absurd (Finset.mem_range.2 hj) h

/-- A function of two numbers as a 64 by 64 matrix. -/
def M (f : ℕ → ℕ → ℝ) : Matrix (Fin 64) (Fin 64) ℝ := Matrix.of fun i j => f i j

theorem mul_M (f g : ℕ → ℕ → ℝ) : M f * M g = M (fun i j => ∑ k ∈ range 64, f i k * g k j) := by
  ext i j
  simp only [M, Matrix.mul_apply, Matrix.of_apply]
  exact (Finset.sum_range (fun k => f i k * g k j)).symm

theorem Inverts.step {A T : ℕ → ℕ → ℝ} (hA : Strict A) {m : ℕ} (hm : 0 < m) (h : Inverts A T m) :
    Inverts A (invStep A T m) (2 * m) where
  block i j hij := by
    have coarse : ∀ a b : ℕ, a / m = b / m → a / (2 * m) = b / (2 * m) := fun a b e => by
      rw [Nat.mul_comm 2 m, ← Nat.div_div_eq_div_mul, ← Nat.div_div_eq_div_mul, e]
    have h1 : T i j = 0 := h.block i j fun e => hij (coarse _ _ e)
    unfold invStep
    rw [h1, zero_add]
    refine Finset.sum_eq_zero fun k _ => ?_
    by_cases hik : i / m = k / m
    · rw [Finset.sum_eq_zero, mul_zero]
      intro l _
      unfold between
      by_cases hlj : l / m = j / m
      · rw [if_neg, zero_mul]
        rintro ⟨_, e⟩
        exact hij ((coarse _ _ hik).trans (e.trans (coarse _ _ hlj)))
      · rw [h.block l j hlj, mul_zero]
    · rw [h.block i k hik, zero_mul]
  solves i j hi hj := by
    let D (n : ℕ) : ℕ → ℕ → ℝ := fun i k => if i / n = k / n then A i k else 0
    have e1 : M T = 1 + M (D m) * M T := by
      rw [mul_M]
      ext i j
      simp only [M, Matrix.of_apply, Matrix.add_apply, Matrix.one_apply, D]
      rw [h.solves i j i.2 j.2]
      simp only [Fin.ext_iff]
    have coarse : ∀ a b : ℕ, a / m = b / m → a / (2 * m) = b / (2 * m) := fun a b e => by
      rw [Nat.mul_comm 2 m, ← Nat.div_div_eq_div_mul, ← Nat.div_div_eq_div_mul, e]
    have e2 : M (D (2 * m)) = M (D m) + M (between A m) := by
      ext i j
      simp only [M, Matrix.of_apply, Matrix.add_apply, D, between]
      by_cases c1 : (i : ℕ) / m = (j : ℕ) / m
      · simp [c1, coarse _ _ c1]
      · by_cases c2 : (i : ℕ) / (2 * m) = (j : ℕ) / (2 * m) <;> simp [c1, c2]
    have e3 : M (between A m) * (M T * M (between A m)) = 0 := by
      rw [mul_M, mul_M]
      ext i j
      simp only [M, Matrix.of_apply, Matrix.zero_apply]
      refine Finset.sum_eq_zero fun k _ => ?_
      by_cases c1 : ((i : ℕ) / m ≠ k / m ∧ (i : ℕ) / (2 * m) = k / (2 * m)) ∧ k < i
      · rw [Finset.sum_eq_zero, mul_zero]
        intro l _
        by_cases c2 : k / m = l / m
        · unfold between
          by_cases c3 : (l / m ≠ (j : ℕ) / m ∧ l / (2 * m) = (j : ℕ) / (2 * m)) ∧ (j : ℕ) < l
          · exfalso
            obtain ⟨⟨a1, a2⟩, a3⟩ := c1
            obtain ⟨⟨b1, b2⟩, b3⟩ := c3
            rw [Nat.mul_comm 2 m, ← Nat.div_div_eq_div_mul, ← Nat.div_div_eq_div_mul] at a2 b2
            have l1 : k / m ≤ (i : ℕ) / m := Nat.div_le_div_right a3.le
            have l2 : (j : ℕ) / m ≤ l / m := Nat.div_le_div_right b3.le
            omega
          · by_cases c4 : l / m ≠ (j : ℕ) / m ∧ l / (2 * m) = (j : ℕ) / (2 * m)
            · rw [if_pos c4, hA l j (by by_contra hh; exact c3 ⟨c4, by omega⟩), mul_zero]
            · rw [if_neg c4, mul_zero]
        · rw [h.block k l c2, zero_mul]
      · unfold between
        by_cases c4 : (i : ℕ) / m ≠ k / m ∧ (i : ℕ) / (2 * m) = k / (2 * m)
        · rw [if_pos c4, hA i k (by by_contra hh; exact c1 ⟨c4, by omega⟩), zero_mul]
        · rw [if_neg c4, zero_mul]
    have e4 : M (invStep A T m) = M T + M T * (M (between A m) * M T) := by
      rw [mul_M, mul_M]
      rfl
    have key : M (invStep A T m) = 1 + M (D (2 * m)) * M (invStep A T m) := by
      rw [e4, e2]
      have f1 : M (between A m) * (M T * (M (between A m) * M T)) = 0 := by
        rw [← Matrix.mul_assoc (M T), ← Matrix.mul_assoc (M (between A m)), e3, Matrix.zero_mul]
      have f2 : M (D m) * M T = M T - 1 := by rw [eq_sub_iff_add_eq, add_comm]; exact e1.symm
      rw [Matrix.add_mul, Matrix.mul_add, Matrix.mul_add, f1, ← Matrix.mul_assoc (M (D m)), f2, Matrix.sub_mul, Matrix.one_mul]
      abel
    rw [mul_M] at key
    have := congrFun (congrFun key ⟨i, hi⟩) ⟨j, hj⟩
    simpa [M, Matrix.add_apply, Matrix.one_apply, D] using this

/-- The doubled inverse inverts `1 - A`. -/
theorem inverse_solves {A : ℕ → ℕ → ℝ} (hA : Strict A) (i j : ℕ) (hi : i < 64) (hj : j < 64) :
    inverse A i j = (if i = j then 1 else 0) + ∑ k ∈ range 64, A i k * inverse A k j := by
  have h : Inverts A (inverse A) (2 * 32) :=
    ((((inverts_inv0 hA).step hA (by omega)).step hA (by omega)).step hA (by omega)).step hA (by omega) |>.step hA (by omega)
  rw [h.solves i j hi hj]
  congr 1
  refine Finset.sum_congr rfl fun k hk => ?_
  rw [if_pos]
  rw [Nat.div_eq_of_lt hi, Nat.div_eq_of_lt (Finset.mem_range.1 hk)]

/-- So a vector multiplied by it solves the triangular system. -/
theorem solve {A : ℕ → ℕ → ℝ} (hA : Strict A) (x : ℕ → ℝ) (i : ℕ) (hi : i < 64) :
    ∑ j ∈ range 64, inverse A i j * x j
      = x i + ∑ k ∈ range 64, A i k * ∑ j ∈ range 64, inverse A k j * x j := by
  have : ∀ j ∈ range 64, inverse A i j * x j
      = (if i = j then x j else 0) + ∑ k ∈ range 64, A i k * (inverse A k j * x j) := by
    intro j hj
    rw [inverse_solves hA i j hi (Finset.mem_range.1 hj), add_mul, Finset.sum_mul]
    congr 1
    · split <;> simp
    · exact Finset.sum_congr rfl fun k _ => by ring
  rw [Finset.sum_congr rfl this, Finset.sum_add_distrib, Finset.sum_comm]
  congr 1
  · simp [hi]
  · exact Finset.sum_congr rfl fun k _ => (Finset.mul_sum _ _ _).symm

end Cert.Alg

end
-- ==== Proof.Dots.lean ====
/- The products of the model on matrices of finite numbers. A number split into three words is its first word, so that every product
   is the plain one. -/
module

public import proofs.«01_k».proof.Proof.Mat
public import proofs.«01_k».proof.Proof.Inverse

@[expose] public section

noncomputable section

namespace Cert.Model

open Idealize.ShloMosaic Finset Cert.KernelIdeal Cert.KernelIdeal.Gen

/-! ## The left factor over the 160 keys -/

/-- The numbers in the split left factor of the columns `f`. -/
def lhsF (f : ℕ → ℕ → ℝ) : ℕ → ℕ → ℝ :=
  catCols [(128, fun i c => f c i), (128, fun _ _ => 0), (128, fun _ _ => 0),
    (128, fun i c => catRows [(32, fun a b => f (128 + a) b), (32, fun _ _ => 0), (32, fun _ _ => 0), (32, fun a b => f (128 + a) b)] c i)]

theorem mat_lhsK {x : FVec Ideal S160x128 .f32} {f : ℕ → ℕ → ℝ} (hx : Mat x f) : Mat (lhsK x) (lhsF f) := by
  have h1 := (hx.hi.slice (p := 128) (q := 128) (a := 0) (b := 0) (h := slices_S160x128_o0_0_S128x128)).transpose (h := transposes_S128x128_p1_0_S128x128)
  have h2 := (hx.mi.slice (p := 128) (q := 128) (a := 0) (b := 0) (h := slices_S160x128_o0_0_S128x128)).transpose (h := transposes_S128x128_p1_0_S128x128)
  have h3 := (hx.lo.slice (p := 128) (q := 128) (a := 0) (b := 0) (h := slices_S160x128_o0_0_S128x128)).transpose (h := transposes_S128x128_p1_0_S128x128)
  have t1 := hx.hi.slice (p := 32) (q := 128) (a := 128) (b := 0) (h := slices_S160x128_o128_0_S32x128)
  have t2 := hx.mi.slice (p := 32) (q := 128) (a := 128) (b := 0) (h := slices_S160x128_o128_0_S32x128)
  have t3 := hx.lo.slice (p := 32) (q := 128) (a := 128) (b := 0) (h := slices_S160x128_o128_0_S32x128)
  have h4 := (Mat.rows (m := 128) (h := concatenates_S32x128_S32x128_S32x128_S32x128_S128x128_d0)
    (.cons t1 (.cons t2 (.cons t3 (.cons t1 .nil))))).transpose (h := transposes_S128x128_p1_0_S128x128)
  have := Mat.cols (n := 512) (h := concatenates_S128x128_S128x128_S128x128_S128x128_S128x512_d1) (.cons h1 (.cons h2 (.cons h3 (.cons h4 .nil))))
  simp only [Nat.zero_add] at this
  exact this

theorem lhsF_sum (f : ℕ → ℕ → ℝ) (R : ℕ → ℝ) (i : ℕ) :
    ∑ c ∈ range 512, lhsF f i c * R c
      = ∑ c ∈ range 128, f c i * R c + (∑ c ∈ range 32, f (128 + c) i * R (384 + c) + ∑ c ∈ range 32, f (128 + c) i * R (480 + c)) := by
  rw [show 512 = 128 + (256 + (32 + (64 + 32))) from rfl, sum_split, sum_split, sum_split, sum_split]
  have e1 : ∀ c ∈ range 128, lhsF f i c * R c = f c i * R c := fun c hc => by
    have := mem_range.1 hc
    simp only [lhsF, catCols, if_pos this]
  have e2 : ∀ c ∈ range 256, lhsF f i (128 + c) * R (128 + c) = 0 := fun c hc => by
    have := mem_range.1 hc
    have : lhsF f i (128 + c) = 0 := by
      simp only [lhsF, catCols, catRows]; split_ifs <;> first | rfl | (exfalso; omega)
    rw [this, zero_mul]
  have e3 : ∀ c ∈ range 32, lhsF f i (128 + (256 + c)) * R (128 + (256 + c)) = f (128 + c) i * R (384 + c) := fun c hc => by
    have := mem_range.1 hc
    have : lhsF f i (128 + (256 + c)) = f (128 + c) i := by
      simp only [lhsF, catCols, catRows]; split_ifs <;> first | (exfalso; omega) | (congr 1; omega)
    rw [this]; congr 2; omega
  have e4 : ∀ c ∈ range 64, lhsF f i (128 + (256 + (32 + c))) * R (128 + (256 + (32 + c))) = 0 := fun c hc => by
    have := mem_range.1 hc
    have : lhsF f i (128 + (256 + (32 + c))) = 0 := by
      simp only [lhsF, catCols, catRows]; split_ifs <;> first | rfl | (exfalso; omega)
    rw [this, zero_mul]
  have e5 : ∀ c ∈ range 32, lhsF f i (128 + (256 + (32 + (64 + c)))) * R (128 + (256 + (32 + (64 + c)))) = f (128 + c) i * R (480 + c) := fun c hc => by
    have := mem_range.1 hc
    have : lhsF f i (128 + (256 + (32 + (64 + c)))) = f (128 + c) i := by
      simp only [lhsF, catCols, catRows]; split_ifs <;> first | (exfalso; omega) | (congr 1; omega)
    rw [this]; congr 2; omega
  rw [sum_congr rfl e1, sum_congr rfl e2, sum_congr rfl e3, sum_congr rfl e4, sum_congr rfl e5]
  simp

theorem mat_dotK {lhs : FVec Ideal S128x512 .bf16} {h m l : FVec Ideal S160x128 .bf16} {f g : ℕ → ℕ → ℝ} (hl : Mat lhs (lhsF f))
    (hh : Mat h g) (hm : Mat m fun _ _ => 0) (hlo : Mat l fun _ _ => 0) :
    Mat (dotK lhs h m l) (fun i j => ∑ c ∈ range 160, f c i * g c j) := by
  have m1 := hh.slice (p := 128) (q := 128) (a := 0) (b := 0) (h := slices_S160x128_o0_0_S128x128)
  have t1 := hh.slice (p := 32) (q := 128) (a := 128) (b := 0) (h := slices_S160x128_o128_0_S32x128)
  have m2 := hm.slice (p := 128) (q := 128) (a := 0) (b := 0) (h := slices_S160x128_o0_0_S128x128)
  have t2 := hm.slice (p := 32) (q := 128) (a := 128) (b := 0) (h := slices_S160x128_o128_0_S32x128)
  have m3 := hlo.slice (p := 128) (q := 128) (a := 0) (b := 0) (h := slices_S160x128_o0_0_S128x128)
  have t3 := hlo.slice (p := 32) (q := 128) (a := 128) (b := 0) (h := slices_S160x128_o128_0_S32x128)
  have n1 := Mat.rows (m := 512) (h := concatenates_S128x128_S128x128_S128x128_S32x128_S32x128_S32x128_S32x128_S512x128_d0)
    (.cons m1 (.cons m1 (.cons m1 (.cons t1 (.cons t1 (.cons t1 (.cons t3 .nil)))))))
  have n2 := Mat.rows (m := 512) (h := concatenates_S128x128_S128x128_S128x128_S32x128_S32x128_S32x128_S32x128_S512x128_d0)
    (.cons m2 (.cons m2 (.cons m2 (.cons t2 (.cons t2 (.cons t2 (.cons (Mat.bzero (m := 32) (n := 128)) .nil)))))))
  have r := Mat.cols (n := 256) (h := concatenates_S512x128_S512x128_S512x256_d1) (.cons n1 (.cons n2 .nil))
  have d := hl.dot r
  have d1 := d.slice (p := 128) (q := 128) (a := 0) (b := 0) (h := slices_S128x256_o0_0_S128x128)
  have d2 := d.slice (p := 128) (q := 128) (a := 0) (b := 128) (h := slices_S128x256_o0_128_S128x128)
  have d3 := (hl.slice (p := 128) (q := 128) (a := 0) (b := 0) (h := slices_S128x512_o0_0_S128x128)).dot m3
  have z := (d1.add d2).add d3
  refine Mat.congr (x := dotK lhs h m l) z fun i hi j hj => ?_
  rw [lhsF_sum, lhsF_sum, show 160 = 128 + 32 from rfl, sum_split]
  simp only [Nat.zero_add, mul_zero, sum_const_zero, add_zero]
  have z1 : ∀ c, catRows [(128, fun i j => (0 : ℝ)), (128, fun i j => 0), (128, fun i j => 0), (32, fun i j => 0), (32, fun i j => 0),
      (32, fun i j => 0), (32, fun _ _ => 0)] c j = 0 := fun c => by simp [catRows]
  have e1 : ∀ c, catCols [(128, catRows [(128, g), (128, g), (128, g), (32, fun i j => g (128 + i) j), (32, fun i j => g (128 + i) j),
      (32, fun i j => g (128 + i) j), (32, fun i j => 0)]), (128, catRows [(128, fun i j => 0), (128, fun i j => 0), (128, fun i j => 0), (32, fun i j => 0), (32, fun i j => 0),
      (32, fun i j => 0), (32, fun _ _ => 0)])] c j = catRows [(128, g), (128, g), (128, g), (32, fun i j => g (128 + i) j), (32, fun i j => g (128 + i) j),
      (32, fun i j => g (128 + i) j), (32, fun i j => 0)] c j := fun c => by simp only [catCols, if_pos hj]
  have e2 : ∀ c, catCols [(128, catRows [(128, g), (128, g), (128, g), (32, fun i j => g (128 + i) j), (32, fun i j => g (128 + i) j),
      (32, fun i j => g (128 + i) j), (32, fun i j => 0)]), (128, catRows [(128, fun i j => 0), (128, fun i j => 0), (128, fun i j => 0), (32, fun i j => 0), (32, fun i j => 0),
      (32, fun i j => 0), (32, fun _ _ => 0)])] c (128 + j) = 0 := fun c => by
    simp only [catCols]; split_ifs <;> first | (exfalso; omega) | simp [catRows]
  simp only [e1, e2, mul_zero, sum_const_zero, add_zero]
  refine congrArg₂ (fun a b : ℝ => a + b) (sum_congr rfl fun c hc => ?_) ?_
  · have := mem_range.1 hc
    simp only [catRows, if_pos this]
  · have a1 : ∀ c ∈ range 32, f (128 + c) i * catRows [(128, g), (128, g), (128, g), (32, fun i j => g (128 + i) j), (32, fun i j => g (128 + i) j),
      (32, fun i j => g (128 + i) j), (32, fun i j => 0)] (384 + c) j = f (128 + c) i * g (128 + c) j := fun c hc => by
      have := mem_range.1 hc
      congr 1
      simp only [catRows]; split_ifs <;> first | (exfalso; omega) | (congr 1; omega)
    have a2 : ∀ c ∈ range 32, f (128 + c) i * catRows [(128, g), (128, g), (128, g), (32, fun i j => g (128 + i) j), (32, fun i j => g (128 + i) j),
      (32, fun i j => g (128 + i) j), (32, fun i j => 0)] (480 + c) j = 0 := fun c hc => by
      have := mem_range.1 hc
      have : catRows [(128, g), (128, g), (128, g), (32, fun i j => g (128 + i) j), (32, fun i j => g (128 + i) j),
        (32, fun i j => g (128 + i) j), (32, fun i j => 0)] (480 + c) j = 0 := by
        simp only [catRows]; split_ifs <;> first | (exfalso; omega) | rfl
      rw [this, mul_zero]
    rw [sum_congr rfl a1, sum_congr rfl a2]
    simp

/-! ## Products over the 64 tokens of a chunk -/

/-- The numbers in the split left factor `f`. -/
def lhsG (f : ℕ → ℕ → ℝ) : ℕ → ℕ → ℝ :=
  catCols [(64, f), (64, fun _ _ => 0), (64, fun _ _ => 0), (64, f)]

theorem mat_lhsC {x : FVec Ideal S64x64 .f32} {f : ℕ → ℕ → ℝ} (hx : Mat x f) : Mat (lhsC x) (lhsG f) :=
  Mat.cols (n := 256) (h := concatenates_S64x64_S64x64_S64x64_S64x64_S64x256_d1) (.cons hx.hi (.cons hx.mi (.cons hx.lo (.cons hx.hi .nil))))

/-- The numbers in the split right factor `g`, of `n` columns. -/
def rhsG (n : ℕ) (g : ℕ → ℕ → ℝ) : ℕ → ℕ → ℝ :=
  catCols [(n, catRows [(64, g), (64, g), (64, g), (64, fun _ _ => 0)]), (n, catRows [(64, fun _ _ => 0), (64, fun _ _ => 0), (64, fun _ _ => 0), (64, fun _ _ => 0)])]

theorem lhsG_sum (f g : ℕ → ℕ → ℝ) (n i j : ℕ) (hj : j < n) :
    ∑ c ∈ range 256, lhsG f i c * rhsG n g c j + ∑ c ∈ range 256, lhsG f i c * rhsG n g c (n + j) = ∑ c ∈ range 64, f i c * g c j := by
  have z : ∀ c, rhsG n g c (n + j) = 0 := fun c => by
    simp only [rhsG, catCols]; split_ifs <;> first | (exfalso; omega) | simp [catRows]
  simp only [z, mul_zero, sum_const_zero, add_zero]
  rw [show 256 = 64 + 192 from rfl, sum_split]
  have e1 : ∀ c ∈ range 64, lhsG f i c * rhsG n g c j = f i c * g c j := fun c hc => by
    have := mem_range.1 hc
    simp only [lhsG, rhsG, catCols, catRows, if_pos this, if_pos hj]
  have e2 : ∀ c ∈ range 192, lhsG f i (64 + c) * rhsG n g (64 + c) j = 0 := fun c hc => by
    have := mem_range.1 hc
    by_cases hc2 : c < 128
    · have : lhsG f i (64 + c) = 0 := by
        simp only [lhsG, catCols]; split_ifs <;> first | (exfalso; omega) | rfl
      rw [this, zero_mul]
    · have : rhsG n g (64 + c) j = 0 := by
        simp only [rhsG, catCols, catRows, if_pos hj]; split_ifs <;> first | (exfalso; omega) | rfl
      rw [this, mul_zero]
  rw [sum_congr rfl e1, sum_congr rfl e2]
  simp

theorem mat_dotS {x y : FVec Ideal S64x64 .f32} {f g : ℕ → ℕ → ℝ} (hx : Mat x f) (hy : Mat y g) :
    Mat (dotS x y) (fun i j => ∑ c ∈ range 64, f i c * g c j) := by
  have n1 := Mat.rows (m := 256) (h := concatenates_S64x64_S64x64_S64x64_S64x64_S256x64_d0) (.cons hy.hi (.cons hy.hi (.cons hy.hi (.cons hy.lo .nil))))
  have n2 := Mat.rows (m := 256) (h := concatenates_S64x64_S64x64_S64x64_S64x64_S256x64_d0)
    (.cons hy.mi (.cons hy.mi (.cons hy.mi (.cons (Mat.bzero (m := 64) (n := 64)) .nil))))
  have d := (mat_lhsC hx).dot (Mat.cols (n := 128) (h := concatenates_S256x64_S256x64_S256x128_d1) (.cons n1 (.cons n2 .nil)))
  have z := (d.slice (p := 64) (q := 64) (a := 0) (b := 0) (h := slices_S64x128_o0_0_S64x64)).add
    (d.slice (p := 64) (q := 64) (a := 0) (b := 64) (h := slices_S64x128_o0_64_S64x64))
  refine Mat.congr (x := dotS x y) z fun i hi j hj => ?_
  rw [← lhsG_sum f g 64 i j hj]
  simp only [Nat.zero_add]
  rfl

theorem mat_dotC {x : FVec Ideal S64x64 .f32} {y : FVec Ideal S64x128 .f32} {f g : ℕ → ℕ → ℝ} (hx : Mat x f) (hy : Mat y g) :
    Mat (dotC x y) (fun i j => ∑ c ∈ range 64, f i c * g c j) := by
  have n1 := Mat.rows (m := 256) (h := concatenates_S64x128_S64x128_S64x128_S64x128_S256x128_d0) (.cons hy.hi (.cons hy.hi (.cons hy.hi (.cons hy.lo .nil))))
  have n2 := Mat.rows (m := 256) (h := concatenates_S64x128_S64x128_S64x128_S64x128_S256x128_d0)
    (.cons hy.mi (.cons hy.mi (.cons hy.mi (.cons (Mat.bzero (m := 64) (n := 128)) .nil))))
  have d := (mat_lhsC hx).dot (Mat.cols (n := 256) (h := concatenates_S256x128_S256x128_S256x256_d1) (.cons n1 (.cons n2 .nil)))
  have z := (d.slice (p := 64) (q := 128) (a := 0) (b := 0) (h := slices_S64x256_o0_0_S64x128)).add
    (d.slice (p := 64) (q := 128) (a := 0) (b := 128) (h := slices_S64x256_o0_128_S64x128))
  refine Mat.congr (x := dotC x y) z fun i hi j hj => ?_
  rw [← lhsG_sum f g 128 i j hj]
  simp only [Nat.zero_add]
  rfl

theorem mat_fromValues {p : FVec Ideal S128x128 .f32} {v : FVec Ideal S64x128 .bf16} {f g : ℕ → ℕ → ℝ} (hp : Mat p f) (hv : Mat v g) :
    Mat (fromValues p v) (fun i j => ∑ c ∈ range 64, f i (64 + c) * g c j) := by
  have hs := hp.slice (p := 128) (q := 64) (a := 0) (b := 64) (h := slices_S128x128_o0_64_S128x64)
  have d := (Mat.cols (n := 192) (h := concatenates_S128x64_S128x64_S128x64_S128x192_d1) (.cons hs.hi (.cons hs.mi (.cons hs.lo .nil)))).dot
    (Mat.rows (m := 192) (h := concatenates_S64x128_S64x128_S64x128_S192x128_d0) (.cons hv (.cons hv (.cons hv .nil))))
  refine Mat.congr (x := fromValues p v) d fun i hi j hj => ?_
  rw [show 192 = 64 + 128 from rfl, sum_split]
  have e1 : ∀ c ∈ range 64, catCols [(64, fun i j => f (0 + i) (64 + j)), (64, fun _ _ => 0), (64, fun _ _ => 0)] i c
      * catRows [(64, g), (64, g), (64, g)] c j = f i (64 + c) * g c j := fun c hc => by
    have := mem_range.1 hc
    simp only [catCols, catRows, if_pos this, Nat.zero_add]
  have e2 : ∀ c ∈ range 128, catCols [(64, fun i j => f (0 + i) (64 + j)), (64, fun _ _ => 0), (64, fun _ _ => 0)] i (64 + c)
      * catRows [(64, g), (64, g), (64, g)] (64 + c) j = 0 := fun c hc => by
    have : catCols [(64, fun i j => f (0 + i) (64 + j)), (64, fun _ _ => 0), (64, fun _ _ => 0)] i (64 + c) = 0 := by
      simp only [catCols]; split_ifs <;> first | (exfalso; omega) | rfl
    rw [this, zero_mul]
  rw [sum_congr rfl e1, sum_congr rfl e2]
  simp

/-! ## The running sums -/

theorem mat_sums {tri : FVec Ideal S128x128 .bf16} {w : FVec Ideal S160x128 .f32} {f t : ℕ → ℕ → ℝ} (ht : Mat tri t) (hw : Mat w f) :
    Mat (m := 160) (n := 128) (φ := .f32)
      (let d := matmul dot_S480x128_S128x128_S480x128_1_0_0_1_n_n none
        (concatenate S480x128 0 [⟨S160x128, hi w⟩, ⟨S160x128, mi w⟩, ⟨S160x128, lo w⟩] concatenates_S160x128_S160x128_S160x128_S480x128_d0)
        tri (constant S480x128 .f32 0x00000000#32)
      addf (addf (extractStridedSlice S160x128 ![0, 0] d slices_S480x128_o0_0_S160x128)
          (extractStridedSlice S160x128 ![160, 0] d slices_S480x128_o160_0_S160x128))
        (extractStridedSlice S160x128 ![320, 0] d slices_S480x128_o320_0_S160x128))
      (fun i j => ∑ c ∈ range 128, f i c * t c j) := by
  have d := (Mat.rows (m := 480) (h := concatenates_S160x128_S160x128_S160x128_S480x128_d0) (.cons hw.hi (.cons hw.mi (.cons hw.lo .nil)))).dot ht
  have z := ((d.slice (p := 160) (q := 128) (a := 0) (b := 0) (h := slices_S480x128_o0_0_S160x128)).add
    (d.slice (p := 160) (q := 128) (a := 160) (b := 0) (h := slices_S480x128_o160_0_S160x128))).add
    (d.slice (p := 160) (q := 128) (a := 320) (b := 0) (h := slices_S480x128_o320_0_S160x128))
  refine Mat.congr z fun i hi j hj => ?_
  have e1 : ∀ c, catRows [(160, f), (160, fun _ _ => 0), (160, fun _ _ => 0)] i c = f i c := fun c => by
    simp only [catRows, if_pos hi]
  have e2 : ∀ c, catRows [(160, f), (160, fun _ _ => 0), (160, fun _ _ => 0)] (160 + i) c = 0 := fun c => by
    simp only [catRows]; split_ifs <;> first | (exfalso; omega) | rfl
  have e3 : ∀ c, catRows [(160, f), (160, fun _ _ => 0), (160, fun _ _ => 0)] (320 + i) c = 0 := fun c => by
    simp only [catRows]; split_ifs <;> first | (exfalso; omega) | rfl
  simp only [Nat.zero_add, e1, e2, e3, zero_mul, sum_const_zero, add_zero]

/-! ## What a chunk adds to the state -/

theorem mat_added {inLast : IVec S64x128 1} {z : FVec Ideal S160x128 .f32} {v : FVec Ideal S64x128 .bf16} {u : FVec Ideal S64x128 .f32}
    {L : ℕ → ℕ → Prop} [∀ i j, Decidable (L i j)] {fz fv fu : ℕ → ℕ → ℝ} (hl : Msk inLast L) (hz : Mat z fz) (hv : Mat v fv) (hu : Mat u fu) :
    Mat (added inLast z v u) (fun i j => ∑ c ∈ range 64, fz i c * (if L c j then fu c j else 0)
      + ∑ c ∈ range 64, fz i (64 + c) * (if L c j then fv c j else 0)) := by
  have o := Mat.bzero (m := 64) (n := 128)
  have uh := Mat.select hl hu.hi o
  have um := Mat.select hl hu.mi o
  have ul := Mat.select hl hu.lo o
  have vv := Mat.select hl hv o
  have r1 := Mat.cols (n := 256) (h := concatenates_S256x128_S256x128_S256x256_d1)
    (.cons (Mat.rows (m := 256) (h := concatenates_S64x128_S64x128_S64x128_S64x128_S256x128_d0) (.cons uh (.cons vv (.cons uh (.cons vv .nil)))))
      (.cons (Mat.rows (m := 256) (h := concatenates_S64x128_S64x128_S64x128_S64x128_S256x128_d0) (.cons um (.cons o (.cons um (.cons o .nil))))) .nil))
  have r2 := Mat.cols (n := 256) (h := concatenates_S256x128_S256x128_S256x256_d1)
    (.cons (Mat.rows (m := 256) (h := concatenates_S64x128_S64x128_S64x128_S64x128_S256x128_d0) (.cons uh (.cons vv (.cons ul (.cons o .nil)))))
      (.cons (Mat.rows (m := 256) (h := concatenates_S64x128_S64x128_S64x128_S64x128_S256x128_d0) (.cons um (.cons o (.cons o (.cons o .nil))))) .nil))
  have d1 := (Mat.cols (n := 256) (h := concatenates_S160x128_S160x128_S160x256_d1) (.cons hz.hi (.cons hz.mi .nil))).dot r1
  have d2 := (Mat.cols (n := 256) (h := concatenates_S160x128_S160x128_S160x256_d1) (.cons hz.lo (.cons hz.hi .nil))).dot r2
  have d := d1.add d2
  have q := (d.slice (p := 160) (q := 128) (a := 0) (b := 0) (h := slices_S160x256_o0_0_S160x128)).add
    (d.slice (p := 160) (q := 128) (a := 0) (b := 128) (h := slices_S160x256_o0_128_S160x128))
  refine Mat.congr (x := added inLast z v u) q fun i hi j hj => ?_
  simp only [Nat.zero_add, ite_self]
  have n1 : ¬ (128 + j < 128) := by omega
  simp only [catCols, if_pos hj, if_neg n1, Nat.add_sub_cancel_left]
  have c0 : ∀ c, catRows [(64, fun i j => (0 : ℝ)), (64, fun _ _ => 0), (64, fun i j => 0), (64, fun _ _ => 0)] c j = 0 := fun c => by
    simp [catRows]
  simp only [c0, mul_zero, sum_const_zero, add_zero]
  rw [show 256 = 64 + (64 + 128) from rfl, sum_split, sum_split, sum_split, sum_split]
  have a1 : ∀ c ∈ range 64, (if c < 128 then fz i c else if c - 128 < 128 then 0 else 0)
      * catRows [(64, fun i j => if L i j then fu i j else 0), (64, fun i j => if L i j then fv i j else 0),
        (64, fun i j => if L i j then fu i j else 0), (64, fun i j => if L i j then fv i j else 0)] c j = fz i c * (if L c j then fu c j else 0) := fun c hc => by
    have := mem_range.1 hc
    simp only [catRows, if_pos this, if_pos (show c < 128 by omega)]
  have a2 : ∀ c ∈ range 64, (if 64 + c < 128 then fz i (64 + c) else if 64 + c - 128 < 128 then 0 else 0)
      * catRows [(64, fun i j => if L i j then fu i j else 0), (64, fun i j => if L i j then fv i j else 0),
        (64, fun i j => if L i j then fu i j else 0), (64, fun i j => if L i j then fv i j else 0)] (64 + c) j = fz i (64 + c) * (if L c j then fv c j else 0) := fun c hc => by
    have := mem_range.1 hc
    simp only [catRows, if_pos this, if_pos (show 64 + c < 128 by omega), if_neg (show ¬ 64 + c < 64 by omega), Nat.add_sub_cancel_left]
  have a3 : ∀ c ∈ range 128, (if 64 + (64 + c) < 128 then fz i (64 + (64 + c)) else if 64 + (64 + c) - 128 < 128 then 0 else 0)
      * catRows [(64, fun i j => if L i j then fu i j else 0), (64, fun i j => if L i j then fv i j else 0),
        (64, fun i j => if L i j then fu i j else 0), (64, fun i j => if L i j then fv i j else 0)] (64 + (64 + c)) j = 0 := fun c hc => by
    rw [if_neg (show ¬ 64 + (64 + c) < 128 by omega)]; simp
  have b1 : ∀ c ∈ range 64, (if c < 128 then (0 : ℝ) else if c - 128 < 128 then fz i (c - 128) else 0)
      * catRows [(64, fun i j => if L i j then fu i j else 0), (64, fun i j => if L i j then fv i j else 0),
        (64, fun i j => 0), (64, fun _ _ => 0)] c j = 0 := fun c hc => by
    have := mem_range.1 hc
    rw [if_pos (show c < 128 by omega), zero_mul]
  have b2 : ∀ c ∈ range 64, (if 64 + c < 128 then (0 : ℝ) else if 64 + c - 128 < 128 then fz i (64 + c - 128) else 0)
      * catRows [(64, fun i j => if L i j then fu i j else 0), (64, fun i j => if L i j then fv i j else 0),
        (64, fun i j => 0), (64, fun _ _ => 0)] (64 + c) j = 0 := fun c hc => by
    have := mem_range.1 hc
    rw [if_pos (show 64 + c < 128 by omega), zero_mul]
  have b3 : ∀ c ∈ range 128, (if 64 + (64 + c) < 128 then (0 : ℝ) else if 64 + (64 + c) - 128 < 128 then fz i (64 + (64 + c) - 128) else 0)
      * catRows [(64, fun i j => if L i j then fu i j else 0), (64, fun i j => if L i j then fv i j else 0),
        (64, fun i j => 0), (64, fun _ _ => 0)] (64 + (64 + c)) j = 0 := fun c hc => by
    have : catRows [(64, fun i j => if L i j then fu i j else 0), (64, fun i j => if L i j then fv i j else 0),
        (64, fun i j => 0), (64, fun _ _ => 0)] (64 + (64 + c)) j = 0 := by
      simp only [catRows]; split_ifs <;> first | (exfalso; omega) | rfl
    rw [this, mul_zero]
  rw [sum_congr rfl a1, sum_congr rfl a2, sum_congr rfl a3, sum_congr rfl b1, sum_congr rfl b2, sum_congr rfl b3]
  simp

end Cert.Model

end
-- ==== Proof.Recur.lean ====
/- The recurrence of one head of one sequence, token by token, and the same recurrence over a chunk of 64 tokens
   at once. Real numbers only. -/
module

public import proofs.«01_k».proof.Proof.Inverse
public import Mathlib.Analysis.SpecialFunctions.Exp

@[expose] public section

noncomputable section

namespace Cert.Alg

open Finset

/-- What one head of one sequence is given: key-indexed arrays by key and token, values by token and value. -/
structure Seq where
  r : ℕ → ℕ → ℝ
  k : ℕ → ℕ → ℝ
  a : ℕ → ℕ → ℝ
  b : ℕ → ℕ → ℝ
  w : ℕ → ℕ → ℝ
  v : ℕ → ℕ → ℝ
  s0 : ℕ → ℕ → ℝ
  seg : ℕ → ℤ

namespace Seq

variable (q : Seq)

/-- The token is in the segment of the one before it. -/
def same (t : ℕ) : Prop := q.seg t = q.seg (t - 1)

instance (t : ℕ) : Decidable (q.same t) := inferInstanceAs (Decidable (_ = _))

/-- The state a token starts from, given the one the token before left. -/
def clear (t : ℕ) (S : ℕ → ℕ → ℝ) (k c : ℕ) : ℝ := if q.same t then S k c else 0

/-- The value a token removes. -/
def remove (t : ℕ) (S : ℕ → ℕ → ℝ) (c : ℕ) : ℝ := ∑ k ∈ range 160, q.clear t S k c * q.a k t

/-- The state a token leaves. -/
def next (t : ℕ) (S : ℕ → ℕ → ℝ) (k c : ℕ) : ℝ :=
  q.clear t S k c * Real.exp (q.w k t) + q.remove t S c * q.b k t + q.v t c * q.k k t

/-- The state before token `t`. -/
def state : ℕ → ℕ → ℕ → ℝ
  | 0 => q.s0
  | t + 1 => q.next t (state t)

/-- The removed value of token `t`. -/
def u (t c : ℕ) : ℝ := q.remove t (q.state t) c

/-- The output of token `t`. -/
def out (t c : ℕ) : ℝ := ∑ k ∈ range 160, q.state (t + 1) k c * q.r k t

/-- The sum of the logarithmic decays of the first `j` tokens from `n`. -/
def G (n k j : ℕ) : ℝ := ∑ i ∈ range j, q.w k (n + i)

/-- Removal vectors of a chunk. -/
def ah (n k j : ℕ) : ℝ := q.a k (n + j) * Real.exp (q.G n k (j + 1) - q.w k (n + j))
/-- Readout vectors of a chunk. -/
def rh (n k j : ℕ) : ℝ := q.r k (n + j) * Real.exp (q.G n k (j + 1))
/-- Replacement vectors of a chunk. -/
def bh (n k j : ℕ) : ℝ := q.b k (n + j) * Real.exp (0 - q.G n k (j + 1))
/-- Key vectors of a chunk. -/
def kh (n k j : ℕ) : ℝ := q.k k (n + j) * Real.exp (0 - q.G n k (j + 1))

/-- What a token of a chunk brings to the state, its decay undone. -/
def bring (n k c i : ℕ) : ℝ := q.u (n + i) c * q.bh n k i + q.v (n + i) c * q.kh n k i

/-- One where two numbers are equal, zero elsewhere. -/
def eqInd (x y : ℤ) : ℝ := if x = y then 1 else 0

theorem G_succ (n k j : ℕ) : q.G n k (j + 1) = q.G n k j + q.w k (n + j) := by
  simp [G, Finset.sum_range_succ]

theorem exp_mul_undo (x y : ℝ) : Real.exp x * (y * Real.exp (0 - x)) = y := by
  rw [mul_left_comm, ← Real.exp_add]; simp

/-- The state after `j + 1` tokens of a chunk, from the one the token found. -/
theorem after_of_found (n j k c : ℕ)
    (h : q.clear (n + j) (q.state (n + j)) k c = Real.exp (q.G n k j) *
      (q.state n k c * eqInd (q.seg (n + j)) (q.seg (n - 1))
        + ∑ i ∈ range j, eqInd (q.seg (n + j)) (q.seg (n + i)) * q.bring n k c i)) :
    q.state (n + j + 1) k c = Real.exp (q.G n k (j + 1)) *
      (q.state n k c * eqInd (q.seg (n + j)) (q.seg (n - 1))
        + ∑ i ∈ range (j + 1), eqInd (q.seg (n + j)) (q.seg (n + i)) * q.bring n k c i) := by
  show q.next (n + j) (q.state (n + j)) k c = _
  unfold next
  rw [h, Finset.sum_range_succ]
  have e1 : eqInd (q.seg (n + j)) (q.seg (n + j)) = 1 := if_pos rfl
  have e2 : Real.exp (q.G n k (j + 1)) * q.bring n k c j
      = q.remove (n + j) (q.state (n + j)) c * q.b k (n + j) + q.v (n + j) c * q.k k (n + j) := by
    unfold bring bh kh
    rw [mul_add, mul_left_comm, exp_mul_undo, mul_left_comm _ (q.v (n + j) c), exp_mul_undo]
    rfl
  rw [e1, one_mul, ← add_assoc, mul_add _ _ (q.bring n k c j), e2, G_succ, Real.exp_add]
  ring

theorem seg_le (hs : ∀ t, q.seg t ≤ q.seg (t + 1)) {s t : ℕ} (h : s ≤ t) : q.seg s ≤ q.seg t :=
  monotone_nat_of_le_succ hs h

/-- The state a token of a chunk finds, from the one before the chunk. -/
theorem found (hs : ∀ t, q.seg t ≤ q.seg (t + 1)) (n j k c : ℕ) :
    q.clear (n + j) (q.state (n + j)) k c = Real.exp (q.G n k j) *
      (q.state n k c * eqInd (q.seg (n + j)) (q.seg (n - 1))
        + ∑ i ∈ range j, eqInd (q.seg (n + j)) (q.seg (n + i)) * q.bring n k c i) := by
  induction j with
  | zero =>
    simp only [Nat.add_zero, G, Finset.range_zero, Finset.sum_empty, Real.exp_zero, one_mul, add_zero, clear, same, eqInd]
    split <;> simp
  | succ j ih =>
    have h := q.after_of_found n j k c ih
    unfold clear
    by_cases hj : q.same (n + (j + 1))
    · rw [if_pos hj, ← Nat.add_assoc, h]
      have : q.seg (n + j + 1) = q.seg (n + j) := hj
      rw [this]
    · rw [if_neg hj]
      have h1 : q.seg (n + (j + 1)) ≠ q.seg (n + j) := hj
      have h2 : q.seg (n + j) < q.seg (n + (j + 1)) := lt_of_le_of_ne (hs _) (Ne.symm h1)
      have h3 : eqInd (q.seg (n + (j + 1))) (q.seg (n - 1)) = 0 :=
        if_neg (ne_of_gt ((q.seg_le hs (by omega : n - 1 ≤ n + j)).trans_lt h2))
      rw [h3, Finset.sum_eq_zero]
      · ring
      · intro i hi
        have : eqInd (q.seg (n + (j + 1))) (q.seg (n + i)) = 0 :=
          if_neg (ne_of_gt ((q.seg_le hs (by have := Finset.mem_range.1 hi; omega : n + i ≤ n + j)).trans_lt h2))
        rw [this, zero_mul]

theorem after (hs : ∀ t, q.seg t ≤ q.seg (t + 1)) (n j k c : ℕ) :
    q.state (n + j + 1) k c = Real.exp (q.G n k (j + 1)) *
      (q.state n k c * eqInd (q.seg (n + j)) (q.seg (n - 1))
        + ∑ i ∈ range (j + 1), eqInd (q.seg (n + j)) (q.seg (n + i)) * q.bring n k c i) :=
  q.after_of_found n j k c (q.found hs n j k c)

/-- The masked products of left factors `x` with right factors `z`, over the tokens before (`l j i`). -/
def score (n : ℕ) (x z : ℕ → ℕ → ℝ) (l : ℕ → ℕ → Prop) [∀ j i, Decidable (l j i)] (j i : ℕ) : ℝ :=
  if q.seg (n + j) = q.seg (n + i) ∧ l j i then ∑ k ∈ range 160, x k j * z k i else 0

/-- A sum over the tokens before one, inside a chunk, as a sum over the whole chunk. -/
theorem sum_before (n j d : ℕ) (hd : d ≤ 64) (x zb zk : ℕ → ℕ → ℝ) (u v : ℕ → ℝ) :
    ∑ k ∈ range 160, x k j * ∑ i ∈ range d, eqInd (q.seg (n + j)) (q.seg (n + i)) * (u i * zb k i + v i * zk k i)
      = (∑ i ∈ range 64, (if q.seg (n + j) = q.seg (n + i) ∧ i < d then ∑ k ∈ range 160, x k j * zk k i else 0) * v i)
        + ∑ i ∈ range 64, (if q.seg (n + j) = q.seg (n + i) ∧ i < d then ∑ k ∈ range 160, x k j * zb k i else 0) * u i := by
  have e : ∀ k, ∑ i ∈ range d, eqInd (q.seg (n + j)) (q.seg (n + i)) * (u i * zb k i + v i * zk k i)
      = ∑ i ∈ range 64, (if q.seg (n + j) = q.seg (n + i) ∧ i < d then (u i * zb k i + v i * zk k i) else 0) := by
    intro k
    rw [← Finset.sum_subset (Finset.range_mono hd)]
    · refine Finset.sum_congr rfl fun i hi => ?_
      have := Finset.mem_range.1 hi
      by_cases h : q.seg (n + j) = q.seg (n + i) <;> simp [eqInd, h, this]
    · intro i _ hi
      have : ¬ i < d := fun h => hi (Finset.mem_range.2 h)
      simp [this]
  simp only [e]
  rw [← Finset.sum_add_distrib]
  simp only [Finset.mul_sum]
  rw [Finset.sum_comm]
  refine Finset.sum_congr rfl fun i _ => ?_
  by_cases h : q.seg (n + j) = q.seg (n + i) ∧ i < d
  · simp only [if_pos h]
    rw [Finset.sum_mul, Finset.sum_mul, ← Finset.sum_add_distrib]
    exact Finset.sum_congr rfl fun k _ => by ring
  · simp only [if_neg h]; simp

/-- What is known of a token's product with the left factors `x` before the removed values are. -/
def known (n : ℕ) (x : ℕ → ℕ → ℝ) (l : ℕ → ℕ → Prop) [∀ j i, Decidable (l j i)] (j c : ℕ) : ℝ :=
  (∑ k ∈ range 160, x k j * q.state n k c) * eqInd (q.seg (n + j)) (q.seg (n - 1))
    + ∑ i ∈ range 64, q.score n x (q.kh n) l j i * q.v (n + i) c

/-- The removed values of a chunk solve a triangular system. -/
theorem u_eq (hs : ∀ t, q.seg t ≤ q.seg (t + 1)) (n j c : ℕ) (hj : j < 64) :
    q.u (n + j) c = q.known n (q.ah n) (fun j i => i < j) j c
      + ∑ i ∈ range 64, q.score n (q.ah n) (q.bh n) (fun j i => i < j) j i * q.u (n + i) c := by
  unfold u remove
  have e : ∀ k, q.clear (n + j) (q.state (n + j)) k c * q.a k (n + j)
      = q.ah n k j * q.state n k c * eqInd (q.seg (n + j)) (q.seg (n - 1))
        + q.ah n k j * ∑ i ∈ range j, eqInd (q.seg (n + j)) (q.seg (n + i)) * (q.u (n + i) c * q.bh n k i + q.v (n + i) c * q.kh n k i) := by
    intro k
    rw [q.found hs]
    unfold ah bring
    rw [G_succ, add_sub_cancel_right]
    ring
  simp only [e]
  rw [Finset.sum_add_distrib, q.sum_before n j j hj.le, ← Finset.sum_mul]
  unfold known score
  rw [add_assoc]
  rfl

/-- The outputs of a chunk. -/
theorem out_eq (hs : ∀ t, q.seg t ≤ q.seg (t + 1)) (n j c : ℕ) (hj : j < 64) :
    q.out (n + j) c = q.known n (q.rh n) (fun j i => i ≤ j) j c
      + ∑ i ∈ range 64, q.score n (q.rh n) (q.bh n) (fun j i => i ≤ j) j i * q.u (n + i) c := by
  unfold out
  have e : ∀ k, q.state (n + j + 1) k c * q.r k (n + j)
      = q.rh n k j * q.state n k c * eqInd (q.seg (n + j)) (q.seg (n - 1))
        + q.rh n k j * ∑ i ∈ range (j + 1), eqInd (q.seg (n + j)) (q.seg (n + i)) * (q.u (n + i) c * q.bh n k i + q.v (n + i) c * q.kh n k i) := by
    intro k
    rw [q.after hs]
    unfold rh bring
    ring
  simp only [e]
  rw [Finset.sum_add_distrib, q.sum_before n j (j + 1) hj, ← Finset.sum_mul]
  unfold known score
  simp only [Nat.lt_succ_iff]
  rw [add_assoc]

/-- The state after a chunk. -/
theorem state_eq (hs : ∀ t, q.seg t ≤ q.seg (t + 1)) (n k c : ℕ) :
    q.state (n + 64) k c =
      (q.state n k c * eqInd (q.seg (n + 63)) (q.seg (n - 1))
        + ∑ i ∈ range 64, eqInd (q.seg (n + 63)) (q.seg (n + i)) * (q.u (n + i) c * q.bh n k i + q.v (n + i) c * q.kh n k i))
        * Real.exp (q.G n k 64) := by
  rw [show n + 64 = n + 63 + 1 from rfl, q.after hs n 63 k c, mul_comm]
  rfl

/-- Whatever solves the triangular system of a chunk is its removed values. -/
theorem u_unique (hs : ∀ t, q.seg t ≤ q.seg (t + 1)) (n c : ℕ) (y : ℕ → ℝ)
    (hy : ∀ j < 64, y j = q.known n (q.ah n) (fun j i => i < j) j c
      + ∑ i ∈ range 64, q.score n (q.ah n) (q.bh n) (fun j i => i < j) j i * y i) (j : ℕ) (hj : j < 64) :
    y j = q.u (n + j) c := by
  induction j using Nat.strong_induction_on with
  | _ j ih =>
    rw [hy j hj, q.u_eq hs n j c hj]
    congr 1
    refine Finset.sum_congr rfl fun i hi => ?_
    by_cases hij : i < j
    · rw [ih i hij (Finset.mem_range.1 hi)]
    · simp [score, hij]

theorem strict_score (n : ℕ) (x z : ℕ → ℕ → ℝ) : Strict (q.score n x z (fun j i => i < j)) :=
  fun i j h => if_neg fun hh => absurd hh.2 (by omega)

/-- So the inverse found by doubling gives them. -/
theorem inverse_known (hs : ∀ t, q.seg t ≤ q.seg (t + 1)) (n c j : ℕ) (hj : j < 64) :
    ∑ i ∈ range 64, inverse (q.score n (q.ah n) (q.bh n) (fun j i => i < j)) j i
        * q.known n (q.ah n) (fun j i => i < j) i c = q.u (n + j) c :=
  q.u_unique hs n c
    (fun j => ∑ i ∈ range 64, inverse (q.score n (q.ah n) (q.bh n) (fun j i => i < j)) j i
        * q.known n (q.ah n) (fun j i => i < j) i c)
    (fun j hj => solve (q.strict_score n _ _) _ j hj) j hj

end Seq

end Cert.Alg

end
-- ==== Proof.Chunk.lean ====
/- One chunk of the model on finite numbers is 64 tokens of the recurrence. -/
module

public import proofs.«01_k».proof.Proof.Dots
public import proofs.«01_k».proof.Proof.Recur

@[expose] public section

noncomputable section

namespace Cert.Model

open Idealize.ShloMosaic Finset Cert.KernelIdeal Cert.KernelIdeal.Gen Cert.Alg

/-! ## The inverse -/

theorem Msk.congr {m n : ℕ} {x : IVec ⟨2, ![m, n]⟩ 1} {p q : ℕ → ℕ → Prop} (h : Msk x p)
    (e : ∀ i < m, ∀ j < n, (p i j ↔ q i j)) : Msk x q := fun i => (h i).trans (e _ (i 0).isLt _ (i 1).isLt)

theorem IMat.congr {m n : ℕ} {x : IVec ⟨2, ![m, n]⟩ 32} {f g : ℕ → ℕ → BitVec 32} (h : IMat x f)
    (e : ∀ i < m, ∀ j < n, f i j = g i j) : IMat x g := fun i => (h i).trans (e _ (i 0).isLt _ (i 1).isLt)

theorem IMat.rowsOf {m n : ℕ} {h} : IMat (iota .tc ⟨2, ![m, n]⟩ 32 [0] h) (fun i _ => BitVec.ofNat 32 i) := fun i => by
  simp [iota]
theorem IMat.colsOf {m n : ℕ} {h} : IMat (iota .tc ⟨2, ![m, n]⟩ 32 [1] h) (fun _ j => BitVec.ofNat 32 j) := fun i => by
  simp [iota]

theorem ofNat_eq {a b : ℕ} (ha : a < 128) (hb : b < 128) : BitVec.ofNat 32 a = BitVec.ofNat 32 b ↔ a = b := by
  constructor
  · intro h
    have := congrArg BitVec.toNat h
    simpa [BitVec.toNat_ofNat, Nat.mod_eq_of_lt (show a < 4294967296 by omega), Nat.mod_eq_of_lt (show b < 4294967296 by omega)] using this
  · exact fun h => by rw [h]

/-- The blocks of `2 ^ p` of the row and column numbers. -/
theorem shift_rows : ∀ i < 64, IntOp.shrsi .vector (BitVec.ofNat 32 i) 1#32 = BitVec.ofNat 32 (i / 2)
    ∧ IntOp.shrsi .vector (BitVec.ofNat 32 i) 2#32 = BitVec.ofNat 32 (i / 4) ∧ IntOp.shrsi .vector (BitVec.ofNat 32 i) 3#32 = BitVec.ofNat 32 (i / 8)
    ∧ IntOp.shrsi .vector (BitVec.ofNat 32 i) 4#32 = BitVec.ofNat 32 (i / 16) ∧ IntOp.shrsi .vector (BitVec.ofNat 32 i) 5#32 = BitVec.ofNat 32 (i / 32)
    ∧ IntOp.shrsi .vector (BitVec.ofNat 32 i) 6#32 = BitVec.ofNat 32 (i / 64) := by decide +kernel

/-- A shift by `p` divides the row numbers by `d`. -/
def Divides (p : BitVec 32) (d : ℕ) : Prop := ∀ i < 64, IntOp.shrsi .vector (BitVec.ofNat 32 i) p = BitVec.ofNat 32 (i / d)

theorem msk_sameBlock {p : BitVec 32} {d : ℕ} (h : Divides p d) : Msk (sameBlock p) (fun i j => i / d = j / d) := fun i => by
  show BitVec.ofBool (IntOp.shrsi .vector (rows64 i) p == IntOp.shrsi .vector (cols64 i) p) = 1 ↔ _
  have hi := (i 0).isLt
  have hj := (i 1).isLt
  have e0 : rows64 i = BitVec.ofNat 32 (i 0).val := IMat.rowsOf i
  have e1 : cols64 i = BitVec.ofNat 32 (i 1).val := IMat.colsOf i
  have b0 : (i 0).val / d ≤ (i 0).val := Nat.div_le_self _ _
  have b1 : (i 1).val / d ≤ (i 1).val := Nat.div_le_self _ _
  rw [bit_eq, e0, e1, h _ hi, h _ hj]
  exact ofNat_eq (lt_of_le_of_lt b0 (lt_trans hi (by decide))) (lt_of_le_of_lt b1 (lt_trans hj (by decide)))

theorem bit_ne {w : ℕ} (a b : BitVec w) : BitVec.ofBool (a != b) = 1 ↔ a ≠ b := by
  by_cases h : a = b
  · subst h; simp
  · simp only [ne_eq, h, not_false_iff, iff_true]
    rw [bne_iff_ne.2 h]
    decide

theorem msk_otherBlock {p : BitVec 32} {d : ℕ} (h : Divides p d) : Msk (otherBlock p) (fun i j => i / d ≠ j / d) := fun i => by
  show BitVec.ofBool (IntOp.shrsi .vector (rows64 i) p != IntOp.shrsi .vector (cols64 i) p) = 1 ↔ _
  have hi := (i 0).isLt
  have hj := (i 1).isLt
  have e0 : rows64 i = BitVec.ofNat 32 (i 0).val := IMat.rowsOf i
  have e1 : cols64 i = BitVec.ofNat 32 (i 1).val := IMat.colsOf i
  have b0 : (i 0).val / d ≤ (i 0).val := Nat.div_le_self _ _
  have b1 : (i 1).val / d ≤ (i 1).val := Nat.div_le_self _ _
  rw [bit_ne, e0, e1, h _ hi, h _ hj]
  exact not_congr (ofNat_eq (lt_of_le_of_lt b0 (lt_trans hi (by decide))) (lt_of_le_of_lt b1 (lt_trans hj (by decide))))

theorem mat_inv0 {a : FVec Ideal S64x64 .f32} {A : ℕ → ℕ → ℝ} (ha : Mat a A) : Mat (Model.inv0 a) (Alg.inv0 A) := by
  have hd : Msk (cmpi .eq rows64 cols64) (fun i j => i = j) :=
    (IMat.eq (x := rows64) (y := cols64) IMat.rowsOf IMat.colsOf).congr fun i hi j hj => ofNat_eq (by omega) (by omega)
  exact (Mat.select hd Mat.one Mat.zero).add (Mat.select (msk_sameBlock fun i hi => (shift_rows i hi).1) ha Mat.zero)

theorem mat_invStep {a t : FVec Ideal S64x64 .f32} {A T : ℕ → ℕ → ℝ} {p q : BitVec 32} {d : ℕ} (ha : Mat a A) (ht : Mat t T)
    (hp : Divides p d) (hq : Divides q (2 * d)) : Mat (Model.invStep a t p q) (Alg.invStep A T d) :=
  ht.add (mat_dotS ht (mat_dotS (Mat.select ((msk_otherBlock hp).and (msk_sameBlock hq)) ha Mat.zero) ht))

theorem mat_inverse {a : FVec Ideal S64x64 .f32} {A : ℕ → ℕ → ℝ} (ha : Mat a A) : Mat (Model.inverse a) (Alg.inverse A) :=
  mat_invStep ha (mat_invStep ha (mat_invStep ha (mat_invStep ha (mat_invStep ha (mat_inv0 ha)
    (fun i hi => (shift_rows i hi).1) (fun i hi => (shift_rows i hi).2.1))
    (fun i hi => (shift_rows i hi).2.1) (fun i hi => (shift_rows i hi).2.2.1))
    (fun i hi => (shift_rows i hi).2.2.1) (fun i hi => (shift_rows i hi).2.2.2.1))
    (fun i hi => (shift_rows i hi).2.2.2.1) (fun i hi => (shift_rows i hi).2.2.2.2.1))
    (fun i hi => (shift_rows i hi).2.2.2.2.1) (fun i hi => (shift_rows i hi).2.2.2.2.2)

/-! ## A chunk -/

/-- What a chunk of the model is given is the chunk from token `n` of `q`. -/
structure IsChunk (q : Seq) (n : ℕ) (pair : IVec S128x128 1) (inPrev : FVec Ideal S128x128 .f32) (inLast : IVec S64x128 1)
    (keep : Ideal .f32) (lhs : FVec Ideal S128x512 .bf16) (e : FVec Ideal S160x1 .f32) (z : FVec Ideal S160x128 .f32)
    (v : FVec Ideal S64x128 .bf16) : Prop where
  pair : Msk pair fun i j => q.seg (n + i % 64) = q.seg (n + j % 64) ∧ (if i < 64 then j % 64 < i else j % 64 ≤ i - 64)
  inPrev : Mat inPrev fun i _ => Seq.eqInd (q.seg (n + i % 64)) (q.seg (n - 1))
  inLast : Msk inLast fun j _ => q.seg (n + 63) = q.seg (n + j)
  keep : keep = ((Seq.eqInd (q.seg (n + 63)) (q.seg (n - 1)) : ℝ) : EReal)
  lhs : Mat lhs (lhsF fun k i => if i < 64 then q.ah n k i else q.rh n k (i - 64))
  e : Mat e fun k _ => q.G n k 64
  z : Mat z fun k j => if j < 64 then q.bh n k j else q.kh n k (j - 64)
  v : Mat v fun j c => q.v (n + j) c

variable {q : Seq} {n : ℕ} {pair : IVec S128x128 1} {inPrev : FVec Ideal S128x128 .f32} {inLast : IVec S64x128 1}
    {keep : Ideal .f32} {lhs : FVec Ideal S128x512 .bf16} {e : FVec Ideal S160x1 .f32} {z : FVec Ideal S160x128 .f32}
    {v : FVec Ideal S64x128 .bf16} {s : FVec Ideal S160x128 .f32}

/-- The masked products of a chunk. -/
def scoreF (q : Seq) (n i j : ℕ) : ℝ :=
  if q.seg (n + i % 64) = q.seg (n + j % 64) ∧ (if i < 64 then j % 64 < i else j % 64 ≤ i - 64) then
    ∑ c ∈ range 160, (if i < 64 then q.ah n c i else q.rh n c (i - 64)) * (if j < 64 then q.bh n c j else q.kh n c (j - 64))
  else 0

theorem scoreF_ab (i j : ℕ) (hi : i < 64) (hj : j < 64) : scoreF q n i j = q.score n (q.ah n) (q.bh n) (fun j i => i < j) i j := by
  simp only [scoreF, Seq.score, Nat.mod_eq_of_lt hi, Nat.mod_eq_of_lt hj, if_pos hi, if_pos hj]
theorem scoreF_ak (i j : ℕ) (hi : i < 64) (hj : j < 64) : scoreF q n i (64 + j) = q.score n (q.ah n) (q.kh n) (fun j i => i < j) i j := by
  simp only [scoreF, Seq.score, Nat.mod_eq_of_lt hi, show (64 + j) % 64 = j by omega, if_pos hi, if_neg (show ¬ 64 + j < 64 by omega), Nat.add_sub_cancel_left]
theorem scoreF_rb (i j : ℕ) (hi : i < 64) (hj : j < 64) : scoreF q n (64 + i) j = q.score n (q.rh n) (q.bh n) (fun j i => i ≤ j) i j := by
  simp only [scoreF, Seq.score, Nat.mod_eq_of_lt hj, show (64 + i) % 64 = i by omega, if_pos hj, if_neg (show ¬ 64 + i < 64 by omega), Nat.add_sub_cancel_left]
theorem scoreF_rk (i j : ℕ) (hi : i < 64) (hj : j < 64) : scoreF q n (64 + i) (64 + j) = q.score n (q.rh n) (q.kh n) (fun j i => i ≤ j) i j := by
  simp only [scoreF, Seq.score, show (64 + i) % 64 = i by omega, show (64 + j) % 64 = j by omega, if_neg (show ¬ 64 + i < 64 by omega),
    if_neg (show ¬ 64 + j < 64 by omega), Nat.add_sub_cancel_left]

theorem IsChunk.scores (h : IsChunk q n pair inPrev inLast keep lhs e z v) : Mat (Model.scores pair lhs z) (scoreF q n) :=
  Mat.select h.pair (mat_dotK h.lhs h.z.hi h.z.mi h.z.lo) Mat.zero

/-- What is known of a row before the removed values are. -/
def knownF (q : Seq) (n i j : ℕ) : ℝ :=
  if i < 64 then q.known n (q.ah n) (fun j i => i < j) i j else q.known n (q.rh n) (fun j i => i ≤ j) (i - 64) j

theorem IsChunk.known (h : IsChunk q n pair inPrev inLast keep lhs e z v) (hs : Mat s (q.state n)) :
    Mat (Model.known inPrev lhs (Model.scores pair lhs z) v s) (knownF q n) := by
  have := ((mat_dotK h.lhs hs.hi hs.mi hs.lo).mul h.inPrev).add (mat_fromValues h.scores h.v)
  refine Mat.congr (x := Model.known inPrev lhs (Model.scores pair lhs z) v s) this fun i hi j hj => ?_
  unfold knownF Seq.known
  by_cases h64 : i < 64
  · simp only [if_pos h64, Nat.mod_eq_of_lt h64]
    congr 1
    exact sum_congr rfl fun c hc => by rw [scoreF_ak i c h64 (mem_range.1 hc)]
  · simp only [if_neg h64]
    obtain ⟨i, rfl⟩ : ∃ a, i = 64 + a := ⟨i - 64, by omega⟩
    have hi' : i < 64 := by omega
    simp only [Nat.add_sub_cancel_left, show (64 + i) % 64 = i by omega]
    congr 1
    exact sum_congr rfl fun c hc => by rw [scoreF_rk i c hi' (mem_range.1 hc)]

theorem IsChunk.removed (h : IsChunk q n pair inPrev inLast keep lhs e z v) (hs : Mat s (q.state n)) (hq : ∀ t, q.seg t ≤ q.seg (t + 1)) :
    Mat (Model.removed (Model.scores pair lhs z) (Model.known inPrev lhs (Model.scores pair lhs z) v s)) (fun j c => q.u (n + j) c) := by
  have ha : Mat (φ := .f32) (extractStridedSlice S64x64 ![0, 0] (Model.scores pair lhs z) slices_S128x128_o0_0_S64x64)
      (q.score n (q.ah n) (q.bh n) (fun j i => i < j)) :=
    Mat.congr (h.scores.slice (p := 64) (q := 64) (a := 0) (b := 0)) fun i hi j hj => by
      rw [Nat.zero_add, Nat.zero_add, scoreF_ab i j hi hj]
  have hk : Mat (φ := .f32) (extractStridedSlice S64x128 ![0, 0] (Model.known inPrev lhs (Model.scores pair lhs z) v s) slices_S128x128_o0_0_S64x128)
      (q.known n (q.ah n) (fun j i => i < j)) :=
    Mat.congr ((h.known hs).slice (p := 64) (q := 128) (a := 0) (b := 0)) fun i hi j hj => by
      rw [Nat.zero_add, Nat.zero_add, knownF, if_pos hi]
  refine Mat.congr (x := Model.removed (Model.scores pair lhs z) (Model.known inPrev lhs (Model.scores pair lhs z) v s))
    (mat_dotC (mat_inverse ha) hk) fun j hj c hc => ?_
  exact q.inverse_known hq n c j hj

/-- The chunk's output rows are the recurrence's outputs. -/
theorem IsChunk.outRows (h : IsChunk q n pair inPrev inLast keep lhs e z v) (hs : Mat s (q.state n)) (hq : ∀ t, q.seg t ≤ q.seg (t + 1)) :
    Mat (Model.outRows (Model.scores pair lhs z) (Model.known inPrev lhs (Model.scores pair lhs z) v s)
      (Model.removed (Model.scores pair lhs z) (Model.known inPrev lhs (Model.scores pair lhs z) v s))) (fun j c => q.out (n + j) c) := by
  have hk : Mat (φ := .f32) (extractStridedSlice S64x128 ![64, 0] (Model.known inPrev lhs (Model.scores pair lhs z) v s) slices_S128x128_o64_0_S64x128)
      (q.known n (q.rh n) (fun j i => i ≤ j)) :=
    Mat.congr ((h.known hs).slice (p := 64) (q := 128) (a := 64) (b := 0)) fun i hi j hj => by
      rw [Nat.zero_add, knownF, if_neg (by omega), Nat.add_sub_cancel_left]
  have hb : Mat (φ := .f32) (extractStridedSlice S64x64 ![64, 0] (Model.scores pair lhs z) slices_S128x128_o64_0_S64x64)
      (q.score n (q.rh n) (q.bh n) (fun j i => i ≤ j)) :=
    Mat.congr (h.scores.slice (p := 64) (q := 64) (a := 64) (b := 0)) fun i hi j hj => by
      rw [Nat.zero_add, scoreF_rb i j hi hj]
  have := hk.add (mat_dotC hb (h.removed hs hq))
  refine Mat.congr (x := Model.outRows _ _ _) this fun j hj c hc => ?_
  exact (q.out_eq hq n j c hj).symm

/-- The state the chunk leaves is the recurrence's. -/
theorem IsChunk.newState (h : IsChunk q n pair inPrev inLast keep lhs e z v) (hs : Mat s (q.state n)) (hq : ∀ t, q.seg t ≤ q.seg (t + 1)) :
    Mat (chunkState pair inPrev inLast keep lhs e z v s) (q.state (n + 64)) := by
  have hd : Mat (decay e) (fun k _ => Real.exp (q.G n k 64)) := by
    have : Mat (m := 160) (n := 128) (φ := .f32) (broadcastTo S160x128 (shapeCast S160x1 e shapeCasts_S160x1_S160x1) broadcasts_S160x1_S160x128)
        (fun k _ => q.G n k 64) := fun i => by
      have e0 : (shapeCast S160x1 e shapeCasts_S160x1_S160x1) = e := by
        funext j; simp [shapeCast, Shape.reshapeEquiv_self]
      rw [e0]
      exact h.e _
    exact this.exp
  have ha := mat_added h.inLast h.z h.v (h.removed hs hq)
  have := ((hs.mul (Mat.bcast h.keep)).add ha).mul hd
  refine Mat.congr (x := chunkState pair inPrev inLast keep lhs e z v s) this fun k hk c hc => ?_
  rw [q.state_eq hq]
  congr 2
  rw [← sum_add_distrib]
  refine sum_congr rfl fun i hi => ?_
  have hi := mem_range.1 hi
  simp only [if_pos hi, if_neg (show ¬ 64 + i < 64 by omega), Nat.add_sub_cancel_left, Seq.eqInd]
  split <;> ring

end Cert.Model

end
-- ==== Proof.Masks.lean ====
/- The masks of a tile of 128 tokens: what the words that hold them say. -/
module

public import proofs.«01_k».proof.Proof.Chunk
public import proofs.«01_k».proof.Proof.Trip

@[expose] public section

set_option maxRecDepth 16384

noncomputable section

namespace Cert.Model

open Idealize.ShloMosaic Idealize.ShloMosaic.TcCoe Finset Cert.KernelIdeal Cert.KernelIdeal.Gen Cert.Alg

/-! ## The constant masks -/

/-- The column numbers of a 128 by 128 matrix. -/
abbrev lanes : IVec S128x128 32 := iota .tc S128x128 32 [1] iota_S128x128_d1_w32
/-- The row numbers of a 128 by 128 matrix. -/
abbrev rows : IVec S128x128 32 := iota .tc S128x128 32 [0] iota_S128x128_d0_w32

theorem low_words : ∀ i < 128, ((BitVec.ofNat 32 i).slt 64#32 = true ↔ i < 64) ∧ ((BitVec.ofNat 32 i).toInt = i) := by decide +kernel

theorem ofBool_one (b : Bool) : BitVec.ofBool b = 1 ↔ b = true := by cases b <;> decide

theorem msk_low : Msk k0_pay526 (fun _ j => j < 64) := fun i => by
  have e : lanes i = BitVec.ofNat 32 (i 1).val := IMat.colsOf i
  show BitVec.ofBool ((lanes i).slt 64#32) = 1 ↔ _
  rw [ofBool_one, e]
  exact (low_words _ (i 1).isLt).1

theorem msk_lowLanes : Msk lowLanes (fun _ j => j < 64) := fun i => by
  have e : (iota .tc S160x128 32 [1] iota_S160x128_d1_w32 : IVec S160x128 32) i = BitVec.ofNat 32 (i 1).val := IMat.colsOf i
  show BitVec.ofBool (((iota .tc S160x128 32 [1] iota_S160x128_d1_w32 : IVec S160x128 32) i).slt 64#32) = 1 ↔ _
  rw [ofBool_one, e]
  exact (low_words _ (i 1).isLt).1

theorem msk_upper : Msk k0_pay527 (fun i j => i ≤ j) := fun i => by
  have e : lanes i = BitVec.ofNat 32 (i 1).val := IMat.colsOf i
  have e' : rows i = BitVec.ofNat 32 (i 0).val := IMat.rowsOf i
  show BitVec.ofBool ((rows i).sle (lanes i)) = 1 ↔ _
  rw [ofBool_one, e, e', BitVec.sle_eq_decide, decide_eq_true_iff, (low_words _ (i 1).isLt).2, (low_words _ (i 0).isLt).2]
  exact Nat.cast_le

/-- The floor quotient by 64 of a word, as the kernel computes it. -/
def quot64 (x : BitVec 32) : BitVec 32 :=
  let d := IntOp.divsi .vector x 64#32
  if (BitVec.ofBool (BitVec.setWidth 32 (BitVec.ofBool ((0#32).slt x)) - BitVec.setWidth 32 (BitVec.ofBool (x.slt 0#32)) != (1#32 : BitVec 32))
    &&& BitVec.ofBool (IntOp.remsi .vector x 64#32 != 0#32)) = 1 then d - 1#32 else d

theorem quot64_eq : ∀ i < 128, quot64 (BitVec.ofNat 32 i) = BitVec.ofNat 32 (i / 64) := by decide +kernel

theorem imat_rowQuot : IMat k0_pay528 (fun i _ => BitVec.ofNat 32 (i / 64)) := fun i => by
  have e : rows i = BitVec.ofNat 32 (i 0).val := IMat.rowsOf i
  show quot64 (rows i) = _
  rw [e]
  exact quot64_eq _ (i 0).isLt

/-- The kernel's matrix of ones where a running sum takes its terms. -/
theorem mat_tri : Mat (k0_pay531 (F := Ideal) lanes k0_pay527 k0_pay528 64#32 k0_pay529 k0_pay530)
    (fun i j => if i ≤ j ∧ i / 64 = j / 64 then 1 else 0) := by
  have hq : IMat (select (andi k0_pay530 (cmpi .ne (remsi lanes (broadcast S128x128 64#32)) (broadcast S128x128 0#32)))
      (subi k0_pay529 (broadcast S128x128 1#32)) k0_pay529) (fun _ j => BitVec.ofNat 32 (j / 64)) := fun i => by
    have e : lanes i = BitVec.ofNat 32 (i 1).val := IMat.colsOf i
    show quot64 (lanes i) = _
    rw [e]
    exact quot64_eq _ (i 1).isLt
  have := Mat.select (f := fun _ _ => 1) (g := fun _ _ => 0) (msk_upper.and ((IMat.eq imat_rowQuot hq).congr fun i hi j hj =>
    ofNat_eq (by omega) (by omega))) Mat.one Mat.zero'
  exact this

theorem causal_words : (∀ i < 128, ((if BitVec.ofBool ((BitVec.ofNat 32 i).slt 64#32) = 1 then (BitVec.ofNat 32 i &&& 63#32) - 1#32
    else BitVec.ofNat 32 i &&& 63#32).toInt = if i < 64 then (i : ℤ) - 1 else (i - 64 : ℕ)))
    ∧ ∀ i < 128, (BitVec.ofNat 32 i &&& 63#32).toInt = (i % 64 : ℕ) := by decide +kernel

/-- The causal mask: strict in the upper half of the rows, whose row 64 begins the other half. -/
theorem msk_causal : Msk (k0_pay532 lanes rows) (fun i j => if i < 64 then j % 64 < i else j % 64 ≤ i - 64) := fun i => by
  have e : lanes i = BitVec.ofNat 32 (i 1).val := IMat.colsOf i
  have e' : rows i = BitVec.ofNat 32 (i 0).val := IMat.rowsOf i
  show BitVec.ofBool ((lanes i &&& 63#32).sle (if BitVec.ofBool ((rows i).slt 64#32) = 1 then (rows i &&& 63#32) - 1#32 else rows i &&& 63#32)) = 1 ↔ _
  rw [ofBool_one, e, e', BitVec.sle_eq_decide, decide_eq_true_iff, causal_words.1 _ (i 0).isLt, causal_words.2 _ (i 1).isLt]
  beta_reduce
  split <;> omega

/-! ## The row of a batch -/

theorem batch_words : ∀ b < 4, ∀ i < 4, (BitVec.ofNat 32 i = BitVec.ofNat 32 b ↔ i = b) := by decide

theorem msk_this {b : ℕ} (hb : b < 4) : Msk (k0_pay533 (BitVec.ofNat 32 b)) (fun i _ => i = b) :=
  (IMat.eq (x := iota .tc S4x128 32 [0] iota_S4x128_d0_w32) IMat.rowsOf (IMat.bcast _)).congr fun i hi j hj => batch_words b hb i hi

/-- An index of a row, matched with a vector's, is its second coordinate. -/
theorem reshape_row (j : S1x128.Idx) : (Shape.reshapeEquiv shapeCasts_S128_S1x128 j) = (ValueIdx.ix1 (j 1) : S128.Idx) :=
  Shape.reshapeEquiv_eq_of_rowMajor _ (by
    rw [Shape.rowMajor_val_two, Shape.rowMajor_val_one]
    have h : (j 0).val = 0 := Nat.lt_one_iff.1 (j 0).isLt
    show (j 1).val = (j 0).val * 128 + (j 1).val
    rw [h, Nat.zero_mul, Nat.zero_add])

/-- The scales of a batch. -/
theorem mat_batchRow {b : ℕ} (hb : b < 4) {x : FVec Ideal S4x128 .f32} {f : ℕ → ℕ → ℝ} (hx : Mat x f) :
    Mat (batchRow (k0_pay533 (BitVec.ofNat 32 b)) x) (fun _ j => f b j) := fun i => by
  have hs := Mat.select (φ := .f32) (msk_this hb) hx Mat.zero
  show multiReduction .add [0] S128 (select (k0_pay533 (BitVec.ofNat 32 b)) x (zero S4x128)) 0x00000000#32 reduces_S4x128_S128 (.inl rfl) rfl
    (Shape.reshapeEquiv shapeCasts_S128_S1x128 i) = _
  rw [reshape_row]
  refine (Ideal.reduceAdd_r2_a0 reduces_S4x128_S128 _ _).trans ?_
  rw [Finset.sum_congr rfl fun k _ => hs _]
  rw [Fin.sum_univ_four]
  interval_cases b <;> simp [ValueIdx.ix1]

/-- The segment numbers of a batch, along every row. -/
theorem imat_segRow {b : ℕ} (hb : b < 4) {x : Vec Ideal S4x128 .i32} {f : ℕ → ℕ → BitVec 32} (hx : IMat x f) :
    IMat (k0_pay2 (F := Ideal) (k0_pay533 (BitVec.ofNat 32 b)) x) (fun _ j => f b j) := fun i => by
  have hs := IMat.select (msk_this hb) hx (IMat.bcast 0#32)
  have e0 : ∀ (y : IVec S128 32), (shapeCast S1x128 (shapeCast S1x128 y shapeCasts_S128_S1x128) shapeCasts_S1x128_S1x128)
      = shapeCast S1x128 y shapeCasts_S128_S1x128 := fun y => by
    funext j; simp [shapeCast, Shape.reshapeEquiv_self]
  unfold k0_pay2
  dsimp only
  rw [e0]
  show multiReductionI .add [0] S128 (select (k0_pay533 (BitVec.ofNat 32 b)) x (broadcast S4x128 0#32)) 0#32 reduces_S4x128_S128 rfl
    (Shape.reshapeEquiv shapeCasts_S128_S1x128 (ValueIdx.ix2 (0 : Fin 1) (i 1))) = _
  rw [reshape_row]
  refine (multiReductionI_eq_fold .add _ 0#32 reduces_S4x128_S128 rfl _).trans ?_
  rw [Shape.Reduces.fold_fiber_r2_a0]
  show Finset.fold IntOp.addi 0#32 _ _ = _
  rw [Finset.fold_congr fun k _ => hs _]
  rw [show (Finset.univ : Finset (Fin 4)) = {0, 1, 2, 3} from rfl]
  interval_cases b <;> simp [IntOp.addi, ValueIdx.ix1, ValueIdx.ix2]

end Cert.Model

end
-- ==== Proof.Tile.lean ====
/- A tile of 128 tokens of the model on finite numbers is two chunks of the recurrence. -/
module

public import proofs.«01_k».proof.Proof.Masks
public import Idealize.ShloMosaic.Lib.ValueLayout

@[expose] public section

set_option maxRecDepth 16384

noncomputable section

namespace Cert.Model

open Idealize.ShloMosaic Idealize.ShloMosaic.TcCoe Finset Cert.KernelIdeal Cert.KernelIdeal.Gen Cert.Alg

/-- The block `x` of one sequence and one head holds the real numbers `f`. -/
def Mat4 {m n : ℕ} (x : (⟨4, ![1, 1, m, n]⟩ : Shape).Idx → EReal) (f : ℕ → ℕ → ℝ) : Prop :=
  ∀ i : (⟨4, ![1, 1, m, n]⟩ : Shape).Idx, x i = ((f (i 2).val (i 3).val : ℝ) : EReal)

/-- The block `x` of one head holds the real numbers `f`. -/
def Mat3 {m n : ℕ} (x : (⟨3, ![1, m, n]⟩ : Shape).Idx → EReal) (f : ℕ → ℕ → ℝ) : Prop :=
  ∀ i : (⟨3, ![1, m, n]⟩ : Shape).Idx, x i = ((f (i 1).val (i 2).val : ℝ) : EReal)

theorem Mat4.cast {m n : ℕ} {φ : FTy} {x : FVec Ideal ⟨4, ![1, 1, m, n]⟩ φ} {f : ℕ → ℕ → ℝ} (hx : Mat4 x f)
    {h : (⟨4, ![1, 1, m, n]⟩ : Shape).ShapeCasts ⟨2, ![m, n]⟩} : Mat (φ := φ) (shapeCast ⟨2, ![m, n]⟩ x h) f := fun i => by
  obtain ⟨a, b, rfl⟩ : ∃ (a : Fin m) (b : Fin n), i = ValueIdx.ix2 a b := ⟨i 0, i 1, ValueIdx.eq_ix2 i⟩
  exact (congrArg x (ValueIdx.reshapeEquiv_ix2_11ab h a b)).trans (hx _)

theorem Mat3.cast {m n : ℕ} {φ : FTy} {x : FVec Ideal ⟨3, ![1, m, n]⟩ φ} {f : ℕ → ℕ → ℝ} (hx : Mat3 x f)
    {h : (⟨3, ![1, m, n]⟩ : Shape).ShapeCasts ⟨2, ![m, n]⟩} : Mat (φ := φ) (shapeCast ⟨2, ![m, n]⟩ x h) f := fun i => by
  obtain ⟨a, b, rfl⟩ : ∃ (a : Fin m) (b : Fin n), i = ValueIdx.ix2 a b := ⟨i 0, i 1, ValueIdx.eq_ix2 i⟩
  exact (congrArg x (ValueIdx.reshapeEquiv_ix2_1ab h a b)).trans (hx _)

/-- A row repeated over 160 rows. -/
theorem Mat.spread {x : FVec Ideal S1x128 .f32} {f : ℕ → ℝ} (hx : Mat x fun _ j => f j) :
    Mat (m := 160) (n := 128) (φ := .f32) (broadcastTo S160x128 x broadcasts_S1x128_S160x128) (fun _ j => f j) := fun i => hx _

/-! ## The vectors of a tile -/

/-- The tile `T` holds tokens `N` … `N + 127` of `q`, whose batch is `b`. -/
structure IsTile (q : Seq) (N b : ℕ) (T : Tile Ideal) (rc kc rs ks vs : ℕ → ℕ → ℝ) : Prop where
  hw : Mat4 T.w fun k j => q.w k (N + j)
  ha : Mat4 T.a fun k j => q.a k (N + j)
  hb : Mat4 T.b fun k j => q.b k (N + j)
  hr : Mat4 T.r rc
  hk : Mat4 T.k kc
  hrs : Mat3 T.rs rs
  hks : Mat3 T.ks ks
  hvs : Mat3 T.vs vs
  rr : ∀ k < 160, ∀ j < 128, rc k j * rs b j = q.r k (N + j)
  kk : ∀ k < 160, ∀ j < 128, kc k j * (ks b j * vs b j) = q.k k (N + j)
  hv0 : Mat4 T.v0 fun j c => q.v (N + j) c
  hv1 : Mat4 T.v1 fun j c => q.v (N + 64 + j) c

/-- The masks `M` are those of tokens `N` … `N + 127` of `q`, whose batch is `b`. -/
structure IsMasks (q : Seq) (N b : ℕ) (M : Masks Ideal) : Prop where
  pair0 : Msk M.pair0 fun i j => q.seg (N + i % 64) = q.seg (N + j % 64) ∧ (if i < 64 then j % 64 < i else j % 64 ≤ i - 64)
  inPrev0 : Mat M.inPrev0 fun i _ => Seq.eqInd (q.seg (N + i % 64)) (q.seg (N - 1))
  inLast0 : Msk M.inLast0 fun j _ => q.seg (N + 63) = q.seg (N + j)
  keep0 : M.keep0 = ((Seq.eqInd (q.seg (N + 63)) (q.seg (N - 1)) : ℝ) : EReal)
  pair1 : Msk M.pair1 fun i j => q.seg (N + 64 + i % 64) = q.seg (N + 64 + j % 64) ∧ (if i < 64 then j % 64 < i else j % 64 ≤ i - 64)
  inPrev1 : Mat M.inPrev1 fun i _ => Seq.eqInd (q.seg (N + 64 + i % 64)) (q.seg (N + 64 - 1))
  inLast1 : Msk M.inLast1 fun j _ => q.seg (N + 64 + 63) = q.seg (N + 64 + j)
  keep1 : M.keep1 = ((Seq.eqInd (q.seg (N + 64 + 63)) (q.seg (N + 64 - 1)) : ℝ) : EReal)
  tri : Mat M.tri fun i j => if i ≤ j ∧ i / 64 = j / 64 then 1 else 0
  this : M.this = k0_pay533 (BitVec.ofNat 32 b)

variable {q : Seq} {N b : ℕ} {T : Tile Ideal} {M : Masks Ideal} {rc kc rs ks vs : ℕ → ℕ → ℝ}

/-- The running sums of a tile. -/
def gF (q : Seq) (N k j : ℕ) : ℝ := if j < 64 then q.G N k (j + 1) else q.G (N + 64) k (j - 64 + 1)

theorem sum_upto (f : ℕ → ℝ) (j : ℕ) (hj : j < 128) :
    ∑ c ∈ range 128, f c * (if c ≤ j ∧ c / 64 = j / 64 then 1 else 0)
      = if j < 64 then ∑ c ∈ range (j + 1), f c else ∑ c ∈ range (j - 64 + 1), f (64 + c) := by
  have h : ∀ c, f c * (if c ≤ j ∧ c / 64 = j / 64 then 1 else 0) = if c ≤ j ∧ c / 64 = j / 64 then f c else 0 := fun c => by
    split <;> simp
  rw [Finset.sum_congr rfl fun c _ => h c]
  by_cases h64 : j < 64
  · rw [if_pos h64, ← Finset.sum_filter]
    refine Finset.sum_congr ?_ fun _ _ => rfl
    ext c; simp only [mem_filter, mem_range]; omega
  · rw [if_neg h64, show (128 : ℕ) = 64 + 64 from rfl, sum_split]
    have z : ∑ c ∈ range 64, (if c ≤ j ∧ c / 64 = j / 64 then f c else 0) = 0 :=
      Finset.sum_eq_zero fun c hc => if_neg (by have := mem_range.1 hc; omega)
    rw [z, zero_add, ← Finset.sum_filter]
    refine Finset.sum_congr ?_ fun _ _ => rfl
    ext c; simp only [mem_filter, mem_range]; omega

theorem IsTile.gs (h : IsTile q N b T rc kc rs ks vs) (m : IsMasks q N b M) : Mat (T.g M) (gF q N) := by
  refine Mat.congr (x := T.g M) (mat_sums m.tri (h.hw.cast (h := shapeCasts_S1x1x160x128_S160x128))) fun k hk j hj => ?_
  rw [sum_upto (fun c => q.w k (N + c)) j hj]
  unfold gF Seq.G
  simp only [Nat.add_assoc]

theorem IsTile.avs (h : IsTile q N b T rc kc rs ks vs) (m : IsMasks q N b M) :
    Mat (T.av M) (fun k j => if j < 64 then q.ah N k j else q.ah (N + 64) k (j - 64)) := by
  refine Mat.congr (x := T.av M) ((h.ha.cast (h := shapeCasts_S1x1x160x128_S160x128)).mul
    ((h.gs m).sub (h.hw.cast (h := shapeCasts_S1x1x160x128_S160x128))).exp) fun k hk j hj => ?_
  unfold gF Seq.ah
  split
  · rfl
  · rw [show N + 64 + (j - 64) = N + j by omega]

theorem IsTile.rvs (h : IsTile q N b T rc kc rs ks vs) (m : IsMasks q N b M) (hb : b < 4) :
    Mat (T.rv M) (fun k j => if j < 64 then q.rh N k j else q.rh (N + 64) k (j - 64)) := by
  have hs := (mat_batchRow hb (h.hrs.cast (h := shapeCasts_S1x4x128_S4x128))).spread
  rw [← m.this] at hs
  refine Mat.congr (x := T.rv M) ((h.hr.cast (h := shapeCasts_S1x1x160x128_S160x128)).mul ((h.gs m).exp.mul hs)) fun k hk j hj => ?_
  have := h.rr k hk j hj
  unfold gF Seq.rh
  split
  · rw [← this]; ring
  · rw [show N + 64 + (j - 64) = N + j by omega, ← this]; ring

theorem IsTile.undos (h : IsTile q N b T rc kc rs ks vs) (m : IsMasks q N b M) :
    Mat (undo (T.g M)) (fun k j => Real.exp (0 - gF q N k j)) := (Mat.zero.sub (h.gs m)).exp

theorem IsTile.kvs (h : IsTile q N b T rc kc rs ks vs) (m : IsMasks q N b M) (hb : b < 4) :
    Mat (T.kv M) (fun k j => if j < 64 then q.kh N k j else q.kh (N + 64) k (j - 64)) := by
  have hs := (mat_batchRow hb ((h.hks.cast (h := shapeCasts_S1x4x128_S4x128)).mul (h.hvs.cast (h := shapeCasts_S1x4x128_S4x128)))).spread
  rw [← m.this] at hs
  refine Mat.congr (x := T.kv M) ((h.hk.cast (h := shapeCasts_S1x1x160x128_S160x128)).mul ((h.undos m).mul hs)) fun k hk j hj => ?_
  have := h.kk k hk j hj
  unfold gF Seq.kh
  split
  · rw [← this]; ring
  · rw [show N + 64 + (j - 64) = N + j by omega, ← this]; ring

theorem IsTile.bvs (h : IsTile q N b T rc kc rs ks vs) (m : IsMasks q N b M) :
    Mat (T.bv M) (fun k j => if j < 64 then q.bh N k j else q.bh (N + 64) k (j - 64)) := by
  refine Mat.congr (x := T.bv M) ((h.hb.cast (h := shapeCasts_S1x1x160x128_S160x128)).mul (h.undos m)) fun k hk j hj => ?_
  unfold gF Seq.bh
  split
  · rfl
  · rw [show N + 64 + (j - 64) = N + j by omega]

/-! ## The two chunks -/

theorem lhsF_congr {f g : ℕ → ℕ → ℝ} {i j : ℕ} (h : ∀ k, f k i = g k j) (c : ℕ) : lhsF f i c = lhsF g j c := by
  simp only [lhsF, catCols, catRows, h]

theorem mat_lhs0 {a r : FVec Ideal S160x128 .f32} {fa fr : ℕ → ℕ → ℝ} (ha : Mat a fa) (hr : Mat r fr) :
    Mat (lhs0 a r) (lhsF fun k i => if i < 64 then fa k i else fr k (i - 64)) := by
  have := Mat.rows (m := 128) (.cons ((mat_lhsK ha).slice (p := 64) (q := 512) (a := 0) (b := 0) (h := slices_S128x512_o0_0_S64x512))
    (.cons ((mat_lhsK hr).slice (p := 64) (q := 512) (a := 0) (b := 0) (h := slices_S128x512_o0_0_S64x512)) .nil)) (h := concatenates_S64x512_S64x512_S128x512_d0)
  refine Mat.congr (x := lhs0 a r) this fun i hi c hc => ?_
  simp only [catRows, Nat.zero_add]
  by_cases h : i < 64
  · rw [if_pos h]; exact lhsF_congr (fun k => by rw [if_pos h]) c
  · rw [if_neg h, if_pos (by omega)]; exact lhsF_congr (fun k => by rw [if_neg h]) c

theorem mat_lhs1 {a r : FVec Ideal S160x128 .f32} {fa fr : ℕ → ℕ → ℝ} (ha : Mat a fa) (hr : Mat r fr) :
    Mat (lhs1 a r) (lhsF fun k i => if i < 64 then fa k (64 + i) else fr k (64 + (i - 64))) := by
  have := Mat.rows (m := 128) (.cons ((mat_lhsK ha).slice (p := 64) (q := 512) (a := 64) (b := 0) (h := slices_S128x512_o64_0_S64x512))
    (.cons ((mat_lhsK hr).slice (p := 64) (q := 512) (a := 64) (b := 0) (h := slices_S128x512_o64_0_S64x512)) .nil)) (h := concatenates_S64x512_S64x512_S128x512_d0)
  refine Mat.congr (x := lhs1 a r) this fun i hi c hc => ?_
  simp only [catRows, Nat.zero_add]
  by_cases h : i < 64
  · rw [if_pos h]; exact lhsF_congr (fun k => by rw [if_pos h]) c
  · rw [if_neg h, if_pos (by omega)]; exact lhsF_congr (fun k => by rw [if_neg h]) c

theorem lhsF_congr' {f g : ℕ → ℕ → ℝ} {m : ℕ} {x : FVec Ideal ⟨2, ![m, 512]⟩ .bf16} (hx : Mat x (lhsF f)) (h : ∀ k, ∀ i < m, f k i = g k i) :
    Mat x (lhsF g) := hx.congr fun i hi c hc => lhsF_congr (fun k => h k i hi) c

theorem IsTile.chunk0 (h : IsTile q N b T rc kc rs ks vs) (m : IsMasks q N b M) (hb : b < 4) :
    IsChunk q N M.pair0 M.inPrev0 M.inLast0 M.keep0 (lhs0 (T.av M) (T.rv M))
      (extractStridedSlice S160x1 ![0, 63] (T.g M) slices_S160x128_o0_63_S160x1) (zVec0 (T.bv M) (T.kv M)) (vVec T.v0) where
  pair := m.pair0
  inPrev := m.inPrev0
  inLast := m.inLast0
  keep := m.keep0
  lhs := lhsF_congr' (mat_lhs0 (h.avs m) (h.rvs m hb)) fun k i hi => by
    by_cases h64 : i < 64
    · simp only [if_pos h64]
    · simp only [if_neg h64, if_pos (show i - 64 < 64 by omega)]
  e := Mat.congr ((h.gs m).slice (p := 160) (q := 1) (a := 0) (b := 63)) fun k hk j hj => by
    rw [Nat.zero_add, show 63 + j = 63 by omega]; rfl
  z := Mat.congr (x := zVec0 (T.bv M) (T.kv M)) (Mat.select msk_lowLanes (h.bvs m) (h.kvs m hb).turn) fun k hk j hj => by
    by_cases h64 : j < 64
    · simp only [if_pos h64]
    · simp only [if_neg h64, show (j + 64) % 128 = j - 64 by omega, if_pos (show j - 64 < 64 by omega)]
  v := h.hv0.cast

theorem IsTile.chunk1 (h : IsTile q N b T rc kc rs ks vs) (m : IsMasks q N b M) (hb : b < 4) :
    IsChunk q (N + 64) M.pair1 M.inPrev1 M.inLast1 M.keep1 (lhs1 (T.av M) (T.rv M))
      (extractStridedSlice S160x1 ![0, 127] (T.g M) slices_S160x128_o0_127_S160x1) (zVec1 (T.bv M) (T.kv M)) (vVec T.v1) where
  pair := m.pair1
  inPrev := m.inPrev1
  inLast := m.inLast1
  keep := m.keep1
  lhs := lhsF_congr' (mat_lhs1 (h.avs m) (h.rvs m hb)) fun k i hi => by
    by_cases h64 : i < 64
    · simp only [if_pos h64, if_neg (show ¬ 64 + i < 64 by omega), Nat.add_sub_cancel_left]
    · simp only [if_neg h64, if_neg (show ¬ 64 + (i - 64) < 64 by omega), Nat.add_sub_cancel_left]
  e := Mat.congr ((h.gs m).slice (p := 160) (q := 1) (a := 0) (b := 127)) fun k hk j hj => by
    rw [Nat.zero_add, show 127 + j = 127 by omega]; rfl
  z := Mat.congr (x := zVec1 (T.bv M) (T.kv M)) (Mat.select msk_lowLanes (h.bvs m).turn (h.kvs m hb)) fun k hk j hj => by
    by_cases h64 : j < 64
    · simp only [if_pos h64, show (j + 64) % 128 = j + 64 by omega, if_neg (show ¬ j + 64 < 64 by omega), Nat.add_sub_cancel]
    · simp only [if_neg h64]
  v := h.hv1.cast

end Cert.Model

end
-- ==== Proof.TileValue.lean ====
/- What a tile of the model leaves: 128 tokens of the recurrence. -/
module

public import proofs.«01_k».proof.Proof.Tile

@[expose] public section

set_option maxRecDepth 16384

noncomputable section

namespace Cert.Model

open Idealize.ShloMosaic Idealize.ShloMosaic.TcCoe Finset Cert.KernelIdeal Cert.KernelIdeal.Gen Cert.Alg

variable {q : Seq} {N b : ℕ} {T : Tile Ideal} {M : Masks Ideal} {rc kc rs ks vs : ℕ → ℕ → ℝ}

theorem Mat.unsqueeze {m n : ℕ} {φ : FTy} {x : FVec Ideal ⟨2, ![m, n]⟩ φ} {f : ℕ → ℕ → ℝ} (hx : Mat x f)
    {h : (⟨2, ![m, n]⟩ : Shape).ShapeCasts ⟨3, ![1, m, n]⟩} : Mat3 (shapeCast ⟨3, ![1, m, n]⟩ x h) f := fun i => by
  have e : Shape.reshapeEquiv h i = (ValueIdx.ix2 (i 1) (i 2) : (⟨2, ![m, n]⟩ : Shape).Idx) :=
    Shape.reshapeEquiv_eq_of_rowMajor _ (by
      rw [Shape.rowMajor_val_three, Shape.rowMajor_val_two]
      have h0 : (i 0).val = 0 := Nat.lt_one_iff.1 (i 0).isLt
      show (i 1).val * n + (i 2).val = ((i 0).val * m + (i 1).val) * n + (i 2).val
      rw [h0, Nat.zero_mul, Nat.zero_add])
  exact (congrArg x e).trans (hx _)

/-- A word that is one where `p` and `l` agree. -/
theorem keep_eq (p l : BitVec 32) : (Scalar.select (Scalar.cmpi .eq p l) (Scalar.ofBits .f32 0x3F800000#32 : Ideal .f32) (Scalar.ofBits .f32 0x00000000#32))
    = ((Seq.eqInd l.toInt p.toInt : ℝ) : EReal) := by
  show (if BitVec.ofBool (p == l) = 1 then (Ideal.ofBits .f32 0x3F800000#32 : EReal) else Ideal.ofBits .f32 0x00000000#32) = _
  rw [Ideal.ofBits_one_f32, Ideal.ofBits_zero_f32]
  unfold Seq.eqInd
  by_cases h : p = l
  · rw [if_pos ((bit_eq _ _).2 h), if_pos (by rw [h])]; rfl
  · rw [if_neg fun hh => h ((bit_eq _ _).1 hh), if_neg fun hh => h (BitVec.toInt_inj.1 hh).symm]; rfl

/-- The masks the kernel computes are those of the sequence whose segment numbers it reads. -/
theorem isMasks {sg : ℕ → BitVec 32} (hq : ∀ t, q.seg t = (sg t).toInt) (hb : b < 4) {seg : Vec Ideal S4x128 .i32} {f : ℕ → ℕ → BitVec 32}
    (hseg : IMat seg f) (hf : ∀ j < 128, f b j = sg (N + j)) :
    IsMasks q N b (masksOf (BitVec.ofNat 32 b) lanes rows k0_pay526 k0_pay527 k0_pay528 64#32 k0_pay529 k0_pay530 seg
      (sg (N - 1)) (sg (N + 63)) (sg (N + 63)) (sg (N + 127))) := by
  have e : ∀ s t, q.seg s = q.seg t ↔ sg s = sg t := fun s t => by rw [hq, hq]; exact BitVec.toInt_inj
  have h2 := (imat_segRow hb hseg)
  have h4 : IMat (k0_pay4 (F := Ideal) k0_pay526 (k0_pay533 (BitVec.ofNat 32 b)) seg) (fun _ j => sg (N + j % 64)) :=
    (IMat.select msk_low h2 (h2.turn (h := rotates_S128x128_d1))).congr fun i hi j hj => by
      by_cases h : j < 64
      · simp only [if_pos h, Nat.mod_eq_of_lt h, hf j hj]
      · simp only [if_neg h, show (j + 64) % 128 = j % 64 by omega, hf (j % 64) (by omega)]
  have h5 : IMat (k0_pay5 (F := Ideal) k0_pay526 (k0_pay533 (BitVec.ofNat 32 b)) seg) (fun i _ => sg (N + i % 64)) :=
    h4.transpose (h := transposes_S128x128_p1_0_S128x128)
  have h10 : IMat (k0_pay10 (F := Ideal) k0_pay526 (k0_pay533 (BitVec.ofNat 32 b)) seg) (fun _ j => sg (N + 64 + j % 64)) :=
    (IMat.select msk_low (h2.turn (h := rotates_S128x128_d1)) h2).congr fun i hi j hj => by
      by_cases h : j < 64
      · simp only [if_pos h, Nat.mod_eq_of_lt h, show (j + 64) % 128 = 64 + j by omega, hf (64 + j) (by omega), Nat.add_assoc]
      · simp only [if_neg h, hf j hj, show N + 64 + j % 64 = N + j by omega]
  have h11 : IMat (k0_pay11 (F := Ideal) k0_pay526 (k0_pay533 (BitVec.ofNat 32 b)) seg) (fun i _ => sg (N + 64 + i % 64)) :=
    h10.transpose (h := transposes_S128x128_p1_0_S128x128)
  have ind : ∀ {x : IVec S128x128 32} {g : ℕ → ℕ} {p : ℕ}, IMat x (fun i _ => sg (g i)) →
      Mat (φ := .f32) (select (cmpi .eq x (broadcast S128x128 (sg p))) (broadcast S128x128 (Scalar.ofBits .f32 0x3F800000#32 : Ideal .f32))
        (broadcast S128x128 (Scalar.ofBits .f32 0x00000000#32 : Ideal .f32))) (fun i _ => Seq.eqInd (q.seg (g i)) (q.seg p)) := fun {x g p} hx =>
    Mat.congr (Mat.select (hx.eq (IMat.bcast (sg p))) Mat.one Mat.zero') fun i hi j hj => by
      unfold Seq.eqInd
      by_cases h : sg (g i) = sg p
      · rw [if_pos h, if_pos ((e _ _).2 h)]
      · rw [if_neg h, if_neg fun hh => h ((e _ _).1 hh)]
  have n1 : N + 64 - 1 = N + 63 := by omega
  have n2 : N + 64 + 63 = N + 127 := by omega
  refine ⟨?_, ?_, ?_, ?_, ?_, ?_, ?_, ?_, mat_tri, rfl⟩
  · exact ((h5.eq h4).and msk_causal).congr fun i hi j hj => by rw [e]
  · exact ind h5
  · exact ((h5.slice (p := 64) (q := 128) (a := 0) (b := 0) (h := slices_S128x128_o0_0_S64x128)).eq (IMat.bcast (sg (N + 63)))).congr fun i hi j hj => by
      rw [e, Nat.zero_add, Nat.mod_eq_of_lt hi, eq_comm]
  · rw [hq, hq]; exact keep_eq _ _
  · exact ((h11.eq h10).and msk_causal).congr fun i hi j hj => by rw [e]
  · rw [n1]; exact ind h11
  · rw [n2]
    exact ((h11.slice (p := 64) (q := 128) (a := 0) (b := 0) (h := slices_S128x128_o0_0_S64x128)).eq (IMat.bcast (sg (N + 127)))).congr fun i hi j hj => by
      rw [e, Nat.zero_add, Nat.mod_eq_of_lt hi, eq_comm]
  · rw [n1, n2, hq, hq]; exact keep_eq _ _

variable {s : FVec Ideal S160x128 .f32}

/-- The first chunk's output block. -/
theorem IsTile.out0 (h : IsTile q N b T rc kc rs ks vs) (m : IsMasks q N b M) (hb : b < 4) (hs : Mat s (q.state N))
    (hq : ∀ t, q.seg t ≤ q.seg (t + 1)) : Mat3 (tileOut0 M T s) (fun j c => q.out (N + j) c) :=
  Mat.unsqueeze (Mat.truncf (h := bitsLt_bf16_f32) ((h.chunk0 m hb).outRows hs hq)) (h := shapeCasts_S64x128_S1x64x128)

/-- The state after the first chunk. -/
theorem IsTile.mid (h : IsTile q N b T rc kc rs ks vs) (m : IsMasks q N b M) (hb : b < 4) (hs : Mat s (q.state N))
    (hq : ∀ t, q.seg t ≤ q.seg (t + 1)) : Mat (tileMid M T s) (q.state (N + 64)) := (h.chunk0 m hb).newState hs hq

/-- The second chunk's output block. -/
theorem IsTile.out1 (h : IsTile q N b T rc kc rs ks vs) (m : IsMasks q N b M) (hb : b < 4) (hs : Mat s (q.state (N + 64)))
    (hq : ∀ t, q.seg t ≤ q.seg (t + 1)) : Mat3 (tileOut1 M T s) (fun j c => q.out (N + 64 + j) c) :=
  Mat.unsqueeze (Mat.truncf (h := bitsLt_bf16_f32) ((h.chunk1 m hb).outRows hs hq)) (h := shapeCasts_S64x128_S1x64x128)

/-- The state after the second chunk. -/
theorem IsTile.end (h : IsTile q N b T rc kc rs ks vs) (m : IsMasks q N b M) (hb : b < 4) (hs : Mat s (q.state (N + 64)))
    (hq : ∀ t, q.seg t ≤ q.seg (t + 1)) : Mat (tileEnd M T s) (q.state (N + 128)) := (h.chunk1 m hb).newState hs hq

end Cert.Model

end
-- ==== Proof.Reads.lean ====
/- What the blocks a grid point reads hold, as real numbers, and what a trip of the loop reads of them. -/
module

public import proofs.«01_k».proof.Proof.TileValue
public import proofs.«01_k».proof.Proof.Run
public import Idealize.ShloMosaic.Lib.WholeRead
public import Idealize.ShloMosaic.Lib.WritesUnit

@[expose] public section

set_option maxRecDepth 16384

noncomputable section

namespace Cert.Model

open Idealize.ShloMosaic Idealize.ShloMosaic.TcCoe Finset Cert.KernelIdeal Cert.KernelIdeal.Gen Cert.Alg

/-- The blocks of a grid point hold, head by head, the sequences `q 0` … `q 3` of batch `b`. -/
structure Reads (b : ℕ) (q : ℕ → Seq) (sg : ℕ → ℕ → BitVec 32) (rc kc rs ks vs : ℕ → ℕ → ℕ → ℝ)
    (x0 : Vec Ideal S4x512 .i32) (x1 : Vec Ideal S1x4x160x512 .fp8e4m3) (x2 : Vec Ideal S4x4x512 .f32) (x3 : Vec Ideal S1x4x160x512 .fp8e4m3) (x4 : Vec Ideal S4x4x512 .f32) (x5 : Vec Ideal S1x4x512x128 .fp8e4m3) (x6 : Vec Ideal S4x4x512 .f32) (x7 : Vec Ideal S1x4x160x512 .bf16) (x8 : Vec Ideal S1x4x160x512 .bf16) (x9 : Vec Ideal S1x4x160x512 .f32) (x10 : Vec Ideal S1x4x160x128 .f32) (x11 : Vec Ideal S4x512 .i32) : Prop where
  hb : b < 4
  seg0 : ∀ i, x0 i = sg (i 0) (i 1)
  seg : ∀ i, x11 i = sg (i 0) (i 1)
  hr : ∀ i, x1 i = ((rc (i 1) (i 2) (i 3) : ℝ) : EReal)
  hrs : ∀ i, x2 i = ((rs (i 0) (i 1) (i 2) : ℝ) : EReal)
  hk : ∀ i, x3 i = ((kc (i 1) (i 2) (i 3) : ℝ) : EReal)
  hks : ∀ i, x4 i = ((ks (i 0) (i 1) (i 2) : ℝ) : EReal)
  hv : ∀ i, x5 i = (((q (i 1)).v (i 2) (i 3) : ℝ) : EReal)
  hvs : ∀ i, x6 i = ((vs (i 0) (i 1) (i 2) : ℝ) : EReal)
  a : ∀ i, x7 i = (((q (i 1)).a (i 2) (i 3) : ℝ) : EReal)
  bb : ∀ i, x8 i = (((q (i 1)).b (i 2) (i 3) : ℝ) : EReal)
  w : ∀ i, x9 i = (((q (i 1)).w (i 2) (i 3) : ℝ) : EReal)
  s0 : ∀ i, x10 i = (((q (i 1)).s0 (i 2) (i 3) : ℝ) : EReal)
  rr : ∀ h < 4, ∀ k < 160, ∀ t < 512, rc h k t * rs h b t = (q h).r k t
  kk : ∀ h < 4, ∀ k < 160, ∀ t < 512, kc h k t * (ks h b t * vs h b t) = (q h).k k t
  qseg : ∀ h < 4, ∀ t, (q h).seg t = (sg b t).toInt
  mono : ∀ h < 4, ∀ t, (q h).seg t ≤ (q h).seg (t + 1)

/-- The word a point reads before a chunk: that of the token before it (of token 0, at the start). -/
theorem off2_eq : ∀ (i : grid0.Coords) (k : Fin k0_t1_loop.trips) (r : Fin 2),
    k0_off2 i k (BitVec.ofNat 32 (64 * r.val)) = ![(i 0).val, 128 * k.val + 64 * r.val - 1] := by decide +kernel

theorem trips_le : ∀ k : Fin k0_t1_loop.trips, k.val < 4 := by decide +kernel

section Blocks
variable {κ : Kind} {sp : Space}

/-- A feature block, loaded. -/
theorem load4 {d0 d1 d2 d3 m n : ℕ} {e : EltTy} {arg : Memref sig κ sp ⟨4, ![d0, d1, d2, d3]⟩ e} (ha : arg.IsWhole)
    {x : Vec Ideal ⟨4, ![d0, d1, d2, d3]⟩ e} (f : ℕ → ℕ → ℕ → Elt Ideal e) (hx : ∀ i, x i = f (i 1) (i 2) (i 3))
    {off : Fin 4 → ℕ} (inb : ∀ a, off a + (![1, 1, m, n] : Fin 4 → ℕ) a ≤ (![d0, d1, d2, d3] : Fin 4 → ℕ) a) {h K N : ℕ} (ho : off = ![0, h, K, N])
    (i : (⟨4, ![1, 1, m, n]⟩ : Shape).Idx) :
    View.readAt (Elt Ideal) arg.view (Rect.unit (s := ⟨4, ![d0, d1, d2, d3]⟩) off ![1, 1, m, n] inb).toLoadRect (ha.unread x) i
      = f h (K + i 2) (N + i 3) := by
  subst ho
  refine (ha.readAt_unread x (Rect.unit (s := ⟨4, ![d0, d1, d2, d3]⟩) ![0, h, K, N] ![1, 1, m, n] inb).toLoadRect i).trans ((hx _).trans ?_)
  have h1 : (i 1).val = 0 := Nat.lt_one_iff.1 (i 1).isLt
  show f (h + 1 * (i 1).val) (K + 1 * (i 2).val) (N + 1 * (i 3).val) = _
  rw [h1, Nat.one_mul, Nat.one_mul, Nat.one_mul]
  rfl

/-- A scale block, loaded. -/
theorem load3 {d0 d1 d2 m n : ℕ} {e : EltTy} {arg : Memref sig κ sp ⟨3, ![d0, d1, d2]⟩ e} (ha : arg.IsWhole)
    {x : Vec Ideal ⟨3, ![d0, d1, d2]⟩ e} (f : ℕ → ℕ → ℕ → Elt Ideal e) (hx : ∀ i, x i = f (i 0) (i 1) (i 2))
    {off : Fin 3 → ℕ} (inb : ∀ a, off a + (![1, m, n] : Fin 3 → ℕ) a ≤ (![d0, d1, d2] : Fin 3 → ℕ) a) {h N : ℕ} (ho : off = ![h, 0, N])
    (i : (⟨3, ![1, m, n]⟩ : Shape).Idx) :
    View.readAt (Elt Ideal) arg.view (Rect.unit (s := ⟨3, ![d0, d1, d2]⟩) off ![1, m, n] inb).toLoadRect (ha.unread x) i
      = f h (i 1) (N + i 2) := by
  subst ho
  refine (ha.readAt_unread x (Rect.unit (s := ⟨3, ![d0, d1, d2]⟩) ![h, 0, N] ![1, m, n] inb).toLoadRect i).trans ((hx _).trans ?_)
  have h1 : (i 0).val = 0 := Nat.lt_one_iff.1 (i 0).isLt
  show f (h + 1 * (i 0).val) (0 + 1 * (i 1).val) (N + 1 * (i 2).val) = _
  rw [h1, Nat.one_mul, Nat.one_mul, Nat.one_mul, Nat.zero_add]
  rfl

end Blocks

variable {b : ℕ} {q : ℕ → Seq} {sg : ℕ → ℕ → BitVec 32} {rc kc rs ks vs : ℕ → ℕ → ℕ → ℝ}
    {x0 : Vec Ideal S4x512 .i32} {x1 : Vec Ideal S1x4x160x512 .fp8e4m3} {x2 : Vec Ideal S4x4x512 .f32} {x3 : Vec Ideal S1x4x160x512 .fp8e4m3} {x4 : Vec Ideal S4x4x512 .f32} {x5 : Vec Ideal S1x4x512x128 .fp8e4m3} {x6 : Vec Ideal S4x4x512 .f32} {x7 : Vec Ideal S1x4x160x512 .bf16} {x8 : Vec Ideal S1x4x160x512 .bf16} {x9 : Vec Ideal S1x4x160x512 .f32} {x10 : Vec Ideal S1x4x160x128 .f32} {x11 : Vec Ideal S4x512 .i32}
    {i : grid0.Coords} {arg2 : Memref sig .tc .smem S4x512 .i32}
    (harg2 : arg2.IsWhole) {arg3 : Memref sig .tc .vmem S1x4x160x512 .fp8e4m3} (harg3 : arg3.IsWhole) {arg4 : Memref sig .tc .vmem S4x4x512 .f32} (harg4 : arg4.IsWhole)
    {arg5 : Memref sig .tc .vmem S1x4x160x512 .fp8e4m3} (harg5 : arg5.IsWhole) {arg6 : Memref sig .tc .vmem S4x4x512 .f32} (harg6 : arg6.IsWhole) {arg7 : Memref sig .tc .vmem S1x4x512x128 .fp8e4m3}
    (harg7 : arg7.IsWhole) {arg8 : Memref sig .tc .vmem S4x4x512 .f32} (harg8 : arg8.IsWhole) {arg9 : Memref sig .tc .vmem S1x4x160x512 .bf16} (harg9 : arg9.IsWhole)
    {arg10 : Memref sig .tc .vmem S1x4x160x512 .bf16} (harg10 : arg10.IsWhole) {arg11 : Memref sig .tc .vmem S1x4x160x512 .f32} (harg11 : arg11.IsWhole) {arg13 : Memref sig .tc .vmem S4x512 .i32} (harg13 : arg13.IsWhole)

/-- What a head reads in a trip are 128 tokens of its sequence. -/
theorem Reads.tile (R : Reads b q sg rc kc rs ks vs x0 x1 x2 x3 x4 x5 x6 x7 x8 x9 x10 x11) {h N : ℕ} (hh : h < 4) (hN : N + 128 ≤ 512)
    {o4 : Fin 4 → ℕ} {h4 : ∀ a, o4 a + S1x1x160x128.size a ≤ S1x4x160x512.size a} (e4 : o4 = ![0, h, 0, N])
    {o5 : Fin 3 → ℕ} {h5 : ∀ a, o5 a + S1x4x128.size a ≤ S4x4x512.size a} (e5 : o5 = ![h, 0, N])
    {o60 : Fin 4 → ℕ} {h60 : ∀ a, o60 a + S1x1x64x128.size a ≤ S1x4x512x128.size a} (e60 : o60 = ![0, h, N, 0])
    {o61 : Fin 4 → ℕ} {h61 : ∀ a, o61 a + S1x1x64x128.size a ≤ S1x4x512x128.size a} (e61 : o61 = ![0, h, N + 64, 0]) :
    IsTile (q h) N b (tileAt arg3 arg4 arg5 arg6 arg7 arg8 arg9 arg10 arg11 (harg3.unread x1) (harg4.unread x2) (harg5.unread x3) (harg6.unread x4) (harg7.unread x5) (harg8.unread x6) (harg9.unread x7) (harg10.unread x8) (harg11.unread x9) o4 h4 o5 h5 o60 h60 o61 h61)
      (fun k j => rc h k (N + j)) (fun k j => kc h k (N + j)) (fun b j => rs h b (N + j)) (fun b j => ks h b (N + j)) (fun b j => vs h b (N + j)) where
  hw := fun i => (load4 harg11 (fun h k t => (((q h).w k t : ℝ) : EReal)) R.w h4 e4 i).trans (by rw [Nat.zero_add])
  ha := fun i => (load4 harg9 (fun h k t => (((q h).a k t : ℝ) : EReal)) R.a h4 e4 i).trans (by rw [Nat.zero_add])
  hb := fun i => (load4 harg10 (fun h k t => (((q h).b k t : ℝ) : EReal)) R.bb h4 e4 i).trans (by rw [Nat.zero_add])
  hr := fun i => (load4 harg3 (fun h k t => ((rc h k t : ℝ) : EReal)) R.hr h4 e4 i).trans (by rw [Nat.zero_add])
  hk := fun i => (load4 harg5 (fun h k t => ((kc h k t : ℝ) : EReal)) R.hk h4 e4 i).trans (by rw [Nat.zero_add])
  hrs := load3 harg4 (fun h b t => ((rs h b t : ℝ) : EReal)) R.hrs h5 e5
  hks := load3 harg6 (fun h b t => ((ks h b t : ℝ) : EReal)) R.hks h5 e5
  hvs := load3 harg8 (fun h b t => ((vs h b t : ℝ) : EReal)) R.hvs h5 e5
  rr := fun k hk j hj => R.rr h hh k hk (N + j) (by omega)
  kk := fun k hk j hj => R.kk h hh k hk (N + j) (by omega)
  hv0 := fun i => (load4 harg7 (fun h t c => (((q h).v t c : ℝ) : EReal)) R.hv h60 e60 i).trans (by rw [Nat.zero_add])
  hv1 := fun i => (load4 harg7 (fun h t c => (((q h).v t c : ℝ) : EReal)) R.hv h61 e61 i).trans (by rw [Nat.zero_add])

/-- The words of one token, loaded. -/
theorem Reads.word (R : Reads b q sg rc kc rs ks vs x0 x1 x2 x3 x4 x5 x6 x7 x8 x9 x10 x11) {off : Fin 2 → ℕ}
    (inb : ∀ a, off a + S1x1.size a ≤ S4x512.size a) {t : ℕ} (ho : off = ![b, t]) (x : S1x1.Idx) :
    View.readAt (Elt Ideal) arg2.view (Rect.unit (s := S4x512) off S1x1.size inb).toLoadRect (harg2.unread x0) x = sg b t := by
  subst ho
  refine (harg2.readAt_unread x0 (Rect.unit (s := S4x512) ![b, t] S1x1.size inb).toLoadRect x).trans ((R.seg0 _).trans ?_)
  have h0 : (x 0).val = 0 := Nat.lt_one_iff.1 (x 0).isLt
  have h1 : (x 1).val = 0 := Nat.lt_one_iff.1 (x 1).isLt
  show sg (b + 1 * (x 0).val) (t + 1 * (x 1).val) = _
  rw [h0, h1]; rfl

/-- The masks of a trip are those of its tokens. -/
theorem Reads.masks (R : Reads b q sg rc kc rs ks vs x0 x1 x2 x3 x4 x5 x6 x7 x8 x9 x10 x11) (hi : (i 0).val = b) {h : ℕ} (hh : h < 4) (k : Fin k0_t1_loop.trips) :
    IsMasks (q h) (128 * k.val) b (tripMasks i arg2 arg13 (BitVec.ofNat 32 (i 0).val) lanes rows k0_pay526 k0_pay527 k0_pay528 64#32 k0_pay529 k0_pay530 (harg2.unread x0) (harg13.unread x11) k) := by
  subst hi
  have hs : IMat (m := 4) (n := 128) (View.readAt (Elt Ideal) arg13.view (Rect.unit (s := S4x512) (k0_off1 k) S4x128.size (k0_off1_inb k)).toLoadRect (harg13.unread x11))
      (fun b j => sg b (128 * k.val + j)) := fun x => by
    refine (harg13.readAt_unread x11 (Rect.unit (s := S4x512) (k0_off1 k) S4x128.size (k0_off1_inb k)).toLoadRect x).trans ((R.seg _).trans ?_)
    show sg (k0_off1 k 0 + 1 * (x 0).val) (k0_off1 k 1 + 1 * (x 1).val) = _
    rw [k0_off1_eq k]
    show sg (0 + 1 * (x 0).val) (128 * k.val + 1 * (x 1).val) = _
    rw [Nat.one_mul, Nat.one_mul, Nat.zero_add]
  unfold tripMasks
  rw [R.word harg2 (off := k0_off2 i k 0#32) (k0_off2_inb i k 0) (off2_eq i k 0), R.word harg2 (off := k0_off3 i k 0#32) (k0_off3_inb i k 0) (k0_off3_eq i k 0),
    R.word harg2 (off := k0_off2 i k 64#32) (k0_off2_inb i k 1) (off2_eq i k 1), R.word harg2 (off := k0_off3 i k 64#32) (k0_off3_inb i k 1) (k0_off3_eq i k 1)]
  exact isMasks (R.qseg h hh) R.hb hs (fun j _ => rfl)

end Cert.Model

end
-- ==== Proof.LoopValue.lean ====
/- What the loop of the kernel leaves: after `n` trips the scratch holds the states of the four heads after
   `128 * n` tokens, and the output block their outputs. -/
module

public import proofs.«01_k».proof.Proof.Reads

@[expose] public section

set_option maxRecDepth 16384

noncomputable section

namespace Cert.Model

open Idealize.ShloMosaic Idealize.ShloMosaic.TcCoe Finset Cert.KernelIdeal Cert.KernelIdeal.Gen Cert.Alg

/-- `g` holds the states of the four heads after `t` tokens. -/
def Holds (q : ℕ → Seq) (t : ℕ) (g : S4x160x128.Idx → EReal) : Prop := ∀ i, g i = (((q (i 0)).state t (i 1) (i 2) : ℝ) : EReal)

/-- The output block of the four heads. -/
def outG (q : ℕ → Seq) : S1x512x512.Idx → EReal := fun y => (((q ((y 2).val / 128)).out (y 1) ((y 2).val % 128) : ℝ) : EReal)

/-- What is written agrees with the output block. -/
def Agrees (q : ℕ → Seq) (p : View.Piece (Elt Ideal) S1x512x512 .bf16) : Prop := ∀ x, p.2 x = outG q (p.1.emb x)

variable {q : ℕ → Seq}

/-- The state of a head, read. -/
theorem Holds.head {arg16 : Memref sig .tc .vmem S4x160x128 .f32} {f : BufTy.Contents (Elt Ideal) arg16.view.ty} {t : ℕ} (hf : Holds q t (arg16.view.read (Elt Ideal) f))
    {h : ℕ} (inb : ∀ a, (![h, 0, 0] : Fin 3 → ℕ) a + S1x160x128.size a ≤ S4x160x128.size a) :
    Mat (stateOf (F := Ideal) (View.readAt (Elt Ideal) arg16.view (Rect.unit (s := S4x160x128) ![h, 0, 0] S1x160x128.size inb).toLoadRect f)) ((q h).state t) := by
  refine Mat3.cast (h := shapeCasts_S1x160x128_S160x128) fun x => (hf _).trans ?_
  have h0 : (x 0).val = 0 := Nat.lt_one_iff.1 (x 0).isLt
  show (((q (h + 1 * (x 0).val)).state t (0 + 1 * (x 1).val) (0 + 1 * (x 2).val) : ℝ) : EReal) = _
  rw [h0, Nat.one_mul, Nat.one_mul, Nat.one_mul, Nat.zero_add, Nat.zero_add]
  rfl

/-- The four heads' words, written last each at its head. -/
theorem holds_of_writes {arg16 : Memref sig .tc .vmem S4x160x128 .f32} {f : BufTy.Contents (Elt Ideal) arg16.view.ty} {t : ℕ}
    {w0 w1 w2 w3 m0 m1 m2 m3 : FVec Ideal S160x128 .f32} (h0 : Mat w0 ((q 0).state t)) (h1 : Mat w1 ((q 1).state t)) (h2 : Mat w2 ((q 2).state t)) (h3 : Mat w3 ((q 3).state t)) :
    Holds q t (arg16.view.read (Elt Ideal) (arg16.view.writes (Elt Ideal) f
      [⟨Rect.unit (s := S4x160x128) ![3, 0, 0] S1x160x128.size inb_S4x160x128_S1x160x128_3_0_0, stateWord w3⟩,
       ⟨Rect.unit (s := S4x160x128) ![3, 0, 0] S1x160x128.size inb_S4x160x128_S1x160x128_3_0_0, stateWord m3⟩,
       ⟨Rect.unit (s := S4x160x128) ![2, 0, 0] S1x160x128.size inb_S4x160x128_S1x160x128_2_0_0, stateWord w2⟩,
       ⟨Rect.unit (s := S4x160x128) ![2, 0, 0] S1x160x128.size inb_S4x160x128_S1x160x128_2_0_0, stateWord m2⟩,
       ⟨Rect.unit (s := S4x160x128) ![1, 0, 0] S1x160x128.size inb_S4x160x128_S1x160x128_1_0_0, stateWord w1⟩,
       ⟨Rect.unit (s := S4x160x128) ![1, 0, 0] S1x160x128.size inb_S4x160x128_S1x160x128_1_0_0, stateWord m1⟩,
       ⟨Rect.unit (s := S4x160x128) ![0, 0, 0] S1x160x128.size inb_S4x160x128_S1x160x128_0_0_0, stateWord w0⟩,
       ⟨Rect.unit (s := S4x160x128) ![0, 0, 0] S1x160x128.size inb_S4x160x128_S1x160x128_0_0_0, stateWord m0⟩])) := by
  have skip : ∀ {h : ℕ} (inb : ∀ a, (![h, 0, 0] : Fin 3 → ℕ) a + S1x160x128.size a ≤ S4x160x128.size a) (w : FVec Ideal S1x160x128 .f32)
      (L : List (View.Piece (Elt Ideal) S4x160x128 .f32)) (y : S4x160x128.Idx), (y 0).val ≠ h →
      arg16.view.read (Elt Ideal) (arg16.view.writes (Elt Ideal) f (⟨Rect.unit (s := S4x160x128) ![h, 0, 0] S1x160x128.size inb, w⟩ :: L)) y
        = arg16.view.read (Elt Ideal) (arg16.view.writes (Elt Ideal) f L) y := fun {h} inb w L y hy =>
    View.read_writes_cons_unit_of_not_mem arg16.view f inb w L y rfl 0 (by
      show (y 0).val < h ∨ h + 1 ≤ (y 0).val
      omega)
  have hit : ∀ {h : ℕ} (inb : ∀ a, (![h, 0, 0] : Fin 3 → ℕ) a + S1x160x128.size a ≤ S4x160x128.size a) {w : FVec Ideal S160x128 .f32} (hw : Mat w ((q h).state t))
      (L : List (View.Piece (Elt Ideal) S4x160x128 .f32)) (y : S4x160x128.Idx), (y 0).val = h →
      arg16.view.read (Elt Ideal) (arg16.view.writes (Elt Ideal) f (⟨Rect.unit (s := S4x160x128) ![h, 0, 0] S1x160x128.size inb, stateWord w⟩ :: L)) y
        = (((q (y 0)).state t (y 1) (y 2) : ℝ) : EReal) := fun {h} inb {w} hw L y hy => by
    subst hy
    exact (View.read_writes_cons_unit_of_mem arg16.view f inb (stateWord w) L y (ValueIdx.ix3 (0 : Fin 1) (y 1) (y 2)) rfl (fun a => by
      fin_cases a
      · rfl
      · exact (Nat.zero_add _).symm
      · exact (Nat.zero_add _).symm)).trans (Mat.unsqueeze hw (h := shapeCasts_S160x128_S1x160x128) _)
  intro y
  have hy : (y 0).val < 4 := (y 0).isLt
  by_cases e3 : (y 0).val = 3
  · exact hit _ h3 _ y e3
  rw [skip _ _ _ y e3, skip _ _ _ y e3]
  by_cases e2 : (y 0).val = 2
  · exact hit _ h2 _ y e2
  rw [skip _ _ _ y e2, skip _ _ _ y e2]
  by_cases e1 : (y 0).val = 1
  · exact hit _ h1 _ y e1
  rw [skip _ _ _ y e1, skip _ _ _ y e1]
  exact hit _ h0 _ y (by omega)

/-- An output block of a head agrees. -/
theorem agrees_of {off : Fin 3 → ℕ} (inb : ∀ a, off a + S1x64x128.size a ≤ S1x512x512.size a) {w : FVec Ideal S1x64x128 .bf16} {h R C : ℕ}
    (ho : off = ![0, R, C]) (hC : C = 128 * h) (hw : Mat3 w (fun j c => (q h).out (R + j) c)) : Agrees q ⟨Rect.unit (s := S1x512x512) off S1x64x128.size inb, w⟩ := fun x => by
  subst ho hC
  refine (hw x).trans ?_
  have h2 : (x 2).val < 128 := (x 2).isLt
  show _ = (((q ((128 * h + 1 * (x 2).val) / 128)).out (R + 1 * (x 1).val) ((128 * h + 1 * (x 2).val) % 128) : ℝ) : EReal)
  rw [show (128 * h + 1 * (x 2).val) / 128 = h by omega, show (128 * h + 1 * (x 2).val) % 128 = (x 2).val by omega, Nat.one_mul]

variable {b : ℕ} {sg : ℕ → ℕ → BitVec 32} {rc kc rs ks vs : ℕ → ℕ → ℕ → ℝ}
    {x0 : Vec Ideal S4x512 .i32} {x1 : Vec Ideal S1x4x160x512 .fp8e4m3} {x2 : Vec Ideal S4x4x512 .f32} {x3 : Vec Ideal S1x4x160x512 .fp8e4m3} {x4 : Vec Ideal S4x4x512 .f32} {x5 : Vec Ideal S1x4x512x128 .fp8e4m3} {x6 : Vec Ideal S4x4x512 .f32} {x7 : Vec Ideal S1x4x160x512 .bf16} {x8 : Vec Ideal S1x4x160x512 .bf16} {x9 : Vec Ideal S1x4x160x512 .f32} {x10 : Vec Ideal S1x4x160x128 .f32} {x11 : Vec Ideal S4x512 .i32}
    {i : grid0.Coords} {arg2 : Memref sig .tc .smem S4x512 .i32}
    (harg2 : arg2.IsWhole) {arg3 : Memref sig .tc .vmem S1x4x160x512 .fp8e4m3} (harg3 : arg3.IsWhole) {arg4 : Memref sig .tc .vmem S4x4x512 .f32} (harg4 : arg4.IsWhole)
    {arg5 : Memref sig .tc .vmem S1x4x160x512 .fp8e4m3} (harg5 : arg5.IsWhole) {arg6 : Memref sig .tc .vmem S4x4x512 .f32} (harg6 : arg6.IsWhole) {arg7 : Memref sig .tc .vmem S1x4x512x128 .fp8e4m3}
    (harg7 : arg7.IsWhole) {arg8 : Memref sig .tc .vmem S4x4x512 .f32} (harg8 : arg8.IsWhole) {arg9 : Memref sig .tc .vmem S1x4x160x512 .bf16} (harg9 : arg9.IsWhole)
    {arg10 : Memref sig .tc .vmem S1x4x160x512 .bf16} (harg10 : arg10.IsWhole) {arg11 : Memref sig .tc .vmem S1x4x160x512 .f32} (harg11 : arg11.IsWhole) {arg13 : Memref sig .tc .vmem S4x512 .i32} (harg13 : arg13.IsWhole)
    {arg16 : Memref sig .tc .vmem S4x160x128 .f32}

/-- One trip: the states go on by 128 tokens, and what is written agrees with the output block. -/
theorem trip_value (R : Reads b q sg rc kc rs ks vs x0 x1 x2 x3 x4 x5 x6 x7 x8 x9 x10 x11) (hi : (i 0).val = b) (k : Fin k0_t1_loop.trips)
    {f : BufTy.Contents (Elt Ideal) arg16.view.ty} (hf : Holds q (128 * k.val) (arg16.view.read (Elt Ideal) f)) :
    Holds q (128 * (k.val + 1)) (arg16.view.read (Elt Ideal) (arg16.view.writes (Elt Ideal) f
      (statePieces i arg2 arg3 arg4 arg5 arg6 arg7 arg8 arg9 arg10 arg11 arg13 arg16 (BitVec.ofNat 32 (i 0).val) lanes rows k0_pay526 k0_pay527 k0_pay528 64#32 k0_pay529 k0_pay530 (harg2.unread x0) (harg3.unread x1) (harg4.unread x2) (harg5.unread x3) (harg6.unread x4) (harg7.unread x5) (harg8.unread x6) (harg9.unread x7) (harg10.unread x8) (harg11.unread x9) (harg13.unread x11) k f)))
    ∧ ∀ p ∈ outPieces i arg2 arg3 arg4 arg5 arg6 arg7 arg8 arg9 arg10 arg11 arg13 arg16 (BitVec.ofNat 32 (i 0).val) lanes rows k0_pay526 k0_pay527 k0_pay528 64#32 k0_pay529 k0_pay530 (harg2.unread x0) (harg3.unread x1) (harg4.unread x2) (harg5.unread x3) (harg6.unread x4) (harg7.unread x5) (harg8.unread x6) (harg9.unread x7) (harg10.unread x8) (harg11.unread x9) (harg13.unread x11) k f, Agrees q p := by
  have hk := trips_le k
  have hN : 128 * k.val + 128 ≤ 512 := by omega
  have T0 := R.tile harg3 harg4 harg5 harg6 harg7 harg8 harg9 harg10 harg11 (h := 0) (by decide) hN (h4 := k0_off4_inb k) (k0_off4_eq k) (h5 := k0_off5_inb k) (k0_off5_eq k) (h60 := k0_off6_inb k 0) (k0_off6_eq k 0) (h61 := k0_off6_inb k 1) (k0_off6_eq k 1)
  have T1 := R.tile harg3 harg4 harg5 harg6 harg7 harg8 harg9 harg10 harg11 (h := 1) (by decide) hN (h4 := k0_off8_inb k) (k0_off8_eq k) (h5 := k0_off9_inb k) (k0_off9_eq k) (h60 := k0_off10_inb k 0) (k0_off10_eq k 0) (h61 := k0_off10_inb k 1) (k0_off10_eq k 1)
  have T2 := R.tile harg3 harg4 harg5 harg6 harg7 harg8 harg9 harg10 harg11 (h := 2) (by decide) hN (h4 := k0_off12_inb k) (k0_off12_eq k) (h5 := k0_off13_inb k) (k0_off13_eq k) (h60 := k0_off14_inb k 0) (k0_off14_eq k 0) (h61 := k0_off14_inb k 1) (k0_off14_eq k 1)
  have T3 := R.tile harg3 harg4 harg5 harg6 harg7 harg8 harg9 harg10 harg11 (h := 3) (by decide) hN (h4 := k0_off16_inb k) (k0_off16_eq k) (h5 := k0_off17_inb k) (k0_off17_eq k) (h60 := k0_off18_inb k 0) (k0_off18_eq k 0) (h61 := k0_off18_inb k 1) (k0_off18_eq k 1)
  have M0 := R.masks harg2 harg13 hi (h := 0) (by decide) k
  have M1 := R.masks harg2 harg13 hi (h := 1) (by decide) k
  have M2 := R.masks harg2 harg13 hi (h := 2) (by decide) k
  have M3 := R.masks harg2 harg13 hi (h := 3) (by decide) k
  have S0 := hf.head (h := 0) inb_S4x160x128_S1x160x128_0_0_0
  have S1 := hf.head (h := 1) inb_S4x160x128_S1x160x128_1_0_0
  have S2 := hf.head (h := 2) inb_S4x160x128_S1x160x128_2_0_0
  have S3 := hf.head (h := 3) inb_S4x160x128_S1x160x128_3_0_0
  have D0 := T0.mid M0 R.hb S0 (R.mono 0 (by decide))
  have D1 := T1.mid M1 R.hb S1 (R.mono 1 (by decide))
  have D2 := T2.mid M2 R.hb S2 (R.mono 2 (by decide))
  have D3 := T3.mid M3 R.hb S3 (R.mono 3 (by decide))
  refine ⟨holds_of_writes (T0.end M0 R.hb D0 (R.mono 0 (by decide))) (T1.end M1 R.hb D1 (R.mono 1 (by decide)))
    (T2.end M2 R.hb D2 (R.mono 2 (by decide))) (T3.end M3 R.hb D3 (R.mono 3 (by decide))), ?_⟩
  refine List.forall_mem_cons.2 ⟨agrees_of _ (k0_off19_eq k 1) (h := 3) rfl (T3.out1 M3 R.hb D3 (R.mono 3 (by decide))),
    List.forall_mem_cons.2 ⟨agrees_of _ (k0_off19_eq k 0) (h := 3) rfl (T3.out0 M3 R.hb S3 (R.mono 3 (by decide))),
    List.forall_mem_cons.2 ⟨agrees_of _ (k0_off15_eq k 1) (h := 2) rfl (T2.out1 M2 R.hb D2 (R.mono 2 (by decide))),
    List.forall_mem_cons.2 ⟨agrees_of _ (k0_off15_eq k 0) (h := 2) rfl (T2.out0 M2 R.hb S2 (R.mono 2 (by decide))),
    List.forall_mem_cons.2 ⟨agrees_of _ (k0_off11_eq k 1) (h := 1) rfl (T1.out1 M1 R.hb D1 (R.mono 1 (by decide))),
    List.forall_mem_cons.2 ⟨agrees_of _ (k0_off11_eq k 0) (h := 1) rfl (T1.out0 M1 R.hb S1 (R.mono 1 (by decide))),
    List.forall_mem_cons.2 ⟨agrees_of _ (k0_off7_eq k 1) (h := 0) rfl (T0.out1 M0 R.hb D0 (R.mono 0 (by decide))),
    List.forall_mem_cons.2 ⟨agrees_of _ (k0_off7_eq k 0) (h := 0) rfl (T0.out0 M0 R.hb S0 (R.mono 0 (by decide))),
    fun p hp => absurd hp List.not_mem_nil⟩⟩⟩⟩⟩⟩⟩⟩

/-- The loop: after `n` trips the scratch holds the states after `128 * n` tokens. -/
theorem loop_value (R : Reads b q sg rc kc rs ks vs x0 x1 x2 x3 x4 x5 x6 x7 x8 x9 x10 x11) (hi : (i 0).val = b)
    {G : BufTy.Contents (Elt Ideal) arg16.view.ty} (hG : Holds q 0 (arg16.view.read (Elt Ideal) G)) (n : ℕ) (hn : n ≤ k0_t1_loop.trips) :
    Holds q (128 * n) (arg16.view.read (Elt Ideal) (arg16.view.writes (Elt Ideal) G
      (pieces i arg2 arg3 arg4 arg5 arg6 arg7 arg8 arg9 arg10 arg11 arg13 arg16 (BitVec.ofNat 32 (i 0).val) lanes rows k0_pay526 k0_pay527 k0_pay528 64#32 k0_pay529 k0_pay530 (harg2.unread x0) (harg3.unread x1) (harg4.unread x2) (harg5.unread x3) (harg6.unread x4) (harg7.unread x5) (harg8.unread x6) (harg9.unread x7) (harg10.unread x8) (harg11.unread x9) (harg13.unread x11) G n).2))
    ∧ ∀ p ∈ (pieces i arg2 arg3 arg4 arg5 arg6 arg7 arg8 arg9 arg10 arg11 arg13 arg16 (BitVec.ofNat 32 (i 0).val) lanes rows k0_pay526 k0_pay527 k0_pay528 64#32 k0_pay529 k0_pay530 (harg2.unread x0) (harg3.unread x1) (harg4.unread x2) (harg5.unread x3) (harg6.unread x4) (harg7.unread x5) (harg8.unread x6) (harg9.unread x7) (harg10.unread x8) (harg11.unread x9) (harg13.unread x11) G n).1, Agrees q p := by
  induction n with
  | zero => exact ⟨hG, fun p hp => absurd hp List.not_mem_nil⟩
  | succ n ih =>
    obtain ⟨h1, h2⟩ := ih (Nat.le_of_succ_le hn)
    obtain ⟨t1, t2⟩ := trip_value harg2 harg3 harg4 harg5 harg6 harg7 harg8 harg9 harg10 harg11 harg13 R hi ⟨n, hn⟩ h1
    rw [pieces, dif_pos (show n < k0_t1_loop.trips from hn)]
    refine ⟨?_, fun p hp => (List.mem_append.1 hp).elim (t2 p) (h2 p)⟩
    dsimp only
    rw [View.writes_append]
    exact t1

end Cert.Model

end
-- ==== Proof.KernelValue.lean ====
/- What a grid point leaves in its output blocks, as real numbers. -/
module

public import proofs.«01_k».proof.Proof.LoopValue
public import proofs.«01_k».proof.Proof.Frame
public import Idealize.ShloMosaic.Lib.Pipeline.ValueKit.Basic

@[expose] public section

set_option maxRecDepth 16384

noncomputable section

namespace Cert.Model

open Idealize.ShloMosaic Idealize.ShloMosaic.TcCoe Finset Cert.KernelIdeal Cert.KernelIdeal.Gen Cert.Alg Cert.KernelIdeal.Run

/-- The state block of the four heads after the last token. -/
def stateG (q : ℕ → Seq) : S1x4x160x128.Idx → EReal := fun y => (((q (y 1)).state 512 (y 2) (y 3) : ℝ) : EReal)

variable {b : ℕ} {q : ℕ → Seq} {sg : ℕ → ℕ → BitVec 32} {rc kc rs ks vs : ℕ → ℕ → ℕ → ℝ}
    {x0 : Vec Ideal S4x512 .i32} {x1 : Vec Ideal S1x4x160x512 .fp8e4m3} {x2 : Vec Ideal S4x4x512 .f32} {x3 : Vec Ideal S1x4x160x512 .fp8e4m3} {x4 : Vec Ideal S4x4x512 .f32} {x5 : Vec Ideal S1x4x512x128 .fp8e4m3} {x6 : Vec Ideal S4x4x512 .f32} {x7 : Vec Ideal S1x4x160x512 .bf16} {x8 : Vec Ideal S1x4x160x512 .bf16} {x9 : Vec Ideal S1x4x160x512 .f32} {x10 : Vec Ideal S1x4x160x128 .f32} {x11 : Vec Ideal S4x512 .i32}

variable (c : Dev nD) (i : grid0.Coords) (arg2 : Memref sig .tc .smem S4x512 .i32) (harg2 : arg2.IsWhole) (arg3 : Memref sig .tc .vmem S1x4x160x512 .fp8e4m3) (harg3 : arg3.IsWhole) (arg4 : Memref sig .tc .vmem S4x4x512 .f32) (harg4 : arg4.IsWhole) (arg5 : Memref sig .tc .vmem S1x4x160x512 .fp8e4m3) (harg5 : arg5.IsWhole) (arg6 : Memref sig .tc .vmem S4x4x512 .f32) (harg6 : arg6.IsWhole) (arg7 : Memref sig .tc .vmem S1x4x512x128 .fp8e4m3) (harg7 : arg7.IsWhole) (arg8 : Memref sig .tc .vmem S4x4x512 .f32) (harg8 : arg8.IsWhole) (arg9 : Memref sig .tc .vmem S1x4x160x512 .bf16) (harg9 : arg9.IsWhole) (arg10 : Memref sig .tc .vmem S1x4x160x512 .bf16) (harg10 : arg10.IsWhole) (arg11 : Memref sig .tc .vmem S1x4x160x512 .f32) (harg11 : arg11.IsWhole) (arg12 : Memref sig .tc .vmem S1x4x160x128 .f32) (harg12 : arg12.IsWhole) (arg13 : Memref sig .tc .vmem S4x512 .i32) (harg13 : arg13.IsWhole) (arg14 : Memref sig .tc .vmem S1x512x512 .bf16) (harg14 : arg14.IsWhole) (arg15 : Memref sig .tc .vmem S1x4x160x128 .f32) (harg15 : arg15.IsWhole) (arg16 : Memref sig .tc .vmem S4x160x128 .f32) (harg16 : arg16.IsWhole)

/-- Before the loop the scratch holds the states the heads start from. -/
theorem entry_holds (R : Reads b q sg rc kc rs ks vs x0 x1 x2 x3 x4 x5 x6 x7 x8 x9 x10 x11) :
    Holds q 0 (arg16.view.read (Elt Ideal) (arg16.view.writes (Elt Ideal) arg16.view.junk (entryPieces c arg12 harg12 x10))) := by
  rw [View.read_writes_junk_eq_canon]
  unfold entryPieces
  rw [View.canon_cons_unit_lit _ _ _ (by decide)]
  intro y
  obtain ⟨h, k, d, rfl⟩ : ∃ (h : Fin 4) (k : Fin 160) (d : Fin 128), y = ValueIdx.ix3 h k d := ⟨y 0, y 1, y 2, ValueIdx.eq_ix3 y⟩
  have e : k0_pay534 (F := Ideal) (View.readAt (Elt Ideal) arg12.view (Rect.unit (s := S1x4x160x128) ![0, 0, 0, 0] S1x4x160x128.size inb_S1x4x160x128_S1x4x160x128_0_0_0_0).toLoadRect (harg12.unread x10)) (ValueIdx.ix3 h k d)
      = View.readAt (Elt Ideal) arg12.view (Rect.unit (s := S1x4x160x128) ![0, 0, 0, 0] S1x4x160x128.size inb_S1x4x160x128_S1x4x160x128_0_0_0_0).toLoadRect (harg12.unread x10) (ValueIdx.ix4 0 h k d) := by
    unfold k0_pay534
    rw [shapeCast_self]
    exact ValueIdx.shapeCast_1abc_abc_apply _ _ _ _ _
  refine e.trans ((harg12.readAt_unread x10 (Rect.unit (s := S1x4x160x128) ![0, 0, 0, 0] S1x4x160x128.size inb_S1x4x160x128_S1x4x160x128_0_0_0_0).toLoadRect (ValueIdx.ix4 0 h k d)).trans ((R.s0 _).trans ?_))
  show (((q (0 + 1 * h.val)).s0 (0 + 1 * k.val) (0 + 1 * d.val) : ℝ) : EReal) = _
  rw [Nat.one_mul, Nat.one_mul, Nat.one_mul, Nat.zero_add, Nat.zero_add, Nat.zero_add]
  rfl

/-- The output block a point leaves. -/
theorem out_value (R : Reads b q sg rc kc rs ks vs x0 x1 x2 x3 x4 x5 x6 x7 x8 x9 x10 x11) (hi : (i 0).val = b) (y : S1x512x512.Idx) :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y = outG q y := by
  unfold out0_A_12
  rw [View.read_writes_junk_eq_canon]
  exact View.canon_apply_of_pieces (outG q) _ (loop_value harg2 harg3 harg4 harg5 harg6 harg7 harg8 harg9 harg10 harg11 harg13 R hi (entry_holds c arg12 harg12 arg16 R) k0_t1_loop.trips le_rfl).2 y
    (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y)

/-- The state block a point leaves. -/
theorem state_value (R : Reads b q sg rc kc rs ks vs x0 x1 x2 x3 x4 x5 x6 x7 x8 x9 x10 x11) (hi : (i 0).val = b) (y : S1x4x160x128.Idx) :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11 y = stateG q y := by
  have h := (loop_value harg2 harg3 harg4 harg5 harg6 harg7 harg8 harg9 harg10 harg11 harg13 R hi (entry_holds c arg12 harg12 arg16 R) k0_t1_loop.trips le_rfl).1
  have hl : Holds q 512 (lastState c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) := fun y => by
    unfold lastState
    rw [View.readCov_eq_canon', ← View.read_writes_junk_eq_canon arg16.view, View.writes_append]
    refine (h _).trans ?_
    show (((q (0 + 1 * (y 0).val)).state 512 (0 + 1 * (y 1).val) (0 + 1 * (y 2).val) : ℝ) : EReal) = _
    rw [Nat.one_mul, Nat.one_mul, Nat.one_mul, Nat.zero_add, Nat.zero_add, Nat.zero_add]
  unfold out0_A_13
  rw [View.read_writes_junk_eq_canon]
  show View.canon (states c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) y = _
  unfold states
  rw [View.canon_cons_unit_lit _ _ _ (by decide)]
  obtain ⟨z, h, k, d, rfl⟩ : ∃ (z : Fin 1) (h : Fin 4) (k : Fin 160) (d : Fin 128), y = ValueIdx.ix4 z h k d := ⟨y 0, y 1, y 2, y 3, ValueIdx.eq_ix4 y⟩
  have e : Shape.reshapeEquiv shapeCasts_S4x160x128_S1x4x160x128 (ValueIdx.ix4 z h k d) = (ValueIdx.ix3 h k d : S4x160x128.Idx) :=
    Shape.reshapeEquiv_eq_of_rowMajor _ (by
      rw [Shape.rowMajor_val_four, Shape.rowMajor_val_three]
      have h0 : z.val = 0 := Nat.lt_one_iff.1 z.isLt
      show (h.val * 160 + k.val) * 128 + d.val = ((z.val * 4 + h.val) * 160 + k.val) * 128 + d.val
      rw [h0, Nat.zero_mul, Nat.zero_add])
  exact (congrArg (lastState c i arg2 harg2 arg3 harg3 arg4 harg4 arg5 harg5 arg6 harg6 arg7 harg7 arg8 harg8 arg9 harg9 arg10 harg10 arg11 harg11 arg12 harg12 arg13 harg13 arg14 harg14 arg15 harg15 arg16 harg16 x0 x1 x2 x3 x4 x5 x6 x7 x8 x9 x10 x11) e).trans (hl _)

end Cert.Model

end
-- ==== Proof.Blocks.lean ====
/- What the kernel's arrays hold after its run, block by block. -/
module

public import proofs.«01_k».proof.Proof.Frame
public import Idealize.ShloMosaic.Lib.Pipeline.Value

@[expose] public section

noncomputable section

namespace Cert.KernelIdeal.Blocks

open Cert.KernelIdeal Cert.KernelIdeal.Gen Cert.KernelIdeal.Run Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 12's array: the run's contents for that window after the body (`Gen.outsAt0`: its component 0), read through the window's block. -/
theorem flushed12 (c : Dev nD) (t : Fin cfg0.N) :
    (dats m 0 c).flushed 12 t = (cfg0.win 12).cut (grid0.coords t) ((outsAt0 m c t).1) := by
  show (cfg0.win 12).cut (grid0.coords t) ((dats m 0 c).after 12 t) = _
  rw [after0_12]

/-- … so at a point where case A runs, what its write-back would write is that case's NAMED TERM for the window (`Gen.out0_A_12`: the pieces
    its run found, read back) at the point's memrefs and input blocks, and for an output the case reads back what the point before left (`Gen.outsAt0` at `t - 1`) — the kernel's one case, `Gen.outsAt0` by definition. -/
theorem flushed12_A (c : Dev nD) (t : Fin cfg0.N) :
    (dats m 0 c).flushed 12 t = (cfg0.win 12).cut (grid0.coords t) (out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed12, outsAt0]

/-- The index map sends distinct grid points to distinct block indices (decided over the 20 points). -/
theorem idx_inj12 : ∀ t t' : Fin cfg0.N, win0_12.index t = win0_12.index t' → t = t' :=
  (by decide +kernel : ∀ t t' : Fin grid0.N, win0_12.index t = win0_12.index t' → t = t')

/-- So two flushing points' blocks share no array index (Lib/Pipeline/Cells.lean `Window.disjoint_blk`). -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)

/-- BLOCK `t` OF THE FINAL ARRAY, read back through the window, is what point `t` wrote back (`flushed12`), for every
    point that writes back: no other point's block meets it. -/
theorem blocks12 (c : Dev nD) (t : Fin cfg0.N) (hf : (cfg0.win 12).flush t = true) :
    ((cfg0.win 12).blk t).view.read (Elt F) ((dats m 0 c).arrAt 12 cfg0.N) = (dats m 0 c).flushed 12 t :=
  (dats m 0 c).read_blk_arrAt_eq_flushed 12 disjoint12 cfg0.N t t.isLt hf

/-- An index that no flushing point's block covers keeps output window 12's array contents at region entry. -/
theorem entry12 (c : Dev nD) (i : S4x512x2560.Idx) (h : ∀ t : Fin cfg0.N, (cfg0.win 12).flush t = true → i ∉ ((cfg0.win 12).blk t).view.set) :
    (dats m 0 c).arrAt 12 cfg0.N i = V m c (Pipeline.arrRef spec0 12) i := by
  rw [(dats m 0 c).arrAt_apply_of_forall_not_mem 12 cfg0.N i (fun t _ hf => h t hf), A_eq]

/-- WHAT POINT `t` WRITES BACK to output window 13's array: the run's contents for that window after the body (`Gen.outsAt0`: its component 1), read through the window's block. -/
theorem flushed13 (c : Dev nD) (t : Fin cfg0.N) :
    (dats m 0 c).flushed 13 t = (cfg0.win 13).cut (grid0.coords t) ((outsAt0 m c t).2) := by
  show (cfg0.win 13).cut (grid0.coords t) ((dats m 0 c).after 13 t) = _
  rw [after0_13]

/-- … so at a point where case A runs, what its write-back would write is that case's NAMED TERM for the window (`Gen.out0_A_13`: the pieces
    its run found, read back) at the point's memrefs and input blocks, and for an output the case reads back what the point before left (`Gen.outsAt0` at `t - 1`) — the kernel's one case, `Gen.outsAt0` by definition. -/
theorem flushed13_A (c : Dev nD) (t : Fin cfg0.N) :
    (dats m 0 c).flushed 13 t = (cfg0.win 13).cut (grid0.coords t) (out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)) := by
  simp only [flushed13, outsAt0]

/-- The index map sends distinct grid points to distinct block indices (decided over the 20 points). -/
theorem idx_inj13 : ∀ t t' : Fin cfg0.N, win0_13.index t = win0_13.index t' → t = t' :=
  (by decide +kernel : ∀ t t' : Fin grid0.N, win0_13.index t = win0_13.index t' → t = t')

/-- So two flushing points' blocks share no array index (Lib/Pipeline/Cells.lean `Window.disjoint_blk`). -/
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-- BLOCK `t` OF THE FINAL ARRAY, read back through the window, is what point `t` wrote back (`flushed13`), for every
    point that writes back: no other point's block meets it. -/
theorem blocks13 (c : Dev nD) (t : Fin cfg0.N) (hf : (cfg0.win 13).flush t = true) :
    ((cfg0.win 13).blk t).view.read (Elt F) ((dats m 0 c).arrAt 13 cfg0.N) = (dats m 0 c).flushed 13 t :=
  (dats m 0 c).read_blk_arrAt_eq_flushed 13 disjoint13 cfg0.N t t.isLt hf

/-- An index that no flushing point's block covers keeps output window 13's array contents at region entry. -/
theorem entry13 (c : Dev nD) (i : S4x20x160x128.Idx) (h : ∀ t : Fin cfg0.N, (cfg0.win 13).flush t = true → i ∉ ((cfg0.win 13).blk t).view.set) :
    (dats m 0 c).arrAt 13 cfg0.N i = V m c (Pipeline.arrRef spec0 13) i := by
  rw [(dats m 0 c).arrAt_apply_of_forall_not_mem 13 cfg0.N i (fun t _ hf => h t hf), A_eq]

/-- After the frame run, output window 12's array is `(dats m 0 c).arrAt 12 N`. -/
theorem post12 (r : PUnit × MemSt nD τ sig (Elt F)) (h : Pipeline.FramePost cfgs (dats m) 0 (V m) r) (c : Dev nD) :
    r.2.mem ((c : Thread nD τ).loc main_v13_0) = (dats m 0 c).arrAt 12 cfg0.N :=
  (h c).1 12

/-- After the frame run, output window 13's array is `(dats m 0 c).arrAt 13 N`. -/
theorem post13 (r : PUnit × MemSt nD τ sig (Elt F)) (h : Pipeline.FramePost cfgs (dats m) 0 (V m) r) (c : Dev nD) :
    r.2.mem ((c : Thread nD τ).loc main_v13_1) = (dats m 0 c).arrAt 13 cfg0.N :=
  (h c).1 13

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: no window stages it, and the run leaves the region's other buffers as they were. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).2 main_arg6 (Pipeline.mem_restRefs_of main_arg6 (by decide) (by decide))).trans (V_main_arg6 m c)

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- After the frame run, argument `main_arg10` is as launched: input window 11 stages it and never writes it back. -/
theorem kept_main_arg10 (r : PUnit × MemSt nD τ sig (Elt F)) (h : Pipeline.FramePost cfgs (dats m) 0 (V m) r) (c : Dev nD) :
    r.2.mem ((c : Thread nD τ).loc main_arg10) = m ((c : Thread nD τ).loc main_arg10) :=
  ((h c).1 11).trans (((dats m 0 c).arrAt_in 11 rfl _).trans ((A_eq m c 11).trans (V_main_arg10 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v13_0) = (dats m 0 c).arrAt 12 cfg0.N
      ∧ r.2.mem ((c : Thread nD τ).loc main_v13_1) = (dats m 0 c).arrAt 13 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun r h c => ⟨post12 m r h c,
      post13 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c,
      kept_main_arg10 m r h c⟩)
    (run_main m ρ)

end Cert.KernelIdeal.Blocks

end
-- ==== Proof.Inputs.lean ====
/- The arguments of the programs as real numbers: one sequence for each batch and head. -/
module

public import proofs.«01_k».proof.Proof.Recur
public import Idealize.ShloMosaic.Lib.ValueIdxCore
public import Idealize.ShloMosaic.PureOps

@[expose] public section

noncomputable section

namespace Cert.Model

open Idealize.ShloMosaic Cert.Alg

/-- The eleven arguments, in order: the codes and scales of `r`, `k`, `v`, then `a`, `b`, the logarithmic decays,
    the initial states and the segments. -/
structure Args where
  r : (⟨4, ![4, 512, 20, 160]⟩ : Shape).Idx → EReal
  rs : (⟨3, ![4, 512, 20]⟩ : Shape).Idx → EReal
  k : (⟨4, ![4, 512, 20, 160]⟩ : Shape).Idx → EReal
  ks : (⟨3, ![4, 512, 20]⟩ : Shape).Idx → EReal
  v : (⟨4, ![4, 512, 20, 128]⟩ : Shape).Idx → EReal
  vs : (⟨3, ![4, 512, 20]⟩ : Shape).Idx → EReal
  a : (⟨4, ![4, 512, 20, 160]⟩ : Shape).Idx → EReal
  b : (⟨4, ![4, 512, 20, 160]⟩ : Shape).Idx → EReal
  w : (⟨4, ![4, 512, 20, 160]⟩ : Shape).Idx → EReal
  h0 : (⟨4, ![4, 20, 128, 160]⟩ : Shape).Idx → EReal
  seg : (⟨2, ![4, 512]⟩ : Shape).Idx → BitVec 32

/-- Every entry is a real number. -/
def Fin' {s : Shape} (x : s.Idx → EReal) : Prop := ∀ i, ∃ y : ℝ, x i = (y : EReal)

/-- The arguments are finite, and the segments of a sequence come one after another. -/
structure Args.Good (A : Args) : Prop where
  r : Fin' A.r
  rs : Fin' A.rs
  k : Fin' A.k
  ks : Fin' A.ks
  v : Fin' A.v
  vs : Fin' A.vs
  a : Fin' A.a
  b : Fin' A.b
  w : Fin' A.w
  h0 : Fin' A.h0
  sorted : ∀ (b : Fin 4) (t : ℕ) (h : t + 1 < 512), (A.seg (ValueIdx.ix2 b ⟨t, Nat.lt_of_succ_lt h⟩)).toInt ≤ (A.seg (ValueIdx.ix2 b ⟨t + 1, h⟩)).toInt

/-- An entry, as a real number, by its coordinates. -/
def at4 {n0 n1 n2 n3 : ℕ} [NeZero n0] [NeZero n1] [NeZero n2] [NeZero n3] (x : (⟨4, ![n0, n1, n2, n3]⟩ : Shape).Idx → EReal) (a b c d : ℕ) : ℝ :=
  (x (ValueIdx.ix4 (Fin.ofNat n0 a) (Fin.ofNat n1 b) (Fin.ofNat n2 c) (Fin.ofNat n3 d))).toReal

/-- An entry, as a real number, by its coordinates. -/
def at3 {n0 n1 n2 : ℕ} [NeZero n0] [NeZero n1] [NeZero n2] (x : (⟨3, ![n0, n1, n2]⟩ : Shape).Idx → EReal) (a b c : ℕ) : ℝ :=
  (x (ValueIdx.ix3 (Fin.ofNat n0 a) (Fin.ofNat n1 b) (Fin.ofNat n2 c))).toReal

theorem Fin'.at4 {n0 n1 n2 n3 : ℕ} [NeZero n0] [NeZero n1] [NeZero n2] [NeZero n3] {x : (⟨4, ![n0, n1, n2, n3]⟩ : Shape).Idx → EReal} (h : Fin' x)
    (a : Fin n0) (b : Fin n1) (c : Fin n2) (d : Fin n3) : x (ValueIdx.ix4 a b c d) = ((at4 x a b c d : ℝ) : EReal) := by
  unfold Model.at4
  rw [Fin.ofNat_val_eq_self, Fin.ofNat_val_eq_self, Fin.ofNat_val_eq_self, Fin.ofNat_val_eq_self]
  obtain ⟨y, hy⟩ := h (ValueIdx.ix4 a b c d)
  rw [hy, EReal.toReal_coe]

theorem Fin'.at3 {n0 n1 n2 : ℕ} [NeZero n0] [NeZero n1] [NeZero n2] {x : (⟨3, ![n0, n1, n2]⟩ : Shape).Idx → EReal} (h : Fin' x)
    (a : Fin n0) (b : Fin n1) (c : Fin n2) : x (ValueIdx.ix3 a b c) = ((at3 x a b c : ℝ) : EReal) := by
  unfold Model.at3
  rw [Fin.ofNat_val_eq_self, Fin.ofNat_val_eq_self, Fin.ofNat_val_eq_self]
  obtain ⟨y, hy⟩ := h (ValueIdx.ix3 a b c)
  rw [hy, EReal.toReal_coe]

/-- The segment of a token; after the last one, the last segment goes on. -/
def Args.segAt (A : Args) (b t : ℕ) : BitVec 32 := A.seg (ValueIdx.ix2 (Fin.ofNat 4 b) (Fin.ofNat 512 (min t 511)))

theorem Args.segAt_eq (A : Args) (b : Fin 4) (t : Fin 512) : A.seg (ValueIdx.ix2 b t) = A.segAt b t := by
  unfold Args.segAt
  rw [Nat.min_eq_left (by omega), Fin.ofNat_val_eq_self, Fin.ofNat_val_eq_self]

/-- The sequence of batch `b` and head `h`. -/
def Args.seq (A : Args) (b h : ℕ) : Seq where
  r k t := at4 A.r b t h k * at3 A.rs b t h
  k k t := at4 A.k b t h k * (at3 A.ks b t h * at3 A.vs b t h)
  v t c := at4 A.v b t h c
  a k t := at4 A.a b t h k
  b k t := at4 A.b b t h k
  w k t := at4 A.w b t h k
  s0 k c := at4 A.h0 b h c k
  seg t := (A.segAt b t).toInt

theorem Args.Good.mono {A : Args} (g : A.Good) (b h t : ℕ) : (A.seq b h).seg t ≤ (A.seq b h).seg (t + 1) := by
  show (A.segAt b t).toInt ≤ (A.segAt b (t + 1)).toInt
  unfold Args.segAt
  by_cases ht : t + 1 < 512
  · rw [Nat.min_eq_left (by omega), Nat.min_eq_left (by omega)]
    have := g.sorted (Fin.ofNat 4 b) t ht
    rwa [show Fin.ofNat 512 t = ⟨t, Nat.lt_of_succ_lt ht⟩ from Fin.ext (Nat.mod_eq_of_lt (by omega)),
      show Fin.ofNat 512 (t + 1) = ⟨t + 1, ht⟩ from Fin.ext (Nat.mod_eq_of_lt ht)]
  · rw [Nat.min_eq_right (by omega), Nat.min_eq_right (by omega)]

/-- The output of every token. -/
def Args.outArr (A : Args) : (⟨3, ![4, 512, 2560]⟩ : Shape).Idx → EReal := fun y => (((A.seq (y 0) ((y 2).val / 128)).out (y 1) ((y 2).val % 128) : ℝ) : EReal)

/-- The state of every head after the last token. -/
def Args.stateArr (A : Args) : (⟨4, ![4, 20, 160, 128]⟩ : Shape).Idx → EReal := fun y => (((A.seq (y 0) (y 1)).state 512 (y 2) (y 3) : ℝ) : EReal)

end Cert.Model

end
-- ==== Proof.KernelArrays.lean ====
/- What the kernel's two arrays hold after its run, as real numbers. -/
module

public import proofs.«01_k».proof.Proof.KernelValue
public import proofs.«01_k».proof.Proof.Blocks
public import proofs.«01_k».proof.Proof.Inputs
public import Idealize.ShloMosaic.Lib.Claim
public import Idealize.ShloMosaic.Lib.Pipeline.ValueKit.Point

@[expose] public section

set_option maxRecDepth 16384

noncomputable section

namespace Cert.Model

open Idealize.ShloMosaic Idealize.ShloMosaic.TcCoe Finset Cert.KernelIdeal Cert.KernelIdeal.Gen Cert.Alg Cert.KernelIdeal.Run

variable (m : (ℓ : Loc nD τ sig) → Buf (Elt Ideal) ℓ)

theorem coord0 (t : Fin cfg0.N) : (grid0.coords t 0).val < 4 := (grid0.coords t 0).isLt

theorem coord1 (t : Fin cfg0.N) : (grid0.coords t 1).val < 5 := (grid0.coords t 1).isLt

theorem head_lt (t : Fin cfg0.N) (h : Fin 4) : 4 * (grid0.coords t 1).val + h.val < 20 := by
  have := coord1 t
  omega

/-- The batch of a grid point. -/
abbrev batch (t : Fin cfg0.N) : Fin 4 := ⟨(grid0.coords t 0).val, coord0 t⟩

/-- A head of a grid point. -/
abbrev headOf (t : Fin cfg0.N) (h : Fin 4) : Fin 20 := ⟨4 * (grid0.coords t 1).val + h.val, head_lt t h⟩

/-! ## Transposed arrays -/

section Transposed

variable {α : Type} {n0 n1 n2 n3 : ℕ}

theorem transpose_0231 (x : (⟨4, ![n0, n1, n2, n3]⟩ : Shape).Idx → α) (h : (⟨4, ![n0, n1, n2, n3]⟩ : Shape).Transposes [0, 2, 3, 1] ⟨4, ![n0, n2, n3, n1]⟩)
    (a : Fin n0) (b : Fin n1) (c : Fin n2) (d : Fin n3) : transpose ⟨4, ![n0, n2, n3, n1]⟩ [0, 2, 3, 1] x h (ValueIdx.ix4 a c d b) = x (ValueIdx.ix4 a b c d) :=
  transpose_apply _ _ _ _ _ fun | ⟨0, _⟩ => rfl | ⟨1, _⟩ => rfl | ⟨2, _⟩ => rfl | ⟨3, _⟩ => rfl

theorem transpose_0213 (x : (⟨4, ![n0, n1, n2, n3]⟩ : Shape).Idx → α) (h : (⟨4, ![n0, n1, n2, n3]⟩ : Shape).Transposes [0, 2, 1, 3] ⟨4, ![n0, n2, n1, n3]⟩)
    (a : Fin n0) (b : Fin n1) (c : Fin n2) (d : Fin n3) : transpose ⟨4, ![n0, n2, n1, n3]⟩ [0, 2, 1, 3] x h (ValueIdx.ix4 a c b d) = x (ValueIdx.ix4 a b c d) :=
  transpose_apply _ _ _ _ _ fun | ⟨0, _⟩ => rfl | ⟨1, _⟩ => rfl | ⟨2, _⟩ => rfl | ⟨3, _⟩ => rfl

theorem transpose_0132 (x : (⟨4, ![n0, n1, n2, n3]⟩ : Shape).Idx → α) (h : (⟨4, ![n0, n1, n2, n3]⟩ : Shape).Transposes [0, 1, 3, 2] ⟨4, ![n0, n1, n3, n2]⟩)
    (a : Fin n0) (b : Fin n1) (c : Fin n2) (d : Fin n3) : transpose ⟨4, ![n0, n1, n3, n2]⟩ [0, 1, 3, 2] x h (ValueIdx.ix4 a b d c) = x (ValueIdx.ix4 a b c d) :=
  transpose_apply _ _ _ _ _ fun | ⟨0, _⟩ => rfl | ⟨1, _⟩ => rfl | ⟨2, _⟩ => rfl | ⟨3, _⟩ => rfl

theorem transpose_201 (x : (⟨3, ![n0, n1, n2]⟩ : Shape).Idx → α) (h : (⟨3, ![n0, n1, n2]⟩ : Shape).Transposes [2, 0, 1] ⟨3, ![n2, n0, n1]⟩)
    (a : Fin n0) (b : Fin n1) (c : Fin n2) : transpose ⟨3, ![n2, n0, n1]⟩ [2, 0, 1] x h (ValueIdx.ix3 c a b) = x (ValueIdx.ix3 a b c) :=
  transpose_apply _ _ _ _ _ fun | ⟨0, _⟩ => rfl | ⟨1, _⟩ => rfl | ⟨2, _⟩ => rfl

end Transposed

/-! ## Where the blocks of a grid point lie -/

theorem index1 : ∀ t : Fin grid0.N, win0_1.index t = ![(grid0.coords t 0).val, (grid0.coords t 1).val, 0, 0] := by decide +kernel

theorem index3 : ∀ t : Fin grid0.N, win0_3.index t = ![(grid0.coords t 0).val, (grid0.coords t 1).val, 0, 0] := by decide +kernel

theorem index5 : ∀ t : Fin grid0.N, win0_5.index t = ![(grid0.coords t 0).val, (grid0.coords t 1).val, 0, 0] := by decide +kernel

theorem index7 : ∀ t : Fin grid0.N, win0_7.index t = ![(grid0.coords t 0).val, (grid0.coords t 1).val, 0, 0] := by decide +kernel

theorem index8 : ∀ t : Fin grid0.N, win0_8.index t = ![(grid0.coords t 0).val, (grid0.coords t 1).val, 0, 0] := by decide +kernel

theorem index9 : ∀ t : Fin grid0.N, win0_9.index t = ![(grid0.coords t 0).val, (grid0.coords t 1).val, 0, 0] := by decide +kernel

theorem index10 : ∀ t : Fin grid0.N, win0_10.index t = ![(grid0.coords t 0).val, (grid0.coords t 1).val, 0, 0] := by decide +kernel

theorem index12 : ∀ t : Fin grid0.N, win0_12.index t = ![(grid0.coords t 0).val, 0, (grid0.coords t 1).val] := by decide +kernel

theorem index13 : ∀ t : Fin grid0.N, win0_13.index t = ![(grid0.coords t 0).val, (grid0.coords t 1).val, 0, 0] := by decide +kernel

theorem index2 : ∀ t : Fin grid0.N, win0_2.index t = ![(grid0.coords t 1).val, 0, 0] := by decide +kernel

theorem index4 : ∀ t : Fin grid0.N, win0_4.index t = ![(grid0.coords t 1).val, 0, 0] := by decide +kernel

theorem index6 : ∀ t : Fin grid0.N, win0_6.index t = ![(grid0.coords t 1).val, 0, 0] := by decide +kernel

theorem index0 : ∀ t : Fin grid0.N, win0_0.index t = ![0, 0] := by decide +kernel

theorem index11 : ∀ t : Fin grid0.N, win0_11.index t = ![0, 0] := by decide +kernel

/-! ## What the input blocks of a grid point hold -/

theorem iblk1 (c : Dev nD) (t : Fin cfg0.N) (y : S1x4x160x512.Idx) :
    iblk m c 1 t y = m ((c : Thread nD τ).loc main_arg0) (ValueIdx.ix4 (batch t) (y 3) (headOf t (y 1)) (y 2)) := by
  have y0 : (y 0).val = 0 := by have := (y 0).isLt; change _ < 1 at this; omega
  blk_simp [iblk, index1]
  entry_read
  have e : ((View.whole main_v3).slice (win0_1.rect t)).emb y = ValueIdx.ix4 (batch t) (headOf t (y 1)) (y 2) (y 3) := by
    blk_ext [index1]
  rw [e]
  exact transpose_0231 ..

theorem iblk3 (c : Dev nD) (t : Fin cfg0.N) (y : S1x4x160x512.Idx) :
    iblk m c 3 t y = m ((c : Thread nD τ).loc main_arg2) (ValueIdx.ix4 (batch t) (y 3) (headOf t (y 1)) (y 2)) := by
  have y0 : (y 0).val = 0 := by have := (y 0).isLt; change _ < 1 at this; omega
  blk_simp [iblk, index3]
  entry_read
  have e : ((View.whole main_v5).slice (win0_3.rect t)).emb y = ValueIdx.ix4 (batch t) (headOf t (y 1)) (y 2) (y 3) := by
    blk_ext [index3]
  rw [e]
  exact transpose_0231 ..

theorem iblk7 (c : Dev nD) (t : Fin cfg0.N) (y : S1x4x160x512.Idx) :
    iblk m c 7 t y = m ((c : Thread nD τ).loc main_arg6) (ValueIdx.ix4 (batch t) (y 3) (headOf t (y 1)) (y 2)) := by
  have y0 : (y 0).val = 0 := by have := (y 0).isLt; change _ < 1 at this; omega
  blk_simp [iblk, index7]
  entry_read
  have e : ((View.whole main_v9).slice (win0_7.rect t)).emb y = ValueIdx.ix4 (batch t) (headOf t (y 1)) (y 2) (y 3) := by
    blk_ext [index7]
  rw [e]
  exact transpose_0231 ..

theorem iblk8 (c : Dev nD) (t : Fin cfg0.N) (y : S1x4x160x512.Idx) :
    iblk m c 8 t y = m ((c : Thread nD τ).loc main_arg7) (ValueIdx.ix4 (batch t) (y 3) (headOf t (y 1)) (y 2)) := by
  have y0 : (y 0).val = 0 := by have := (y 0).isLt; change _ < 1 at this; omega
  blk_simp [iblk, index8]
  entry_read
  have e : ((View.whole main_v10).slice (win0_8.rect t)).emb y = ValueIdx.ix4 (batch t) (headOf t (y 1)) (y 2) (y 3) := by
    blk_ext [index8]
  rw [e]
  exact transpose_0231 ..

theorem iblk9 (c : Dev nD) (t : Fin cfg0.N) (y : S1x4x160x512.Idx) :
    iblk m c 9 t y = m ((c : Thread nD τ).loc main_arg8) (ValueIdx.ix4 (batch t) (y 3) (headOf t (y 1)) (y 2)) := by
  have y0 : (y 0).val = 0 := by have := (y 0).isLt; change _ < 1 at this; omega
  blk_simp [iblk, index9]
  entry_read
  have e : ((View.whole main_v11).slice (win0_9.rect t)).emb y = ValueIdx.ix4 (batch t) (headOf t (y 1)) (y 2) (y 3) := by
    blk_ext [index9]
  rw [e]
  exact transpose_0231 ..

theorem iblk2 (c : Dev nD) (t : Fin cfg0.N) (y : S4x4x512.Idx) :
    iblk m c 2 t y = m ((c : Thread nD τ).loc main_arg1) (ValueIdx.ix3 (y 1) (y 2) (headOf t (y 0))) := by
  blk_simp [iblk, index2]
  entry_read
  have e : ((View.whole main_v4).slice (win0_2.rect t)).emb y = ValueIdx.ix3 (headOf t (y 0)) (y 1) (y 2) := by
    blk_ext [index2]
  rw [e]
  exact transpose_201 ..

theorem iblk4 (c : Dev nD) (t : Fin cfg0.N) (y : S4x4x512.Idx) :
    iblk m c 4 t y = m ((c : Thread nD τ).loc main_arg3) (ValueIdx.ix3 (y 1) (y 2) (headOf t (y 0))) := by
  blk_simp [iblk, index4]
  entry_read
  have e : ((View.whole main_v6).slice (win0_4.rect t)).emb y = ValueIdx.ix3 (headOf t (y 0)) (y 1) (y 2) := by
    blk_ext [index4]
  rw [e]
  exact transpose_201 ..

theorem iblk6 (c : Dev nD) (t : Fin cfg0.N) (y : S4x4x512.Idx) :
    iblk m c 6 t y = m ((c : Thread nD τ).loc main_arg5) (ValueIdx.ix3 (y 1) (y 2) (headOf t (y 0))) := by
  blk_simp [iblk, index6]
  entry_read
  have e : ((View.whole main_v8).slice (win0_6.rect t)).emb y = ValueIdx.ix3 (headOf t (y 0)) (y 1) (y 2) := by
    blk_ext [index6]
  rw [e]
  exact transpose_201 ..

theorem iblk5 (c : Dev nD) (t : Fin cfg0.N) (y : S1x4x512x128.Idx) :
    iblk m c 5 t y = m ((c : Thread nD τ).loc main_arg4) (ValueIdx.ix4 (batch t) (y 2) (headOf t (y 1)) (y 3)) := by
  have y0 : (y 0).val = 0 := by have := (y 0).isLt; change _ < 1 at this; omega
  blk_simp [iblk, index5]
  entry_read
  have e : ((View.whole main_v7).slice (win0_5.rect t)).emb y = ValueIdx.ix4 (batch t) (headOf t (y 1)) (y 2) (y 3) := by
    blk_ext [index5]
  rw [e]
  exact transpose_0213 ..

theorem iblk10 (c : Dev nD) (t : Fin cfg0.N) (y : S1x4x160x128.Idx) :
    iblk m c 10 t y = m ((c : Thread nD τ).loc main_arg9) (ValueIdx.ix4 (batch t) (headOf t (y 1)) (y 3) (y 2)) := by
  have y0 : (y 0).val = 0 := by have := (y 0).isLt; change _ < 1 at this; omega
  blk_simp [iblk, index10]
  entry_read
  have e : ((View.whole main_v12).slice (win0_10.rect t)).emb y = ValueIdx.ix4 (batch t) (headOf t (y 1)) (y 2) (y 3) := by
    blk_ext [index10]
  rw [e]
  exact transpose_0132 ..

theorem iblk0 (c : Dev nD) (t : Fin cfg0.N) (y : S4x512.Idx) :
    iblk m c 0 t y = m ((c : Thread nD τ).loc main_arg10) (ValueIdx.ix2 (y 0) (y 1)) := by
  blk_simp [iblk, index0]
  entry_read
  have e : ((View.whole main_arg10).slice (win0_0.rect t)).emb y = ValueIdx.ix2 (y 0) (y 1) := by
    blk_ext [index0]
  rw [e]
  rfl

theorem iblk11 (c : Dev nD) (t : Fin cfg0.N) (y : S4x512.Idx) :
    iblk m c 11 t y = m ((c : Thread nD τ).loc main_arg10) (ValueIdx.ix2 (y 0) (y 1)) := by
  blk_simp [iblk, index11]
  entry_read
  have e : ((View.whole main_arg10).slice (win0_11.rect t)).emb y = ValueIdx.ix2 (y 0) (y 1) := by
    blk_ext [index11]
  rw [e]
  rfl

/-- The arguments the kernel is called with. -/
def args (c : Dev nD) : Args where
  r := m ((c : Thread nD τ).loc main_arg0)
  rs := m ((c : Thread nD τ).loc main_arg1)
  k := m ((c : Thread nD τ).loc main_arg2)
  ks := m ((c : Thread nD τ).loc main_arg3)
  v := m ((c : Thread nD τ).loc main_arg4)
  vs := m ((c : Thread nD τ).loc main_arg5)
  a := m ((c : Thread nD τ).loc main_arg6)
  b := m ((c : Thread nD τ).loc main_arg7)
  w := m ((c : Thread nD τ).loc main_arg8)
  h0 := m ((c : Thread nD τ).loc main_arg9)
  seg := m ((c : Thread nD τ).loc main_arg10)

/-- The blocks of a grid point hold the sequences of its batch and heads. -/
theorem reads {c : Dev nD} (g : (args m c).Good) (t : Fin cfg0.N) :
    Reads (grid0.coords t 0).val (fun h => (args m c).seq (grid0.coords t 0).val (4 * (grid0.coords t 1).val + h)) (args m c).segAt
      (fun h k s => at4 (args m c).r (grid0.coords t 0).val s (4 * (grid0.coords t 1).val + h) k) (fun h k s => at4 (args m c).k (grid0.coords t 0).val s (4 * (grid0.coords t 1).val + h) k)
      (fun h b s => at3 (args m c).rs b s (4 * (grid0.coords t 1).val + h)) (fun h b s => at3 (args m c).ks b s (4 * (grid0.coords t 1).val + h)) (fun h b s => at3 (args m c).vs b s (4 * (grid0.coords t 1).val + h))
      (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) where
  hb := coord0 t
  seg0 y := (iblk0 m c t y).trans ((args m c).segAt_eq (y 0) (y 1))
  seg y := (iblk11 m c t y).trans ((args m c).segAt_eq (y 0) (y 1))
  hr y := (iblk1 m c t y).trans (g.r.at4 (batch t) (y 3) (headOf t (y 1)) (y 2))
  hrs y := (iblk2 m c t y).trans (g.rs.at3 (y 1) (y 2) (headOf t (y 0)))
  hk y := (iblk3 m c t y).trans (g.k.at4 (batch t) (y 3) (headOf t (y 1)) (y 2))
  hks y := (iblk4 m c t y).trans (g.ks.at3 (y 1) (y 2) (headOf t (y 0)))
  hv y := (iblk5 m c t y).trans (g.v.at4 (batch t) (y 2) (headOf t (y 1)) (y 3))
  hvs y := (iblk6 m c t y).trans (g.vs.at3 (y 1) (y 2) (headOf t (y 0)))
  a y := (iblk7 m c t y).trans (g.a.at4 (batch t) (y 3) (headOf t (y 1)) (y 2))
  bb y := (iblk8 m c t y).trans (g.b.at4 (batch t) (y 3) (headOf t (y 1)) (y 2))
  w y := (iblk9 m c t y).trans (g.w.at4 (batch t) (y 3) (headOf t (y 1)) (y 2))
  s0 y := (iblk10 m c t y).trans (g.h0.at4 (batch t) (headOf t (y 1)) (y 3) (y 2))
  rr _ _ _ _ _ _ := rfl
  kk _ _ _ _ _ _ := rfl
  qseg _ _ _ := rfl
  mono _ _ _ := g.mono ..

end Cert.Model

end
-- ==== Proof.KernelFinal.lean ====
/- The kernel's two arrays after its run: the outputs of all tokens, and the states after the last one. -/
module

public import proofs.«01_k».proof.Proof.KernelArrays

@[expose] public section

set_option maxRecDepth 16384

noncomputable section

namespace Cert.Model

open Idealize.ShloMosaic Idealize.ShloMosaic.TcCoe Finset Cert.KernelIdeal Cert.KernelIdeal.Gen Cert.Alg Cert.KernelIdeal.Run

variable (m : (ℓ : Loc nD τ sig) → Buf (Elt Ideal) ℓ)

/-- The output block of a grid point, of the blocks it reads. -/
theorem after12 (c : Dev nD) (t : Fin cfg0.N) : (dats m 0 c).after 12 t = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  rw [after0_12]
  dsimp only [outsAt0]

/-- The state block of a grid point, of the blocks it reads. -/
theorem after13 (c : Dev nD) (t : Fin cfg0.N) : (dats m 0 c).after 13 t = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  rw [after0_13]
  dsimp only [outsAt0]

/-- The output block of a grid point. -/
theorem out_block {c : Dev nD} (g : (args m c).Good) (t : Fin cfg0.N) :
    (dats m 0 c).after 12 t = outG (fun h => (args m c).seq (grid0.coords t 0).val (4 * (grid0.coords t 1).val + h)) := by
  rw [after12]
  funext y
  exact out_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (reads m g t) rfl y

/-- The state block of a grid point. -/
theorem state_block {c : Dev nD} (g : (args m c).Good) (t : Fin cfg0.N) :
    (dats m 0 c).after 13 t = stateG (fun h => (args m c).seq (grid0.coords t 0).val (4 * (grid0.coords t 1).val + h)) := by
  rw [after13]
  funext y
  exact state_value c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) scM0_0 (Memref.isWhole_whole _) (reads m g t) rfl y

theorem col_lt (t : Fin cfg0.N) (y : S1x512x512.Idx) : 512 * (grid0.coords t 1).val + (y 2).val < 2560 := by
  have := coord1 t
  have := (y 2).isLt
  change _ < 512 at this
  omega

theorem outG_eq (A : Args) (t : Fin cfg0.N) (y : S1x512x512.Idx) :
    outG (fun h => A.seq (grid0.coords t 0).val (4 * (grid0.coords t 1).val + h)) y = A.outArr (ValueIdx.ix3 (batch t) (y 1) ⟨512 * (grid0.coords t 1).val + (y 2).val, col_lt t y⟩) := by
  show (((A.seq (grid0.coords t 0).val (4 * (grid0.coords t 1).val + (y 2).val / 128)).out (y 1) ((y 2).val % 128) : ℝ) : EReal)
    = (((A.seq (grid0.coords t 0).val ((512 * (grid0.coords t 1).val + (y 2).val) / 128)).out (y 1) ((512 * (grid0.coords t 1).val + (y 2).val) % 128) : ℝ) : EReal)
  rw [show (512 * (grid0.coords t 1).val + (y 2).val) / 128 = 4 * (grid0.coords t 1).val + (y 2).val / 128 by omega,
    show (512 * (grid0.coords t 1).val + (y 2).val) % 128 = (y 2).val % 128 by omega]

theorem emb12 (t : Fin cfg0.N) (y : S1x512x512.Idx) : ((View.whole main_v13_0).slice (win0_12.rect t)).emb y = ValueIdx.ix3 (batch t) (y 1) ⟨512 * (grid0.coords t 1).val + (y 2).val, col_lt t y⟩ := by
  have y0 : (y 0).val = 0 := by have := (y 0).isLt; change _ < 1 at this; omega
  blk_ext [index12]

/-- What a grid point writes back to the output array. -/
theorem out_flushed {c : Dev nD} (g : (args m c).Good) (t : Fin cfg0.N) (y : S1x512x512.Idx) :
    (dats m 0 c).after 12 t y = (args m c).outArr (((View.whole main_v13_0).slice (win0_12.rect t)).emb y) := by
  rw [out_block m g t]
  exact (outG_eq (args m c) t y).trans (congrArg (args m c).outArr (emb12 t y).symm)

theorem covers12 : Pipeline.Window.Covers win0_12 := by decide +kernel

/-- The output array. -/
theorem out_array {c : Dev nD} (g : (args m c).Good) : (dats m 0 c).arrAt 12 cfg0.N = (args m c).outArr :=
  (dats m 0 c).arrAt_eq_of_covers 12 _ covers12 fun t hf y => out_flushed m g t y

theorem emb13 (t : Fin cfg0.N) (y : S1x4x160x128.Idx) : ((View.whole main_v13_1).slice (win0_13.rect t)).emb y = ValueIdx.ix4 (batch t) (headOf t (y 1)) (y 2) (y 3) := by
  have y0 : (y 0).val = 0 := by have := (y 0).isLt; change _ < 1 at this; omega
  blk_ext [index13]

theorem stateG_eq (A : Args) (t : Fin cfg0.N) (y : S1x4x160x128.Idx) :
    stateG (fun h => A.seq (grid0.coords t 0).val (4 * (grid0.coords t 1).val + h)) y = A.stateArr (ValueIdx.ix4 (batch t) (headOf t (y 1)) (y 2) (y 3)) := by
  unfold stateG Args.stateArr
  rfl

/-- What a grid point writes back to the state array. -/
theorem state_flushed {c : Dev nD} (g : (args m c).Good) (t : Fin cfg0.N) (y : S1x4x160x128.Idx) :
    (dats m 0 c).after 13 t y = (args m c).stateArr (((View.whole main_v13_1).slice (win0_13.rect t)).emb y) := by
  rw [state_block m g t]
  exact (stateG_eq (args m c) t y).trans (congrArg (args m c).stateArr (emb13 t y).symm)

theorem covers13 : Pipeline.Window.Covers win0_13 := by decide +kernel

/-- The state array. -/
theorem state_array {c : Dev nD} (g : (args m c).Good) : (dats m 0 c).arrAt 13 cfg0.N = (args m c).stateArr :=
  (dats m 0 c).arrAt_eq_of_covers 13 _ covers13 fun t hf y => state_flushed m g t y

end Cert.Model

end
-- ==== Proof.RefTrip.lean ====
/- One trip of the reference's loop, entry by entry. -/
module

public import proofs.«01_k».proof.Proof.Gen.ReferenceIdeal.Run
public import proofs.«01_k».proof.Proof.Inputs
public import Idealize.ShloMosaic.Lib.Claim
public import Idealize.ShloMosaic.Lib.WordCmp
public import Idealize.ShloMosaic.Lib.ValueLayout
public import proofs.«01_k».proof.Proof.Mat
public import Idealize.ShloMosaic.Lib.Pipeline.ValueKit.Point

@[expose] public section

set_option maxRecDepth 16384

noncomputable section

namespace Cert.RefModel

open Cert.ReferenceIdeal.Value Cert.Model Idealize.ShloMosaic Idealize.ShloMosaic.TcCoe Idealize.ShloMosaic.StableHlo Finset Cert.ReferenceIdeal Cert.ReferenceIdeal.Gen Cert.Alg

/-! ## Where a trip reads -/

/-- Where a trip reads the arrays: at the counter. -/
abbrev start (V : Valuation τ sig (Elt Ideal)) : Fin 4 → Int := fun k => (((![V (Proc.devRef .tc main_v24_7), constantI S_ 32 0#32, constantI S_ 32 0#32, constantI S_ 32 0#32] : Fin 4 → (⟨S_, .i32⟩ : BufTy).Contents (Elt Ideal))) k (Shape.Idx.first h_S_)).toInt

/-- Where a trip reads the array of the segments. -/
abbrev start2 (V : Valuation τ sig (Elt Ideal)) : Fin 2 → Int := fun k => (((![V (Proc.devRef .tc main_v24_7), constantI S_ 32 0#32] : Fin 2 → (⟨S_, .i32⟩ : BufTy).Contents (Elt Ideal))) k (Shape.Idx.first h_S_)).toInt

theorem toInt_count {n : ℕ} (hn : n < 512) : (BitVec.ofNat 32 n).toInt = (n : ℤ) := by
  rw [BitVec.toInt_ofNat', Int.bmod_eq_of_le (by omega) (by omega)]

variable {V : Valuation τ sig (Elt Ideal)} {n : ℕ}

theorem start_eq (hV : V (Proc.devRef .tc main_v24_7) = fun _ => BitVec.ofNat 32 n) (hn : n < 512) : ∀ a, start V a = ((![n, 0, 0, 0] : Fin 4 → ℕ) a : ℤ)
  | ⟨0, _⟩ => by
    show (V (Proc.devRef .tc main_v24_7) (Shape.Idx.first h_S_)).toInt = (n : ℤ)
    rw [hV]
    exact toInt_count hn
  | ⟨1, _⟩ => rfl
  | ⟨2, _⟩ => rfl
  | ⟨3, _⟩ => rfl

theorem start2_eq (hV : V (Proc.devRef .tc main_v24_7) = fun _ => BitVec.ofNat 32 n) (hn : n < 512) : ∀ a, start2 V a = ((![n, 0] : Fin 2 → ℕ) a : ℤ)
  | ⟨0, _⟩ => by
    show (V (Proc.devRef .tc main_v24_7) (Shape.Idx.first h_S_)).toInt = (n : ℤ)
    rw [hV]
    exact toInt_count hn
  | ⟨1, _⟩ => rfl

theorem fits4 {w : ℕ} (hn : n < 512) : (⟨4, ![512, 4, 20, w]⟩ : Shape).Slices ![n, 0, 0, 0] ⟨4, ![1, 4, 20, w]⟩ :=
  ⟨rfl, fun | ⟨0, _⟩ => by show n + 1 ≤ 512; omega | ⟨1, _⟩ => by show 0 + 4 ≤ 4; omega | ⟨2, _⟩ => by show 0 + 20 ≤ 20; omega | ⟨3, _⟩ => by show 0 + w ≤ w; omega⟩

theorem fits2 (hn : n < 512) : S512x4.Slices ![n, 0] S1x4 :=
  ⟨rfl, fun | ⟨0, _⟩ => by show n + 1 ≤ 512; omega | ⟨1, _⟩ => by show 0 + 4 ≤ 4; omega⟩

/-- The slice of one token, read at a batch, a head and a key (or a value). -/
theorem row {α : Type} {w : ℕ} (hn : n < 512) (x : (⟨4, ![512, 4, 20, w]⟩ : Shape).Idx → α) (st : Fin 4 → Int) (hst : ∀ a, st a = ((![n, 0, 0, 0] : Fin 4 → ℕ) a : ℤ))
    (hf : (⟨4, ![512, 4, 20, w]⟩ : Shape).Slices (fun _ => 0) ⟨4, ![1, 4, 20, w]⟩) (hc : (⟨4, ![1, 4, 20, w]⟩ : Shape).ShapeCasts ⟨3, ![4, 20, w]⟩) (b : Fin 4) (h : Fin 20) (k : Fin w) :
    shapeCast ⟨3, ![4, 20, w]⟩ (Host.dynamicSlice ⟨4, ![1, 4, 20, w]⟩ x st hf) hc (ValueIdx.ix3 b h k) = x (ValueIdx.ix4 ⟨n, hn⟩ b h k) := by
  rw [WordCmp.dynamicSlice_eq_extract _ x st hf ![n, 0, 0, 0] (fits4 hn) hst, ValueIdx.shapeCast_1abc_abc_apply]
  unfold extractStridedSlice
  refine congrArg x (funext fun a => Fin.ext ?_)
  match a with
  | ⟨0, _⟩ => rfl
  | ⟨1, _⟩ => exact Nat.zero_add _
  | ⟨2, _⟩ => exact Nat.zero_add _
  | ⟨3, _⟩ => exact Nat.zero_add _

/-- The slice of one token of the segments. -/
theorem row2 {α : Type} (hn : n < 512) (x : S512x4.Idx → α) (st : Fin 2 → Int) (hst : ∀ a, st a = ((![n, 0] : Fin 2 → ℕ) a : ℤ))
    (hf : S512x4.Slices (fun _ => 0) S1x4) (hc : S1x4.ShapeCasts S4) (b : Fin 4) :
    shapeCast S4 (Host.dynamicSlice S1x4 x st hf) hc (ValueIdx.ix1 b) = x (ValueIdx.ix2 ⟨n, hn⟩ b) := by
  rw [WordCmp.dynamicSlice_eq_extract _ x st hf ![n, 0] (fits2 hn) hst]
  pointwise
  rfl

/-! ## What a trip makes of one token -/

/-- The state a token starts from. -/
def clearF (ys : IVec S4 1) (S : FVec Ideal S4x20x128x160 .f32) : FVec Ideal S4x20x128x160 .f32 :=
  select (broadcastInDim S4x20x128x160 ![0, 1, 2, 3] bcast_S4x1x1x1_S4x20x128x160_0_1_2_3 (broadcastInDim S4x1x1x1 ![0] bcast_S4_S4x1x1x1_0 ys)) S (broadcastInDim S4x20x128x160 ![] bcast_S_S4x20x128x160 (id (constant S_ .f32 0x00000000#32)))

/-- The state a token leaves. -/
def nextF (S : FVec Ideal S4x20x128x160 .f32) (yd ya yb : FVec Ideal S4x20x160 .f32) (yv : FVec Ideal S4x20x128 .f32) (yk : FVec Ideal S4x20x160 .f32) : FVec Ideal S4x20x128x160 .f32 :=
  addf (addf (mulf S (broadcastInDim S4x20x128x160 ![0, 1, 2, 3] bcast_S4x20x1x160_S4x20x128x160_0_1_2_3 (broadcastInDim S4x20x1x160 ![0, 1, 3] bcast_S4x20x160_S4x20x1x160_0_1_3 yd))) (mulf (broadcastInDim S4x20x128x160 ![0, 1, 2, 3] bcast_S4x20x128x1_S4x20x128x160_0_1_2_3 (broadcastInDim S4x20x128x1 ![0, 1, 2] bcast_S4x20x128_S4x20x128x1_0_1_2 (Host.reduceAdd (mulf S (broadcastInDim S4x20x128x160 ![0, 1, 2, 3] bcast_S4x20x1x160_S4x20x128x160_0_1_2_3 (broadcastInDim S4x20x1x160 ![0, 1, 3] bcast_S4x20x160_S4x20x1x160_0_1_3 ya))) (constant S_ .f32 0x00000000#32) reducesTo_S4x20x128x160_S4x20x128_d3 h_S_))) (broadcastInDim S4x20x128x160 ![0, 1, 2, 3] bcast_S4x20x1x160_S4x20x128x160_0_1_2_3 (broadcastInDim S4x20x1x160 ![0, 1, 3] bcast_S4x20x160_S4x20x1x160_0_1_3 yb)))) (mulf (broadcastInDim S4x20x128x160 ![0, 1, 2, 3] bcast_S4x20x128x1_S4x20x128x160_0_1_2_3 (broadcastInDim S4x20x128x1 ![0, 1, 2] bcast_S4x20x128_S4x20x128x1_0_1_2 yv)) (broadcastInDim S4x20x128x160 ![0, 1, 2, 3] bcast_S4x20x1x160_S4x20x128x160_0_1_2_3 (broadcastInDim S4x20x1x160 ![0, 1, 3] bcast_S4x20x160_S4x20x1x160_0_1_3 yk)))

/-- The output of a token. -/
def outF (S : FVec Ideal S4x20x128x160 .f32) (yr : FVec Ideal S4x20x160 .f32) : FVec Ideal S4x20x128 .f32 :=
  Host.reduceAdd (mulf S (broadcastInDim S4x20x128x160 ![0, 1, 2, 3] bcast_S4x20x1x160_S4x20x128x160_0_1_2_3 (broadcastInDim S4x20x1x160 ![0, 1, 3] bcast_S4x20x160_S4x20x1x160_0_1_3 yr))) (constant S_ .f32 0x00000000#32) reducesTo_S4x20x128x160_S4x20x128_d3 h_S_

theorem clearF_apply (ys : IVec S4 1) (S : FVec Ideal S4x20x128x160 .f32) (b : Fin 4) (h : Fin 20) (c : Fin 128) (k : Fin 160) :
    clearF ys S (ValueIdx.ix4 b h c k) = if ys (ValueIdx.ix1 b) = 1 then S (ValueIdx.ix4 b h c k) else (0 : EReal) := by
  unfold clearF
  pointwise
  show Scalar.select (ys (ValueIdx.ix1 b)) (S (ValueIdx.ix4 b h c k)) (Ideal.ofBits .f32 0x00000000#32) = _
  rw [Ideal.ofBits_zero_f32]
  rfl

theorem nextF_apply (S : FVec Ideal S4x20x128x160 .f32) (yd ya yb : FVec Ideal S4x20x160 .f32) (yv : FVec Ideal S4x20x128 .f32) (yk : FVec Ideal S4x20x160 .f32) (b : Fin 4) (h : Fin 20) (c : Fin 128) (k : Fin 160) :
    nextF S yd ya yb yv yk (ValueIdx.ix4 b h c k) = (S (ValueIdx.ix4 b h c k) * yd (ValueIdx.ix3 b h k) + (∑ x : Fin 160, S (ValueIdx.ix4 b h c x) * ya (ValueIdx.ix3 b h x)) * yb (ValueIdx.ix3 b h k)
      + yv (ValueIdx.ix3 b h c) * yk (ValueIdx.ix3 b h k) : EReal) := by
  unfold nextF
  pointwise
  rfl

theorem outF_apply (S : FVec Ideal S4x20x128x160 .f32) (yr : FVec Ideal S4x20x160 .f32) (b : Fin 4) (h : Fin 20) (c : Fin 128) :
    outF S yr (ValueIdx.ix3 b h c) = (∑ x : Fin 160, S (ValueIdx.ix4 b h c x) * yr (ValueIdx.ix3 b h x) : EReal) := by
  unfold outF
  pointwise
  rfl

/-- A token's output, written into the outputs. -/
theorem put_apply (hn : n < 512) (o : FVec Ideal S512x4x20x128 .f32) (y : FVec Ideal S4x20x128 .f32) (st : Fin 4 → Int) (hst : ∀ a, st a = ((![n, 0, 0, 0] : Fin 4 → ℕ) a : ℤ)) (t : Fin 512) (b : Fin 4) (h : Fin 20) (c : Fin 128) :
    Host.dynamicUpdateSlice o (broadcastInDim S1x4x20x128 ![1, 2, 3] bcast_S4x20x128_S1x4x20x128_1_2_3 y) st updateFits_S512x4x20x128_S1x4x20x128 (ValueIdx.ix4 t b h c)
      = if t.val = n then y (ValueIdx.ix3 b h c) else o (ValueIdx.ix4 t b h c) := by
  rw [WordCmp.dynamicUpdateSlice_eq_update _ _ st _ _ (fits4 hn) hst]
  pointwise
  show (if _ : n ≤ t.val ∧ t.val < n + 1 then y (ValueIdx.ix3 b h c) else o (ValueIdx.ix4 t b h c)) = _
  by_cases ht : t.val = n
  · rw [dif_pos (by omega), if_pos ht]
  · rw [dif_neg (by omega), if_neg ht]

theorem v37_eq (V : Valuation τ sig (Elt Ideal)) : res_main_while0b_v37 V = clearF (shapeCast S4 (Host.dynamicSlice S1x4 (V (Proc.devRef .tc main_v24_6)) (start2 V) sliceFits_S512x4_S1x4) shapeCasts_S1x4_S4) (V (Proc.devRef .tc main_v24_8)) := rfl

/-- The slice of one token. -/
abbrev tok (V : Valuation τ sig (Elt Ideal)) (x : FVec Ideal S512x4x20x160 .f32) : FVec Ideal S4x20x160 .f32 :=
  shapeCast S4x20x160 (Host.dynamicSlice S1x4x20x160 x (start V) sliceFits_S512x4x20x160_S1x4x20x160) shapeCasts_S1x4x20x160_S4x20x160

/-- The slice of one token of the values. -/
abbrev vtok (V : Valuation τ sig (Elt Ideal)) (x : FVec Ideal S512x4x20x128 .f32) : FVec Ideal S4x20x128 .f32 :=
  shapeCast S4x20x128 (Host.dynamicSlice S1x4x20x128 x (start V) sliceFits_S512x4x20x128_S1x4x20x128) shapeCasts_S1x4x20x128_S4x20x128

theorem v56_eq (V : Valuation τ sig (Elt Ideal)) : res_main_while0b_v56 V
    = nextF (res_main_while0b_v37 V) (tok V (V (Proc.devRef .tc main_v24_5))) (tok V (V (Proc.devRef .tc main_v24_3))) (tok V (V (Proc.devRef .tc main_v24_4))) (vtok V (V (Proc.devRef .tc main_v24_2))) (tok V (V (Proc.devRef .tc main_v24_1))) := rfl

theorem o_eq (V : Valuation τ sig (Elt Ideal)) : step_main_v24_9 V
    = Host.dynamicUpdateSlice (V (Proc.devRef .tc main_v24_9)) (broadcastInDim S1x4x20x128 ![1, 2, 3] bcast_S4x20x128_S1x4x20x128_1_2_3 (outF (res_main_while0b_v56 V) (tok V (V (Proc.devRef .tc main_v24_0))))) (start V) updateFits_S512x4x20x128_S1x4x20x128 := by
  unfold step_main_v24_9
  sl_kernel_rfl

theorem rout (V : Valuation τ sig (Elt Ideal)) (t : Fin 512) (b : Fin 4) (h : Fin 2560) :
    out_main_v27 V (ValueIdx.ix3 b t h) = V (Proc.devRef .tc main_v24_9) (ValueIdx.ix4 t b ⟨h.val / 128, by omega⟩ ⟨h.val % 128, Nat.mod_lt _ (by norm_num)⟩) := by
  unfold out_main_v27
  pointwise
  rfl
end Cert.RefModel

end
-- ==== Proof.RefEntry.lean ====
/- What the reference's loop starts from, as real numbers. -/
module

public import proofs.«01_k».proof.Proof.RefTrip

@[expose] public section

set_option maxRecDepth 16384

noncomputable section

namespace Cert.RefModel

open Cert.ReferenceIdeal.Value Cert.Model Idealize.ShloMosaic Idealize.ShloMosaic.TcCoe Idealize.ShloMosaic.StableHlo Finset Cert.ReferenceIdeal Cert.ReferenceIdeal.Gen Cert.Alg

variable (m : (ℓ : Loc nD τ sig) → Buf (Elt Ideal) ℓ)

/-- The arguments the reference is called with. -/
def args (c : Dev nD) : Args where
  r := m ((c : Thread nD τ).loc main_arg0)
  rs := m ((c : Thread nD τ).loc main_arg1)
  k := m ((c : Thread nD τ).loc main_arg2)
  ks := m ((c : Thread nD τ).loc main_arg3)
  v := m ((c : Thread nD τ).loc main_arg4)
  vs := m ((c : Thread nD τ).loc main_arg5)
  a := m ((c : Thread nD τ).loc main_arg6)
  b := m ((c : Thread nD τ).loc main_arg7)
  w := m ((c : Thread nD τ).loc main_arg8)
  h0 := m ((c : Thread nD τ).loc main_arg9)
  seg := m ((c : Thread nD τ).loc main_arg10)

/-- What the loop's arrays hold before trip `n`: the sequences, the states before token `n`, and the outputs of
    the tokens before it. -/
structure Inv (A : Args) (n : ℕ) (V : Valuation τ sig (Elt Ideal)) : Prop where
  r : ∀ (t : Fin 512) (b : Fin 4) (h : Fin 20) (k : Fin 160), V (Proc.devRef .tc main_v24_0) (ValueIdx.ix4 t b h k) = ((at4 A.r b t h k * at3 A.rs b t h : ℝ) : EReal)
  k : ∀ (t : Fin 512) (b : Fin 4) (h : Fin 20) (k : Fin 160), V (Proc.devRef .tc main_v24_1) (ValueIdx.ix4 t b h k) = ((at4 A.k b t h k * at3 A.ks b t h : ℝ) : EReal)
  v : ∀ (t : Fin 512) (b : Fin 4) (h : Fin 20) (c : Fin 128), V (Proc.devRef .tc main_v24_2) (ValueIdx.ix4 t b h c) = ((at4 A.v b t h c * at3 A.vs b t h : ℝ) : EReal)
  a : ∀ (t : Fin 512) (b : Fin 4) (h : Fin 20) (k : Fin 160), V (Proc.devRef .tc main_v24_3) (ValueIdx.ix4 t b h k) = ((at4 A.a b t h k : ℝ) : EReal)
  b : ∀ (t : Fin 512) (b : Fin 4) (h : Fin 20) (k : Fin 160), V (Proc.devRef .tc main_v24_4) (ValueIdx.ix4 t b h k) = ((at4 A.b b t h k : ℝ) : EReal)
  d : ∀ (t : Fin 512) (b : Fin 4) (h : Fin 20) (k : Fin 160), V (Proc.devRef .tc main_v24_5) (ValueIdx.ix4 t b h k) = ((Real.exp (at4 A.w b t h k) : ℝ) : EReal)
  same : ∀ (t : Fin 512) (b : Fin 4), (V (Proc.devRef .tc main_v24_6) (ValueIdx.ix2 t b) : BitVec 1) = 1#1 ↔ A.segAt b t = A.segAt b (t.val - 1)
  ctr : V (Proc.devRef .tc main_v24_7) = fun _ => BitVec.ofNat 32 n
  st : ∀ (b : Fin 4) (h : Fin 20) (c : Fin 128) (k : Fin 160), V (Proc.devRef .tc main_v24_8) (ValueIdx.ix4 b h c k) = (((A.seq b h).state n k c : ℝ) : EReal)
  out : ∀ (t : Fin 512) (b : Fin 4) (h : Fin 20) (c : Fin 128), t.val < n → V (Proc.devRef .tc main_v24_9) (ValueIdx.ix4 t b h c) = (((A.seq b h).out t c : ℝ) : EReal)

theorem entry0 (c : Dev nD) (t : Fin 512) (b : Fin 4) (h : Fin 20) (k : Fin 160) :
    entryContents preI m c (Proc.devRef .tc main_v24_0) (ValueIdx.ix4 t b h k) = ((args m c).r (ValueIdx.ix4 b t h k) * (args m c).rs (ValueIdx.ix3 b t h) : EReal) := by
  simp only [entryContents, afterL_cons, afterL_nil]
  after_reads_simp
  rw [id_eq]
  pointwise
  rfl

theorem entry1 (c : Dev nD) (t : Fin 512) (b : Fin 4) (h : Fin 20) (k : Fin 160) :
    entryContents preI m c (Proc.devRef .tc main_v24_1) (ValueIdx.ix4 t b h k) = ((args m c).k (ValueIdx.ix4 b t h k) * (args m c).ks (ValueIdx.ix3 b t h) : EReal) := by
  simp only [entryContents, afterL_cons, afterL_nil]
  after_reads_simp
  rw [id_eq]
  pointwise
  rfl

theorem entry2 (c : Dev nD) (t : Fin 512) (b : Fin 4) (h : Fin 20) (k : Fin 128) :
    entryContents preI m c (Proc.devRef .tc main_v24_2) (ValueIdx.ix4 t b h k) = ((args m c).v (ValueIdx.ix4 b t h k) * (args m c).vs (ValueIdx.ix3 b t h) : EReal) := by
  simp only [entryContents, afterL_cons, afterL_nil]
  after_reads_simp
  rw [id_eq]
  pointwise
  rfl

theorem entry3 (c : Dev nD) (t : Fin 512) (b : Fin 4) (h : Fin 20) (k : Fin 160) :
    entryContents preI m c (Proc.devRef .tc main_v24_3) (ValueIdx.ix4 t b h k) = (args m c).a (ValueIdx.ix4 b t h k) := by
  simp only [entryContents, afterL_cons, afterL_nil]
  after_reads_simp
  rw [id_eq]
  pointwise
  rfl

theorem entry4 (c : Dev nD) (t : Fin 512) (b : Fin 4) (h : Fin 20) (k : Fin 160) :
    entryContents preI m c (Proc.devRef .tc main_v24_4) (ValueIdx.ix4 t b h k) = (args m c).b (ValueIdx.ix4 b t h k) := by
  simp only [entryContents, afterL_cons, afterL_nil]
  after_reads_simp
  rw [id_eq]
  pointwise
  rfl

theorem entry5 (c : Dev nD) (t : Fin 512) (b : Fin 4) (h : Fin 20) (k : Fin 160) :
    entryContents preI m c (Proc.devRef .tc main_v24_5) (ValueIdx.ix4 t b h k) = Ideal.exp ((args m c).w (ValueIdx.ix4 b t h k)) := by
  simp only [entryContents, afterL_cons, afterL_nil]
  after_reads_simp
  rw [id_eq]
  pointwise
  rfl

theorem prev0 (c : Dev nD) : upto hostOps0 (launchContents m c) 12 (Proc.devRef .tc main_v10) = extractStridedSlice S4x1 ![0, 0] (args m c).seg slices_S4x512_S4x1_0_0 := by
  unfold upto
  after_reads_simp
  rfl

theorem prev1 (c : Dev nD) : upto hostOps0 (launchContents m c) 12 (Proc.devRef .tc main_v11) = extractStridedSlice S4x511 ![0, 0] (args m c).seg slices_S4x512_S4x511_0_0 := by
  unfold upto
  after_reads_simp
  rfl

theorem entry6 (c : Dev nD) (t : Fin 512) (b : Fin 4) : (entryContents preI m c (Proc.devRef .tc main_v24_6) (ValueIdx.ix2 t b) : BitVec 1) = 1#1 ↔ (args m c).segAt b t = (args m c).segAt b (t.val - 1) := by
  simp only [entryContents, afterL_cons, afterL_nil]
  after_reads_simp
  rw [id_eq, prev0, prev1]
  pointwise
  refine Iff.trans (bit_eq _ _) ?_
  rw [← (args m c).segAt_eq b t]
  by_cases ht : t.val < 1
  · refine iff_of_true ?_ ?_
    · show (args m c).seg (ValueIdx.ix2 b t) = if h : t.val < 1 then (args m c).seg (ValueIdx.ix2 b t) else (args m c).seg (ValueIdx.ix2 b ⟨t.val - 1, by omega⟩)
      rw [dif_pos ht]
    · rw [show t.val - 1 = t.val by omega]
      exact (args m c).segAt_eq b t
  · rw [← (args m c).segAt_eq b ⟨t.val - 1, by omega⟩]
    exact Eq.congr_right (dif_neg ht)

theorem entry8 (c : Dev nD) (b : Fin 4) (h : Fin 20) (k : Fin 128) (l : Fin 160) :
    entryContents preI m c (Proc.devRef .tc main_v24_8) (ValueIdx.ix4 b h k l) = (args m c).h0 (ValueIdx.ix4 b h k l) := by
  simp only [entryContents, afterL_cons, afterL_nil]
  after_reads_simp
  rfl

/-- The loop starts as the invariant says. -/
theorem entry {c : Dev nD} (g : (args m c).Good) : Inv (args m c) 0 (entryContents preI m c) where
  r t b h k := (entry0 m c t b h k).trans (by rw [g.r.at4, g.rs.at3, ← EReal.coe_mul])
  k t b h k := (entry1 m c t b h k).trans (by rw [g.k.at4, g.ks.at3, ← EReal.coe_mul])
  v t b h k := (entry2 m c t b h k).trans (by rw [g.v.at4, g.vs.at3, ← EReal.coe_mul])
  a t b h k := (entry3 m c t b h k).trans (g.a.at4 ..)
  b t b h k := (entry4 m c t b h k).trans (g.b.at4 ..)
  d t b h k := (entry5 m c t b h k).trans (by rw [g.w.at4]; rfl)
  same := entry6 m c
  ctr := ctr_entry m c
  st b h k l := (entry8 m c b h k l).trans (g.h0.at4 ..)
  out _ _ _ _ h := absurd h (Nat.not_lt_zero _)

end Cert.RefModel

end
-- ==== Proof.RefLoop.lean ====
/- The reference's loop keeps its invariant; what its two results are. -/
module

public import proofs.«01_k».proof.Proof.RefEntry

@[expose] public section

set_option maxRecDepth 16384

noncomputable section

namespace Cert.RefModel

open Cert.ReferenceIdeal.Value Cert.Model Idealize.ShloMosaic Idealize.ShloMosaic.TcCoe Idealize.ShloMosaic.StableHlo Finset Cert.ReferenceIdeal Cert.ReferenceIdeal.Gen Cert.Alg

variable {A : Args} {n : ℕ} {V : Valuation τ sig (Elt Ideal)}

theorem sum_coe (f : ℕ → ℝ) : ∑ x : Fin 160, ((f x : ℝ) : EReal) = ((∑ k ∈ range 160, f k : ℝ) : EReal) := by
  rw [← coe_sum, Fin.sum_univ_eq_sum_range]

theorem same_iff (A : Args) (b h t : ℕ) : (A.seq b h).same t ↔ A.segAt b t = A.segAt b (t - 1) := BitVec.toInt_inj

/-- The state a token starts from. -/
theorem Inv.clear (I : Inv A n V) (hn : n < 512) (b : Fin 4) (h : Fin 20) (c : Fin 128) (k : Fin 160) :
    res_main_while0b_v37 V (ValueIdx.ix4 b h c k) = (((A.seq b h).clear n ((A.seq b h).state n) k c : ℝ) : EReal) := by
  rw [v37_eq]
  refine (clearF_apply _ _ b h c k).trans ?_
  rw [row2 hn _ _ (start2_eq I.ctr hn)]
  unfold Seq.clear
  by_cases hs : (A.seq b h).same n
  · rw [if_pos hs]
    exact (if_pos ((I.same ⟨n, hn⟩ b).2 ((same_iff A b h n).1 hs))).trans (I.st b h c k)
  · rw [if_neg hs]
    exact (if_neg fun e => hs ((same_iff A b h n).2 ((I.same ⟨n, hn⟩ b).1 e))).trans EReal.coe_zero.symm

/-- The state a token leaves. -/
theorem Inv.next (I : Inv A n V) (hn : n < 512) (b : Fin 4) (h : Fin 20) (c : Fin 128) (k : Fin 160) :
    res_main_while0b_v56 V (ValueIdx.ix4 b h c k) = (((A.seq b h).state (n + 1) k c : ℝ) : EReal) := by
  rw [v56_eq]
  refine (nextF_apply _ _ _ _ _ _ b h c k).trans ?_
  have hst := start_eq I.ctr hn
  have ha (x : Fin 160) := congrArg₂ (fun p q : EReal => p * q) (I.clear hn b h c x) ((row hn _ _ hst sliceFits_S512x4x20x160_S1x4x20x160 shapeCasts_S1x4x20x160_S4x20x160 b h x).trans (I.a ⟨n, hn⟩ b h x))
  have hs := Eq.trans (Finset.sum_congr (s₁ := Finset.univ) rfl fun x _ => (ha x).trans (EReal.coe_mul _ _).symm) (sum_coe fun k => (A.seq b h).clear n ((A.seq b h).state n) k c * (A.seq b h).a k n)
  refine (congrArg₂ (fun p q : EReal => p + q) (congrArg₂ (fun p q : EReal => p + q)
    (congrArg₂ (fun p q : EReal => p * q) (I.clear hn b h c k) ((row hn _ _ hst _ _ b h k).trans (I.d ⟨n, hn⟩ b h k)))
    (congrArg₂ (fun p q : EReal => p * q) hs ((row hn _ _ hst _ _ b h k).trans (I.b ⟨n, hn⟩ b h k))))
    (congrArg₂ (fun p q : EReal => p * q) ((row hn _ _ hst _ _ b h c).trans (I.v ⟨n, hn⟩ b h c)) ((row hn _ _ hst _ _ b h k).trans (I.k ⟨n, hn⟩ b h k)))).trans ?_
  beta_reduce
  rw [← EReal.coe_mul, ← EReal.coe_mul, ← EReal.coe_mul, ← EReal.coe_add, ← EReal.coe_add]
  refine congrArg Real.toEReal ?_
  show _ = (A.seq b h).clear n ((A.seq b h).state n) k c * Real.exp (at4 A.w b n h k) + (A.seq b h).remove n ((A.seq b h).state n) c * at4 A.b b n h k
    + at4 A.v b n h c * (at4 A.k b n h k * (at3 A.ks b n h * at3 A.vs b n h))
  unfold Seq.remove
  ring

/-- The output of a token. -/
theorem Inv.put (I : Inv A n V) (hn : n < 512) (b : Fin 4) (h : Fin 20) (c : Fin 128) :
    outF (res_main_while0b_v56 V) (tok V (V (Proc.devRef .tc main_v24_0))) (ValueIdx.ix3 b h c) = (((A.seq b h).out n c : ℝ) : EReal) := by
  refine (outF_apply _ _ b h c).trans ?_
  refine Eq.trans (Finset.sum_congr rfl fun x _ => ?_) (sum_coe fun k => (A.seq b h).state (n + 1) k c * (A.seq b h).r k n)
  refine (congrArg₂ (fun p q : EReal => p * q) (I.next hn b h c x) ((row hn _ _ (start_eq I.ctr hn) _ _ b h x).trans (I.r ⟨n, hn⟩ b h x))).trans ?_
  exact (EReal.coe_mul _ _).symm

theorem count_succ (n : ℕ) : BitVec.ofNat 32 n + 1#32 = BitVec.ofNat 32 (n + 1) := (BitVec.ofNat_add n 1).symm

/-- One trip keeps the invariant. -/
theorem Inv.step (I : Inv A n V) (hn : n < 512) : Inv A (n + 1) (STEP V) where
  r t b h k := (congrFun (STEP_main_v24_0 V) _).trans (I.r t b h k)
  k t b h k := (congrFun (STEP_main_v24_1 V) _).trans (I.k t b h k)
  v t b h k := (congrFun (STEP_main_v24_2 V) _).trans (I.v t b h k)
  a t b h k := (congrFun (STEP_main_v24_3 V) _).trans (I.a t b h k)
  b t b h k := (congrFun (STEP_main_v24_4 V) _).trans (I.b t b h k)
  d t b h k := (congrFun (STEP_main_v24_5 V) _).trans (I.d t b h k)
  same t b := by
    rw [STEP_main_v24_6]
    exact I.same t b
  ctr := by
    rw [STEP_main_v24_7]
    unfold step_main_v24_7
    rw [I.ctr]
    exact funext fun _ => count_succ n
  st b h c k := (congrFun (STEP_main_v24_8 V) _).trans (I.next hn b h c k)
  out t b h c ht := by
    rw [STEP_main_v24_9, o_eq]
    refine (put_apply hn _ _ _ (start_eq I.ctr hn) t b h c).trans ?_
    by_cases e : t.val = n
    · rw [if_pos e, e]
      exact I.put hn b h c
    · rw [if_neg e]
      exact I.out t b h c (by omega)

variable (m : (ℓ : Loc nD τ sig) → Buf (Elt Ideal) ℓ)

/-- The invariant before every trip. -/
theorem inv {c : Dev nD} (g : (args m c).Good) : ∀ n ≤ 512, Inv (args m c) n (STEP^[n] (entryContents preI m c))
  | 0, _ => entry m g
  | n + 1, hn => by
    rw [Function.iterate_succ_apply']
    exact (inv g n (by omega)).step (by omega)

/-- The reference's first result: the output of every token. -/
theorem out_result {c : Dev nD} (g : (args m c).Good) : out_main_v27 (STEP^[512] (entryContents preI m c)) = (args m c).outArr := by
  funext i
  obtain ⟨b, t, h, rfl⟩ : ∃ (b : Fin 4) (t : Fin 512) (h : Fin 2560), i = ValueIdx.ix3 b t h := ⟨i 0, i 1, i 2, ValueIdx.eq_ix3 i⟩
  exact (rout _ t b h).trans ((inv m g 512 le_rfl).out t b _ _ t.isLt)

/-- The reference's second result: the state of every head after the last token. -/
theorem state_result {c : Dev nD} (g : (args m c).Good) : out_main_v28 (STEP^[512] (entryContents preI m c)) = (args m c).stateArr := by
  funext i
  obtain ⟨b, h, k, l, rfl⟩ : ∃ (b : Fin 4) (h : Fin 20) (k : Fin 160) (l : Fin 128), i = ValueIdx.ix4 b h k l := ⟨i 0, i 1, i 2, i 3, ValueIdx.eq_ix4 i⟩
  refine Eq.trans ?_ ((inv m g 512 le_rfl).st b h l k)
  unfold out_main_v28
  pointwise
  rfl

end Cert.RefModel

end
-- ==== Proof.PreGood.lean ====
/- What the stated precondition says of the arguments: every entry is a real number and the segments are sorted. -/
module

public import proofs.«01_k».proof.Defs
public import proofs.«01_k».proof.Proof.KernelArrays
public import proofs.«01_k».proof.Proof.Gen.Pre_finite_and_sorted
public import Idealize.ShloMosaic.Lib.ReduceAll
public import Idealize.ShloMosaic.Lib.Affine
public import Idealize.ShloMosaic.Lib.TotalOrder
public import Idealize.ShloMosaic.Lib.Claim

@[expose] public section

set_option maxRecDepth 16384

noncomputable section

namespace Cert.Model

open Idealize.ShloMosaic Idealize.ShloMosaic.TcCoe

/-- A number whose absolute value is below a bound is a real number. -/
theorem real_of_abs_lt (x T : EReal) (h : Ideal.cmp .olt (max x (-x)) T = 1#1) : ∃ y : ℝ, x = (y : EReal) := by
  have h' : decide (max x (-x) < T) = true := by
    cases e : decide (max x (-x) < T) with
    | true => rfl
    | false => exact absurd ((congrArg BitVec.ofBool e).symm.trans h) (by decide)
  have h1 : max x (-x) < T := of_decide_eq_true h'
  have h2 : max x (-x) ≠ ⊤ := ne_top_of_lt h1
  induction x with
  | bot => exact absurd (by simp) h2
  | top => exact absurd (by simp) h2
  | coe y => exact ⟨y, rfl⟩

instance : Subsingleton (Cert.Pre_finite_and_sorted.S_ : Shape).Idx := ⟨fun a b => funext fun i => i.elim0⟩

/-- A conjunction over all entries of `|x| < bound` makes every entry real. -/
theorem finite_of_all {s u t : Shape} {axes : List (Fin s.rank)} {φ : FTy} [Subsingleton t.Idx] (x T : FVec Ideal s φ) (init : u.Idx → BitVec 1) (h : s.ReducesTo axes t)
    (hu : 0 < u.numel) (j : t.Idx) (e : Host.reduce IntOp.andi (cmpf .olt (Host.absf x) T) init h hu j = 1#1) :
    Fin' (fun i => (x i : EReal)) :=
  fun i => real_of_abs_lt (x i) (T i) (Host.reduce_andi_all _ init h hu j e i)

variable (m : (ℓ : Loc Cert.KernelIdeal.nD Cert.KernelIdeal.τ Cert.KernelIdeal.sig) → Buf (Elt Ideal) ℓ)

/-- The precondition makes the arguments finite and their segments sorted. -/
theorem good_of_pre (h : Cert.Pre_KernelIdeal_finite_and_sorted (hPre_finite_and_sorted := Cert.Pre_finite_and_sorted.Gen.facts) m) (c : Dev Cert.KernelIdeal.nD) : (args m c).Good := by
  have e := congrFun (h c) (fun i => i.elim0)
  dsimp only [Cert.Pre_finite_and_sorted.fn, Cert.Pre_finite_and_sorted.fn_part1, Cert.Pre_finite_and_sorted.fn_part2, Cert.Pre_finite_and_sorted.fn_part3] at e
  obtain ⟨e, s⟩ := IntOp.andi_eq_one.1 e
  obtain ⟨e, e9⟩ := IntOp.andi_eq_one.1 e
  obtain ⟨e, e8⟩ := IntOp.andi_eq_one.1 e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  refine ⟨finite_of_all _ _ _ _ _ _ e0, finite_of_all _ _ _ _ _ _ e1, finite_of_all _ _ _ _ _ _ e2,
    finite_of_all _ _ _ _ _ _ e3, finite_of_all _ _ _ _ _ _ e4, finite_of_all _ _ _ _ _ _ e5,
    finite_of_all _ _ _ _ _ _ e6, finite_of_all _ _ _ _ _ _ e7, finite_of_all _ _ _ _ _ _ e8,
    finite_of_all _ _ _ _ _ _ e9, fun b t ht => ?_⟩
  have q := IntOp.cmpi_sle.1 (Host.reduce_andi_all _ _ _ _ _ s (ValueIdx.ix2 b (⟨t, by omega⟩ : Fin 511)))
  refine Eq.mp (congrArg₂ (fun x y : BitVec 32 => x.toInt ≤ y.toInt) ?_ ?_) q
  · refine congrArg (m (c.tc.loc Cert.KernelIdeal.main_arg10)) ?_
    funext a; refine Fin.ext ?_
    match a with
    | ⟨0, _⟩ => exact Nat.zero_add _
    | ⟨1, _⟩ => exact Nat.zero_add _
  · refine congrArg (m (c.tc.loc Cert.KernelIdeal.main_arg10)) ?_
    funext a; refine Fin.ext ?_
    match a with
    | ⟨0, _⟩ => exact Nat.zero_add _
    | ⟨1, _⟩ => exact Nat.add_comm _ _

end Cert.Model

end
-- ==== Proof.Algebraic.lean ====
/- The kernel and the reference leave the same arrays: from memories that agree on the arguments and meet the
   precondition, both runs end with the outputs and the final states of the recurrence. -/
module

public import proofs.«01_k».proof.Defs
public import proofs.«01_k».proof.Proof.KernelFinal
public import proofs.«01_k».proof.Proof.RefLoop
public import proofs.«01_k».proof.Proof.PreGood

@[expose] public section

set_option maxRecDepth 16384

noncomputable section

namespace Cert.Proof

open Idealize.ShloMosaic Idealize.SL.Sem

/-- Memories that agree on the eleven arguments give the two programs the same arguments. -/
theorem args_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (r : (Cert.RefModel.args m' c).r = (Cert.Model.args m c).r) (rs : (Cert.RefModel.args m' c).rs = (Cert.Model.args m c).rs)
    (k : (Cert.RefModel.args m' c).k = (Cert.Model.args m c).k) (ks : (Cert.RefModel.args m' c).ks = (Cert.Model.args m c).ks)
    (v : (Cert.RefModel.args m' c).v = (Cert.Model.args m c).v) (vs : (Cert.RefModel.args m' c).vs = (Cert.Model.args m c).vs)
    (a : (Cert.RefModel.args m' c).a = (Cert.Model.args m c).a) (b : (Cert.RefModel.args m' c).b = (Cert.Model.args m c).b)
    (w : (Cert.RefModel.args m' c).w = (Cert.Model.args m c).w) (h0 : (Cert.RefModel.args m' c).h0 = (Cert.Model.args m c).h0)
    (seg : (Cert.RefModel.args m' c).seg = (Cert.Model.args m c).seg) : Cert.RefModel.args m' c = Cert.Model.args m c := by
  generalize Cert.RefModel.args m' c = A at *
  generalize Cert.Model.args m c = B at *
  cases A
  cases B
  cases r
  cases rs
  cases k
  cases ks
  cases v
  cases vs
  cases a
  cases b
  cases w
  cases h0
  cases seg
  rfl

/-- Both programs' results are the outputs and the final states of the recurrence. -/
theorem algebraic : Cert.algebraic_KernelIdeal_ReferenceIdeal_pre_finite_and_sorted (hKernelIdeal := Cert.KernelIdeal.Gen.facts)
    (hReferenceIdeal := Cert.ReferenceIdeal.Gen.facts) (hPre_finite_and_sorted := Cert.Pre_finite_and_sorted.Gen.facts) := by
  intro m g m' g' hpre hagree
  have good := Cert.Model.good_of_pre m hpre
  have same (c : Dev Cert.KernelIdeal.nD) : Cert.RefModel.args m' c = Cert.Model.args m c := by
    obtain ⟨h0, h1, h2, h3, h4, h5, h6, h7, h8, h9, h10⟩ := hagree c
    exact args_eq m m' c h0 h1 h2 h3 h4 h5 h6 h7 h8 h9 h10
  refine ⟨fun c => (Cert.Model.args m c).outArr, fun c => (Cert.Model.args m c).stateArr, ?_, ?_⟩
  · refine (θ_run Cert.KernelIdeal.defs _ _).mono (fun r h c => ?_) (Cert.KernelIdeal.Blocks.run_blocks m g)
    obtain ⟨e0, e1, e⟩ := h c
    exact ⟨e0.trans (Cert.Model.out_array m (good c)), e1.trans (Cert.Model.state_array m (good c)), e⟩
  · refine (θ_run Cert.ReferenceIdeal.defs _ _).mono (fun r h c => ?_) (Cert.ReferenceIdeal.Value.run m' g')
    obtain ⟨e0, e1, e⟩ := h c
    have gd : (Cert.RefModel.args m' c).Good := (same c).symm ▸ good c
    exact ⟨e0.trans ((Cert.RefModel.out_result m' gd).trans (congrArg Cert.Model.Args.outArr (same c))),
      e1.trans ((Cert.RefModel.state_result m' gd).trans (congrArg Cert.Model.Args.stateArr (same c))), e⟩

/-- The reference leaves its arguments as they were. -/
theorem frame_reference (m : (ℓ : Loc Cert.ReferenceIdeal.nD Cert.ReferenceIdeal.τ Cert.ReferenceIdeal.sig) → Buf (Elt Ideal) ℓ)
    (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩
      (fun r => (∀ c : Dev Cert.ReferenceIdeal.nD,
        r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
        ∧ r.2.sem = fun _ => 0) :=
  (θ_run Cert.ReferenceIdeal.defs _ _).mono (fun r h => ⟨fun c => (h c).2.2, sem_eq_zero_of_no_sems (by decide) r.2⟩)
    (Cert.ReferenceIdeal.Value.run m ρ)

end Cert.Proof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.KernelFrame
public import proofs.«01_k».proof.Proof.Algebraic
public import proofs.«01_k».proof.Proof.Gen.ReferenceIdeal.Run
public import proofs.«01_k».proof.Proof.Gen.ReferenceIdeal
public import proofs.«01_k».proof.Proof.Gen.Pre_finite_and_sorted
public import Idealize.ShloMosaic.Adequacy
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, Cert.Pre_finite_and_sorted.Gen.facts, by
  exact ⟨frame_kernel, fun m ρ _ => Cert.KernelIdeal.Run.frame m ρ, fun m ρ _ => Cert.KernelIdeal.Run.frame m ρ,
    fun m ρ _ => frame_reference m ρ, fun m ρ _ => frame_reference m ρ, trivial, algebraic⟩⟩

end Cert.Proof

end
